-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "dead" .f32 0xC3160000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "q_scale" .f32 0x3E38AA3B#32 (((Real.log 2)⁻¹ * (1 / 8) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v80) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_v84) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x4096x1024 : Shape := ⟨3, ![8, 4096, 1024]⟩
abbrev S256x256 : Shape := ⟨2, ![256, 256]⟩
abbrev S_ : Shape := ⟨0, ![]⟩
abbrev S1x4096x512 : Shape := ⟨3, ![1, 4096, 512]⟩
abbrev S8x128x128 : Shape := ⟨3, ![8, 128, 128]⟩
abbrev S5x8x128x128 : Shape := ⟨4, ![5, 8, 128, 128]⟩
abbrev S5x768x512 : Shape := ⟨3, ![5, 768, 512]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x1x128x128 : Shape := ⟨4, ![1, 1, 128, 128]⟩
abbrev S1x256x256 : Shape := ⟨3, ![1, 256, 256]⟩
abbrev S1x256x128 : Shape := ⟨3, ![1, 256, 128]⟩
abbrev S256x128 : Shape := ⟨2, ![256, 128]⟩
abbrev S128x256 : Shape := ⟨2, ![128, 256]⟩
abbrev S1x384x128 : Shape := ⟨3, ![1, 384, 128]⟩
abbrev S384x128 : Shape := ⟨2, ![384, 128]⟩
abbrev S128x384 : Shape := ⟨2, ![128, 384]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 51
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S_, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i1⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i1⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i1⟩
  | .hbm, ⟨37, _⟩ => ⟨S256x256, .i1⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S256x256, .i1⟩
  | .hbm, ⟨44, _⟩ => ⟨S_, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S256x256, .bf16⟩
  | .hbm, ⟨50, _⟩ => ⟨S8x4096x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S256x256, .bf16⟩
  | .local _ .vmem, ⟨7, _⟩ => ⟨S1x4096x512, .bf16⟩
  | .local _ .vmem, ⟨8, _⟩ => ⟨S1x4096x512, .bf16⟩
  | .local _ .vmem, ⟨9, _⟩ => ⟨S8x128x128, .f32⟩
  | .local _ .vmem, ⟨10, _⟩ => ⟨S5x8x128x128, .f32⟩
  | .local _ .vmem, ⟨11, _⟩ => ⟨S5x768x512, .bf16⟩
  | .local _ .vmem, ⟨12, _⟩ => ⟨S5x768x512, .f32⟩
  | .local _ .vmem, ⟨13, _⟩ => ⟨S5x768x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  c0_i32
def k0_mult2 : BitVec 32 :=
  let c0_i32_1 : BitVec 32 := 0#32
  c0_i32_1
def k0_mult3 : BitVec 32 :=
  let c0_i32_230 : BitVec 32 := 0#32
  c0_i32_230
def k0_mult4 : BitVec 32 :=
  let c0_i32_231 : BitVec 32 := 0#32
  c0_i32_231
def k0_mult5 : BitVec 32 :=
  let c0_i32_231 : BitVec 32 := 0#32
  let v365 : BitVec 32 := c0_i32_231
  let c0_i32_232 : BitVec 32 := 0#32
  let v366 : BitVec 32 := Scalar.addi v365 c0_i32_232
  v366
def k0_off1 (c0_i32_232 : BitVec 32) : Fin 3 → Nat :=
  let c0_233 : Index := 0#32
  let c0_i32_231 : BitVec 32 := 0#32
  let v365 : BitVec 32 := c0_i32_231
  let v366 : BitVec 32 := Scalar.addi v365 c0_i32_232
  let v367 : BitVec 32 := v366
  let v368 : Index := Scalar.indexCast v367
  let c0_234 : Index := 0#32
  ![0, v368.toNat, 0]
def k0_mult6 : BitVec 32 :=
  let c0_i32_231 : BitVec 32 := 0#32
  let v365 : BitVec 32 := c0_i32_231
  let c0_i32_241 : BitVec 32 := 0#32
  let v382 : BitVec 32 := Scalar.addi v365 c0_i32_241
  v382
def k0_off2 (c0_i32_241 : BitVec 32) : Fin 3 → Nat :=
  let c0_242 : Index := 0#32
  let c0_i32_231 : BitVec 32 := 0#32
  let v365 : BitVec 32 := c0_i32_231
  let v382 : BitVec 32 := Scalar.addi v365 c0_i32_241
  let v383 : BitVec 32 := v382
  let v384 : Index := Scalar.indexCast v383
  let c128_243 : Index := 128#32
  ![0, v384.toNat, 128]
def k0_mult7 : BitVec 32 :=
  let c0_i32_231 : BitVec 32 := 0#32
  let v365 : BitVec 32 := c0_i32_231
  let c0_i32_250 : BitVec 32 := 0#32
  let v398 : BitVec 32 := Scalar.addi v365 c0_i32_250
  v398
def k0_off3 (c0_i32_250 : BitVec 32) : Fin 3 → Nat :=
  let c0_251 : Index := 0#32
  let c0_i32_231 : BitVec 32 := 0#32
  let v365 : BitVec 32 := c0_i32_231
  let v398 : BitVec 32 := Scalar.addi v365 c0_i32_250
  let v399 : BitVec 32 := v398
  let v400 : Index := Scalar.indexCast v399
  let c256_252 : Index := 256#32
  ![0, v400.toNat, 256]
def k0_mult8 : BitVec 32 :=
  let c0_i32_231 : BitVec 32 := 0#32
  let v365 : BitVec 32 := c0_i32_231
  let c0_i32_259 : BitVec 32 := 0#32
  let v414 : BitVec 32 := Scalar.addi v365 c0_i32_259
  v414
def k0_off4 (c0_i32_259 : BitVec 32) : Fin 3 → Nat :=
  let c0_260 : Index := 0#32
  let c0_i32_231 : BitVec 32 := 0#32
  let v365 : BitVec 32 := c0_i32_231
  let v414 : BitVec 32 := Scalar.addi v365 c0_i32_259
  let v415 : BitVec 32 := v414
  let v416 : Index := Scalar.indexCast v415
  let c384_261 : Index := 384#32
  ![0, v416.toNat, 384]
def k0_mult9 : BitVec 32 :=
  let c128_i32 : BitVec 32 := 128#32
  c128_i32
def k0_mult10 : BitVec 32 :=
  let c0_i32_268 : BitVec 32 := 0#32
  c0_i32_268
def k0_mult11 : BitVec 32 :=
  let c128_i32_669 : BitVec 32 := 128#32
  c128_i32_669
def k0_mult12 : BitVec 32 :=
  let c0_i32_670 : BitVec 32 := 0#32
  c0_i32_670
def k0_mult13 : BitVec 32 :=
  let c0_i32_670 : BitVec 32 := 0#32
  let v1061 : BitVec 32 := c0_i32_670
  let c0_i32_671 : BitVec 32 := 0#32
  let v1062 : BitVec 32 := Scalar.addi v1061 c0_i32_671
  v1062
def k0_mult14 : BitVec 32 :=
  let c0_i32_670 : BitVec 32 := 0#32
  let v1061 : BitVec 32 := c0_i32_670
  let c128_i32_678 : BitVec 32 := 128#32
  let v1070 : BitVec 32 := Scalar.addi v1061 c128_i32_678
  v1070
def k0_mult15 : BitVec 32 :=
  let c0_i32_670 : BitVec 32 := 0#32
  let v1061 : BitVec 32 := c0_i32_670
  let c0_i32_687 : BitVec 32 := 0#32
  let v1087 : BitVec 32 := Scalar.addi v1061 c0_i32_687
  v1087
def k0_mult16 : BitVec 32 :=
  let c0_i32_670 : BitVec 32 := 0#32
  let v1061 : BitVec 32 := c0_i32_670
  let c128_i32_694 : BitVec 32 := 128#32
  let v1095 : BitVec 32 := Scalar.addi v1061 c128_i32_694
  v1095
def k0_mult17 : BitVec 32 :=
  let c0_i32_670 : BitVec 32 := 0#32
  let v1061 : BitVec 32 := c0_i32_670
  let c0_i32_703 : BitVec 32 := 0#32
  let v1112 : BitVec 32 := Scalar.addi v1061 c0_i32_703
  v1112
def k0_mult18 : BitVec 32 :=
  let c0_i32_670 : BitVec 32 := 0#32
  let v1061 : BitVec 32 := c0_i32_670
  let c128_i32_710 : BitVec 32 := 128#32
  let v1120 : BitVec 32 := Scalar.addi v1061 c128_i32_710
  v1120
def k0_mult19 : BitVec 32 :=
  let c0_i32_670 : BitVec 32 := 0#32
  let v1061 : BitVec 32 := c0_i32_670
  let c0_i32_719 : BitVec 32 := 0#32
  let v1137 : BitVec 32 := Scalar.addi v1061 c0_i32_719
  v1137
def k0_mult20 : BitVec 32 :=
  let c0_i32_670 : BitVec 32 := 0#32
  let v1061 : BitVec 32 := c0_i32_670
  let c128_i32_726 : BitVec 32 := 128#32
  let v1145 : BitVec 32 := Scalar.addi v1061 c128_i32_726
  v1145
@[reducible] def k0_t1_loop : Scf.Loop 32 :=
  let c0_i32_735 : BitVec 32 := 0#32
  let c6_i32 : BitVec 32 := 6#32
  let v1162 : BitVec 32 := Scalar.addi c0_i32_735 c6_i32
  let c1_i32 : BitVec 32 := 1#32
  ⟨c0_i32_735, v1162, c1_i32⟩
def k0_mult21 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_748 : BitVec 32 := 128#32
  let v1178 : BitVec 32 := Scalar.muli v1165 c128_i32_748
  v1178
def k0_mult22 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_749 : BitVec 32 := 2#32
  let v1180 : BitVec 32 := Scalar.subi v1165 c2_i32_749
  let c128_i32_750 : BitVec 32 := 128#32
  let v1181 : BitVec 32 := Scalar.muli v1180 c128_i32_750
  v1181
def k0_off5 (k0_t1 : Fin k0_t1_loop.trips) (c0_i32_737 : BitVec 32) : Fin 3 → Nat :=
  let c0_751 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c128_i32_748 : BitVec 32 := 128#32
  let v1178 : BitVec 32 := Scalar.muli v1165 c128_i32_748
  let v1179 : BitVec 32 := v1178
  let v1183 : Index := Scalar.indexCast v1179
  let c0_752 : Index := 0#32
  ![0, v1183.toNat, 0]
def k0_off6 (k0_t1 : Fin k0_t1_loop.trips) (c0_i32_737 : BitVec 32) : Fin 3 → Nat :=
  let c0_753 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c2_i32_749 : BitVec 32 := 2#32
  let v1180 : BitVec 32 := Scalar.subi v1165 c2_i32_749
  let c128_i32_750 : BitVec 32 := 128#32
  let v1181 : BitVec 32 := Scalar.muli v1180 c128_i32_750
  let v1182 : BitVec 32 := v1181
  let v1186 : Index := Scalar.indexCast v1182
  let c0_754 : Index := 0#32
  ![0, v1186.toNat, 0]
def k0_off7 (k0_t1 : Fin k0_t1_loop.trips) (c0_i32_737 : BitVec 32) : Fin 3 → Nat :=
  let c0_775 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c128_i32_748 : BitVec 32 := 128#32
  let v1178 : BitVec 32 := Scalar.muli v1165 c128_i32_748
  let v1179 : BitVec 32 := v1178
  let v1219 : Index := Scalar.indexCast v1179
  let c128_776 : Index := 128#32
  ![0, v1219.toNat, 128]
def k0_off8 (k0_t1 : Fin k0_t1_loop.trips) (c0_i32_737 : BitVec 32) : Fin 3 → Nat :=
  let c0_777 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c2_i32_749 : BitVec 32 := 2#32
  let v1180 : BitVec 32 := Scalar.subi v1165 c2_i32_749
  let c128_i32_750 : BitVec 32 := 128#32
  let v1181 : BitVec 32 := Scalar.muli v1180 c128_i32_750
  let v1182 : BitVec 32 := v1181
  let v1222 : Index := Scalar.indexCast v1182
  let c128_778 : Index := 128#32
  ![0, v1222.toNat, 128]
def k0_off9 (k0_t1 : Fin k0_t1_loop.trips) (c0_i32_737 : BitVec 32) : Fin 3 → Nat :=
  let c0_801 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c128_i32_748 : BitVec 32 := 128#32
  let v1178 : BitVec 32 := Scalar.muli v1165 c128_i32_748
  let v1179 : BitVec 32 := v1178
  let v1255 : Index := Scalar.indexCast v1179
  let c256_802 : Index := 256#32
  ![0, v1255.toNat, 256]
def k0_off10 (k0_t1 : Fin k0_t1_loop.trips) (c0_i32_737 : BitVec 32) : Fin 3 → Nat :=
  let c0_803 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c2_i32_749 : BitVec 32 := 2#32
  let v1180 : BitVec 32 := Scalar.subi v1165 c2_i32_749
  let c128_i32_750 : BitVec 32 := 128#32
  let v1181 : BitVec 32 := Scalar.muli v1180 c128_i32_750
  let v1182 : BitVec 32 := v1181
  let v1258 : Index := Scalar.indexCast v1182
  let c256_804 : Index := 256#32
  ![0, v1258.toNat, 256]
def k0_off11 (k0_t1 : Fin k0_t1_loop.trips) (c0_i32_737 : BitVec 32) : Fin 3 → Nat :=
  let c0_827 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c128_i32_748 : BitVec 32 := 128#32
  let v1178 : BitVec 32 := Scalar.muli v1165 c128_i32_748
  let v1179 : BitVec 32 := v1178
  let v1291 : Index := Scalar.indexCast v1179
  let c384_828 : Index := 384#32
  ![0, v1291.toNat, 384]
def k0_off12 (k0_t1 : Fin k0_t1_loop.trips) (c0_i32_737 : BitVec 32) : Fin 3 → Nat :=
  let c0_829 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c2_i32_749 : BitVec 32 := 2#32
  let v1180 : BitVec 32 := Scalar.subi v1165 c2_i32_749
  let c128_i32_750 : BitVec 32 := 128#32
  let v1181 : BitVec 32 := Scalar.muli v1180 c128_i32_750
  let v1182 : BitVec 32 := v1181
  let v1294 : Index := Scalar.indexCast v1182
  let c384_830 : Index := 384#32
  ![0, v1294.toNat, 384]
def k0_mult23 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_1239 : BitVec 32 := 128#32
  let v2011 : BitVec 32 := Scalar.muli v1168 c128_i32_1239
  v2011
def k0_mult24 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_1240 : BitVec 32 := 2#32
  let v2013 : BitVec 32 := Scalar.subi v1168 c2_i32_1240
  let c128_i32_1241 : BitVec 32 := 128#32
  let v2014 : BitVec 32 := Scalar.muli v2013 c128_i32_1241
  v2014
def k0_mult25 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_1732 : BitVec 32 := 128#32
  let v2844 : BitVec 32 := Scalar.muli v1171 c128_i32_1732
  v2844
def k0_mult26 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_1733 : BitVec 32 := 2#32
  let v2846 : BitVec 32 := Scalar.subi v1171 c2_i32_1733
  let c128_i32_1734 : BitVec 32 := 128#32
  let v2847 : BitVec 32 := Scalar.muli v2846 c128_i32_1734
  v2847
def k0_mult27 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_2225 : BitVec 32 := 128#32
  let v3677 : BitVec 32 := Scalar.muli v1174 c128_i32_2225
  v3677
def k0_mult28 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_2226 : BitVec 32 := 2#32
  let v3679 : BitVec 32 := Scalar.subi v1174 c2_i32_2226
  let c128_i32_2227 : BitVec 32 := 128#32
  let v3680 : BitVec 32 := Scalar.muli v3679 c128_i32_2227
  v3680
def k0_mult29 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_2718 : BitVec 32 := 128#32
  let v4510 : BitVec 32 := Scalar.muli v1177 c128_i32_2718
  v4510
def k0_mult30 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_2719 : BitVec 32 := 2#32
  let v4512 : BitVec 32 := Scalar.subi v1177 c2_i32_2719
  let c128_i32_2720 : BitVec 32 := 128#32
  let v4513 : BitVec 32 := Scalar.muli v4512 c128_i32_2720
  v4513
def k0_mult31 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_3571 : BitVec 32 := 128#32
  let v5733 : BitVec 32 := Scalar.muli v1165 c128_i32_3571
  v5733
def k0_mult32 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  v5736
def k0_mult33 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c0_i32_3574 : BitVec 32 := 0#32
  let v5738 : BitVec 32 := Scalar.addi v5737 c0_i32_3574
  v5738
def k0_off13 (k0_t1 : Fin k0_t1_loop.trips) (c0_i32_737 : BitVec 32) (c0_i32_3574 : BitVec 32) : Fin 3 → Nat :=
  let c0_3575 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let v5738 : BitVec 32 := Scalar.addi v5737 c0_i32_3574
  let v5739 : BitVec 32 := v5738
  let v5740 : Index := Scalar.indexCast v5739
  let c0_3576 : Index := 0#32
  ![0, v5740.toNat, 0]
def k0_mult34 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c128_i32_3581 : BitVec 32 := 128#32
  let v5746 : BitVec 32 := Scalar.addi v5737 c128_i32_3581
  v5746
def k0_mult35 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c256_i32 : BitVec 32 := 256#32
  let v5755 : BitVec 32 := Scalar.addi v5737 c256_i32
  v5755
def k0_mult36 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c0_i32_3596 : BitVec 32 := 0#32
  let v5772 : BitVec 32 := Scalar.addi v5737 c0_i32_3596
  v5772
def k0_off14 (k0_t1 : Fin k0_t1_loop.trips) (c0_i32_737 : BitVec 32) (c0_i32_3596 : BitVec 32) : Fin 3 → Nat :=
  let c0_3597 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let v5772 : BitVec 32 := Scalar.addi v5737 c0_i32_3596
  let v5773 : BitVec 32 := v5772
  let v5774 : Index := Scalar.indexCast v5773
  let c128_3598 : Index := 128#32
  ![0, v5774.toNat, 128]
def k0_mult37 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c128_i32_3603 : BitVec 32 := 128#32
  let v5780 : BitVec 32 := Scalar.addi v5737 c128_i32_3603
  v5780
def k0_mult38 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c256_i32_3610 : BitVec 32 := 256#32
  let v5789 : BitVec 32 := Scalar.addi v5737 c256_i32_3610
  v5789
def k0_mult39 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c0_i32_3619 : BitVec 32 := 0#32
  let v5806 : BitVec 32 := Scalar.addi v5737 c0_i32_3619
  v5806
def k0_off15 (k0_t1 : Fin k0_t1_loop.trips) (c0_i32_737 : BitVec 32) (c0_i32_3619 : BitVec 32) : Fin 3 → Nat :=
  let c0_3620 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let v5806 : BitVec 32 := Scalar.addi v5737 c0_i32_3619
  let v5807 : BitVec 32 := v5806
  let v5808 : Index := Scalar.indexCast v5807
  let c256_3621 : Index := 256#32
  ![0, v5808.toNat, 256]
def k0_mult40 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c128_i32_3626 : BitVec 32 := 128#32
  let v5814 : BitVec 32 := Scalar.addi v5737 c128_i32_3626
  v5814
def k0_mult41 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c256_i32_3633 : BitVec 32 := 256#32
  let v5823 : BitVec 32 := Scalar.addi v5737 c256_i32_3633
  v5823
def k0_mult42 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c0_i32_3642 : BitVec 32 := 0#32
  let v5840 : BitVec 32 := Scalar.addi v5737 c0_i32_3642
  v5840
def k0_off16 (k0_t1 : Fin k0_t1_loop.trips) (c0_i32_737 : BitVec 32) (c0_i32_3642 : BitVec 32) : Fin 3 → Nat :=
  let c0_3643 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let v5840 : BitVec 32 := Scalar.addi v5737 c0_i32_3642
  let v5841 : BitVec 32 := v5840
  let v5842 : Index := Scalar.indexCast v5841
  let c384_3644 : Index := 384#32
  ![0, v5842.toNat, 384]
def k0_mult43 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c128_i32_3649 : BitVec 32 := 128#32
  let v5848 : BitVec 32 := Scalar.addi v5737 c128_i32_3649
  v5848
def k0_mult44 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c2_i32_3572 : BitVec 32 := 2#32
  let v5735 : BitVec 32 := Scalar.subi v1165 c2_i32_3572
  let c128_i32_3573 : BitVec 32 := 128#32
  let v5736 : BitVec 32 := Scalar.muli v5735 c128_i32_3573
  let v5737 : BitVec 32 := v5736
  let c256_i32_3656 : BitVec 32 := 256#32
  let v5857 : BitVec 32 := Scalar.addi v5737 c256_i32_3656
  v5857
def k0_mult45 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_3665 : BitVec 32 := 128#32
  let v5874 : BitVec 32 := Scalar.muli v1168 c128_i32_3665
  v5874
def k0_mult46 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  v5877
def k0_mult47 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c0_i32_3668 : BitVec 32 := 0#32
  let v5879 : BitVec 32 := Scalar.addi v5878 c0_i32_3668
  v5879
def k0_mult48 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c128_i32_3675 : BitVec 32 := 128#32
  let v5887 : BitVec 32 := Scalar.addi v5878 c128_i32_3675
  v5887
def k0_mult49 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c256_i32_3682 : BitVec 32 := 256#32
  let v5896 : BitVec 32 := Scalar.addi v5878 c256_i32_3682
  v5896
def k0_mult50 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c0_i32_3691 : BitVec 32 := 0#32
  let v5913 : BitVec 32 := Scalar.addi v5878 c0_i32_3691
  v5913
def k0_mult51 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c128_i32_3698 : BitVec 32 := 128#32
  let v5921 : BitVec 32 := Scalar.addi v5878 c128_i32_3698
  v5921
def k0_mult52 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c256_i32_3705 : BitVec 32 := 256#32
  let v5930 : BitVec 32 := Scalar.addi v5878 c256_i32_3705
  v5930
def k0_mult53 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c0_i32_3714 : BitVec 32 := 0#32
  let v5947 : BitVec 32 := Scalar.addi v5878 c0_i32_3714
  v5947
def k0_mult54 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c128_i32_3721 : BitVec 32 := 128#32
  let v5955 : BitVec 32 := Scalar.addi v5878 c128_i32_3721
  v5955
def k0_mult55 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c256_i32_3728 : BitVec 32 := 256#32
  let v5964 : BitVec 32 := Scalar.addi v5878 c256_i32_3728
  v5964
def k0_mult56 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c0_i32_3737 : BitVec 32 := 0#32
  let v5981 : BitVec 32 := Scalar.addi v5878 c0_i32_3737
  v5981
def k0_mult57 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c128_i32_3744 : BitVec 32 := 128#32
  let v5989 : BitVec 32 := Scalar.addi v5878 c128_i32_3744
  v5989
def k0_mult58 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c2_i32_3666 : BitVec 32 := 2#32
  let v5876 : BitVec 32 := Scalar.subi v1168 c2_i32_3666
  let c128_i32_3667 : BitVec 32 := 128#32
  let v5877 : BitVec 32 := Scalar.muli v5876 c128_i32_3667
  let v5878 : BitVec 32 := v5877
  let c256_i32_3751 : BitVec 32 := 256#32
  let v5998 : BitVec 32 := Scalar.addi v5878 c256_i32_3751
  v5998
def k0_mult59 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_3760 : BitVec 32 := 128#32
  let v6015 : BitVec 32 := Scalar.muli v1171 c128_i32_3760
  v6015
def k0_mult60 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  v6018
def k0_mult61 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c0_i32_3763 : BitVec 32 := 0#32
  let v6020 : BitVec 32 := Scalar.addi v6019 c0_i32_3763
  v6020
def k0_mult62 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c128_i32_3770 : BitVec 32 := 128#32
  let v6028 : BitVec 32 := Scalar.addi v6019 c128_i32_3770
  v6028
def k0_mult63 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c256_i32_3777 : BitVec 32 := 256#32
  let v6037 : BitVec 32 := Scalar.addi v6019 c256_i32_3777
  v6037
def k0_mult64 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c0_i32_3786 : BitVec 32 := 0#32
  let v6054 : BitVec 32 := Scalar.addi v6019 c0_i32_3786
  v6054
def k0_mult65 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c128_i32_3793 : BitVec 32 := 128#32
  let v6062 : BitVec 32 := Scalar.addi v6019 c128_i32_3793
  v6062
def k0_mult66 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c256_i32_3800 : BitVec 32 := 256#32
  let v6071 : BitVec 32 := Scalar.addi v6019 c256_i32_3800
  v6071
def k0_mult67 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c0_i32_3809 : BitVec 32 := 0#32
  let v6088 : BitVec 32 := Scalar.addi v6019 c0_i32_3809
  v6088
def k0_mult68 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c128_i32_3816 : BitVec 32 := 128#32
  let v6096 : BitVec 32 := Scalar.addi v6019 c128_i32_3816
  v6096
def k0_mult69 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c256_i32_3823 : BitVec 32 := 256#32
  let v6105 : BitVec 32 := Scalar.addi v6019 c256_i32_3823
  v6105
def k0_mult70 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c0_i32_3832 : BitVec 32 := 0#32
  let v6122 : BitVec 32 := Scalar.addi v6019 c0_i32_3832
  v6122
def k0_mult71 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c128_i32_3839 : BitVec 32 := 128#32
  let v6130 : BitVec 32 := Scalar.addi v6019 c128_i32_3839
  v6130
def k0_mult72 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c2_i32_3761 : BitVec 32 := 2#32
  let v6017 : BitVec 32 := Scalar.subi v1171 c2_i32_3761
  let c128_i32_3762 : BitVec 32 := 128#32
  let v6018 : BitVec 32 := Scalar.muli v6017 c128_i32_3762
  let v6019 : BitVec 32 := v6018
  let c256_i32_3846 : BitVec 32 := 256#32
  let v6139 : BitVec 32 := Scalar.addi v6019 c256_i32_3846
  v6139
def k0_mult73 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_3855 : BitVec 32 := 128#32
  let v6156 : BitVec 32 := Scalar.muli v1174 c128_i32_3855
  v6156
def k0_mult74 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  v6159
def k0_mult75 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c0_i32_3858 : BitVec 32 := 0#32
  let v6161 : BitVec 32 := Scalar.addi v6160 c0_i32_3858
  v6161
def k0_mult76 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c128_i32_3865 : BitVec 32 := 128#32
  let v6169 : BitVec 32 := Scalar.addi v6160 c128_i32_3865
  v6169
def k0_mult77 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c256_i32_3872 : BitVec 32 := 256#32
  let v6178 : BitVec 32 := Scalar.addi v6160 c256_i32_3872
  v6178
def k0_mult78 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c0_i32_3881 : BitVec 32 := 0#32
  let v6195 : BitVec 32 := Scalar.addi v6160 c0_i32_3881
  v6195
def k0_mult79 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c128_i32_3888 : BitVec 32 := 128#32
  let v6203 : BitVec 32 := Scalar.addi v6160 c128_i32_3888
  v6203
def k0_mult80 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c256_i32_3895 : BitVec 32 := 256#32
  let v6212 : BitVec 32 := Scalar.addi v6160 c256_i32_3895
  v6212
def k0_mult81 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c0_i32_3904 : BitVec 32 := 0#32
  let v6229 : BitVec 32 := Scalar.addi v6160 c0_i32_3904
  v6229
def k0_mult82 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c128_i32_3911 : BitVec 32 := 128#32
  let v6237 : BitVec 32 := Scalar.addi v6160 c128_i32_3911
  v6237
def k0_mult83 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c256_i32_3918 : BitVec 32 := 256#32
  let v6246 : BitVec 32 := Scalar.addi v6160 c256_i32_3918
  v6246
def k0_mult84 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c0_i32_3927 : BitVec 32 := 0#32
  let v6263 : BitVec 32 := Scalar.addi v6160 c0_i32_3927
  v6263
def k0_mult85 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c128_i32_3934 : BitVec 32 := 128#32
  let v6271 : BitVec 32 := Scalar.addi v6160 c128_i32_3934
  v6271
def k0_mult86 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c2_i32_3856 : BitVec 32 := 2#32
  let v6158 : BitVec 32 := Scalar.subi v1174 c2_i32_3856
  let c128_i32_3857 : BitVec 32 := 128#32
  let v6159 : BitVec 32 := Scalar.muli v6158 c128_i32_3857
  let v6160 : BitVec 32 := v6159
  let c256_i32_3941 : BitVec 32 := 256#32
  let v6280 : BitVec 32 := Scalar.addi v6160 c256_i32_3941
  v6280
def k0_mult87 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_3950 : BitVec 32 := 128#32
  let v6297 : BitVec 32 := Scalar.muli v1177 c128_i32_3950
  v6297
def k0_mult88 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  v6300
def k0_mult89 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c0_i32_3953 : BitVec 32 := 0#32
  let v6302 : BitVec 32 := Scalar.addi v6301 c0_i32_3953
  v6302
def k0_mult90 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c128_i32_3960 : BitVec 32 := 128#32
  let v6310 : BitVec 32 := Scalar.addi v6301 c128_i32_3960
  v6310
def k0_mult91 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c256_i32_3967 : BitVec 32 := 256#32
  let v6319 : BitVec 32 := Scalar.addi v6301 c256_i32_3967
  v6319
def k0_mult92 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c0_i32_3976 : BitVec 32 := 0#32
  let v6336 : BitVec 32 := Scalar.addi v6301 c0_i32_3976
  v6336
def k0_mult93 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c128_i32_3983 : BitVec 32 := 128#32
  let v6344 : BitVec 32 := Scalar.addi v6301 c128_i32_3983
  v6344
def k0_mult94 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c256_i32_3990 : BitVec 32 := 256#32
  let v6353 : BitVec 32 := Scalar.addi v6301 c256_i32_3990
  v6353
def k0_mult95 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c0_i32_3999 : BitVec 32 := 0#32
  let v6370 : BitVec 32 := Scalar.addi v6301 c0_i32_3999
  v6370
def k0_mult96 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c128_i32_4006 : BitVec 32 := 128#32
  let v6378 : BitVec 32 := Scalar.addi v6301 c128_i32_4006
  v6378
def k0_mult97 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c256_i32_4013 : BitVec 32 := 256#32
  let v6387 : BitVec 32 := Scalar.addi v6301 c256_i32_4013
  v6387
def k0_mult98 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c0_i32_4022 : BitVec 32 := 0#32
  let v6404 : BitVec 32 := Scalar.addi v6301 c0_i32_4022
  v6404
def k0_mult99 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c128_i32_4029 : BitVec 32 := 128#32
  let v6412 : BitVec 32 := Scalar.addi v6301 c128_i32_4029
  v6412
def k0_mult100 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c2_i32_3951 : BitVec 32 := 2#32
  let v6299 : BitVec 32 := Scalar.subi v1177 c2_i32_3951
  let c128_i32_3952 : BitVec 32 := 128#32
  let v6300 : BitVec 32 := Scalar.muli v6299 c128_i32_3952
  let v6301 : BitVec 32 := v6300
  let c256_i32_4036 : BitVec 32 := 256#32
  let v6421 : BitVec 32 := Scalar.addi v6301 c256_i32_4036
  v6421
def k0_mult101 (arg13 : BitVec 32) : BitVec 32 :=
  let c128_i32_4070 : BitVec 32 := 128#32
  let v6483 : BitVec 32 := Scalar.muli arg13 c128_i32_4070
  v6483

def k0_mult102 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4071 : BitVec 32 := 128#32
  let v6485 : BitVec 32 := Scalar.muli v1165 c128_i32_4071
  v6485
def k0_off17 (k0_t1 : Fin k0_t1_loop.trips) : Fin 3 → Nat :=
  let c0_4072 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4071 : BitVec 32 := 128#32
  let v6485 : BitVec 32 := Scalar.muli v1165 c128_i32_4071
  let v6486 : BitVec 32 := v6485
  let v6487 : Index := Scalar.indexCast v6486
  let c0_4073 : Index := 0#32
  ![0, v6487.toNat, 0]
def k0_off18 (arg13 : BitVec 32) : Fin 3 → Nat :=
  let c0_4074 : Index := 0#32
  let c128_i32_4070 : BitVec 32 := 128#32
  let v6483 : BitVec 32 := Scalar.muli arg13 c128_i32_4070
  let v6484 : BitVec 32 := v6483
  let v6490 : Index := Scalar.indexCast v6484
  let c0_4075 : Index := 0#32
  ![0, v6490.toNat, 0]
def k0_off19 (k0_t1 : Fin k0_t1_loop.trips) : Fin 3 → Nat :=
  let c0_4128 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4071 : BitVec 32 := 128#32
  let v6485 : BitVec 32 := Scalar.muli v1165 c128_i32_4071
  let v6486 : BitVec 32 := v6485
  let v6575 : Index := Scalar.indexCast v6486
  let c128_4129 : Index := 128#32
  ![0, v6575.toNat, 128]
def k0_off20 (arg13 : BitVec 32) : Fin 3 → Nat :=
  let c0_4130 : Index := 0#32
  let c128_i32_4070 : BitVec 32 := 128#32
  let v6483 : BitVec 32 := Scalar.muli arg13 c128_i32_4070
  let v6484 : BitVec 32 := v6483
  let v6578 : Index := Scalar.indexCast v6484
  let c128_4131 : Index := 128#32
  ![0, v6578.toNat, 128]
def k0_off21 (k0_t1 : Fin k0_t1_loop.trips) : Fin 3 → Nat :=
  let c0_4184 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4071 : BitVec 32 := 128#32
  let v6485 : BitVec 32 := Scalar.muli v1165 c128_i32_4071
  let v6486 : BitVec 32 := v6485
  let v6664 : Index := Scalar.indexCast v6486
  let c256_4185 : Index := 256#32
  ![0, v6664.toNat, 256]
def k0_off22 (arg13 : BitVec 32) : Fin 3 → Nat :=
  let c0_4186 : Index := 0#32
  let c128_i32_4070 : BitVec 32 := 128#32
  let v6483 : BitVec 32 := Scalar.muli arg13 c128_i32_4070
  let v6484 : BitVec 32 := v6483
  let v6667 : Index := Scalar.indexCast v6484
  let c256_4187 : Index := 256#32
  ![0, v6667.toNat, 256]
def k0_off23 (k0_t1 : Fin k0_t1_loop.trips) : Fin 3 → Nat :=
  let c0_4240 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4071 : BitVec 32 := 128#32
  let v6485 : BitVec 32 := Scalar.muli v1165 c128_i32_4071
  let v6486 : BitVec 32 := v6485
  let v6753 : Index := Scalar.indexCast v6486
  let c384_4241 : Index := 384#32
  ![0, v6753.toNat, 384]
def k0_off24 (arg13 : BitVec 32) : Fin 3 → Nat :=
  let c0_4242 : Index := 0#32
  let c128_i32_4070 : BitVec 32 := 128#32
  let v6483 : BitVec 32 := Scalar.muli arg13 c128_i32_4070
  let v6484 : BitVec 32 := v6483
  let v6756 : Index := Scalar.indexCast v6484
  let c384_4243 : Index := 384#32
  ![0, v6756.toNat, 384]

def k0_chk1 (arg13 : BitVec 32) : Prop :=
  (128 ∣ (k0_mult101 arg13).toNat) ∧
  (∀ a, (k0_off18 arg13) a + S1x128x128.size a ≤ S1x4096x512.size a) ∧
  (∀ a, (k0_off20 arg13) a + S1x128x128.size a ≤ S1x4096x512.size a) ∧
  (∀ a, (k0_off22 arg13) a + S1x128x128.size a ≤ S1x4096x512.size a) ∧
  (∀ a, (k0_off24 arg13) a + S1x128x128.size a ≤ S1x4096x512.size a)
theorem k0_mult101_dvd : ∀ (arg13 : BitVec 32) (k0_hw1 : k0_chk1 arg13), 128 ∣ (k0_mult101 arg13).toNat := fun arg13 k0_hw1 => k0_hw1.1
theorem k0_off18_inb : ∀ (arg13 : BitVec 32) (k0_hw1 : k0_chk1 arg13), ∀ a, (k0_off18 arg13) a + S1x128x128.size a ≤ S1x4096x512.size a := fun arg13 k0_hw1 => k0_hw1.2.1
theorem k0_off20_inb : ∀ (arg13 : BitVec 32) (k0_hw1 : k0_chk1 arg13), ∀ a, (k0_off20 arg13) a + S1x128x128.size a ≤ S1x4096x512.size a := fun arg13 k0_hw1 => k0_hw1.2.2.1
theorem k0_off22_inb : ∀ (arg13 : BitVec 32) (k0_hw1 : k0_chk1 arg13), ∀ a, (k0_off22 arg13) a + S1x128x128.size a ≤ S1x4096x512.size a := fun arg13 k0_hw1 => k0_hw1.2.2.2.1
theorem k0_off24_inb : ∀ (arg13 : BitVec 32) (k0_hw1 : k0_chk1 arg13), ∀ a, (k0_off24 arg13) a + S1x128x128.size a ≤ S1x4096x512.size a := fun arg13 k0_hw1 => k0_hw1.2.2.2.2

def k0_mult103 (k0_t1 : Fin k0_t1_loop.trips) : BitVec 32 :=
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4070 : BitVec 32 := 128#32
  let v6483 : BitVec 32 := Scalar.muli v1165 c128_i32_4070
  v6483
def k0_off25 (k0_t1 : Fin k0_t1_loop.trips) : Fin 3 → Nat :=
  let c0_4077 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4070 : BitVec 32 := 128#32
  let v6483 : BitVec 32 := Scalar.muli v1165 c128_i32_4070
  let v6484 : BitVec 32 := v6483
  let v6491 : Index := Scalar.indexCast v6484
  let c0_4078 : Index := 0#32
  ![0, v6491.toNat, 0]
def k0_off26 (k0_t1 : Fin k0_t1_loop.trips) : Fin 3 → Nat :=
  let c0_4085 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4070 : BitVec 32 := 128#32
  let v6483 : BitVec 32 := Scalar.muli v1165 c128_i32_4070
  let v6484 : BitVec 32 := v6483
  let v6501 : Index := Scalar.indexCast v6484
  let c128_4086 : Index := 128#32
  ![0, v6501.toNat, 128]
def k0_off27 (k0_t1 : Fin k0_t1_loop.trips) : Fin 3 → Nat :=
  let c0_4093 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4070 : BitVec 32 := 128#32
  let v6483 : BitVec 32 := Scalar.muli v1165 c128_i32_4070
  let v6484 : BitVec 32 := v6483
  let v6511 : Index := Scalar.indexCast v6484
  let c256_4094 : Index := 256#32
  ![0, v6511.toNat, 256]
def k0_off28 (k0_t1 : Fin k0_t1_loop.trips) : Fin 3 → Nat :=
  let c0_4101 : Index := 0#32
  let c2_i32 : BitVec 32 := 2#32
  let c0_i32_735 : BitVec 32 := 0#32
  let c1_i32 : BitVec 32 := 1#32
  let arg12 : BitVec 32 := Scf.iv c0_i32_735 c1_i32 k0_t1
  let c5_i32 : BitVec 32 := 5#32
  let v1163 : BitVec 32 := Scalar.muli arg12 c5_i32
  let v1164 : BitVec 32 := Scalar.addi c2_i32 v1163
  let c0_i32_737 : BitVec 32 := 0#32
  let v1165 : BitVec 32 := Scalar.addi v1164 c0_i32_737
  let c128_i32_4070 : BitVec 32 := 128#32
  let v6483 : BitVec 32 := Scalar.muli v1165 c128_i32_4070
  let v6484 : BitVec 32 := v6483
  let v6521 : Index := Scalar.indexCast v6484
  let c384_4102 : Index := 384#32
  ![0, v6521.toNat, 384]
def k0_mult104 (arg13 : BitVec 32) : BitVec 32 :=
  let c128_i32_4070 : BitVec 32 := 128#32
  let v6483 : BitVec 32 := Scalar.muli arg13 c128_i32_4070
  v6483

def k0_mult105 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4071 : BitVec 32 := 128#32
  let v6485 : BitVec 32 := Scalar.muli v1168 c128_i32_4071
  v6485
def k0_off29 (k0_t1 : Fin k0_t1_loop.trips) : Fin 3 → Nat :=
  let c0_4072 : Index := 0#32
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4071 : BitVec 32 := 128#32
  let v6485 : BitVec 32 := Scalar.muli v1168 c128_i32_4071
  let v6486 : BitVec 32 := v6485
  let v6487 : Index := Scalar.indexCast v6486
  let c0_4073 : Index := 0#32
  ![0, v6487.toNat, 0]
def k0_off30 (arg13 : BitVec 32) : Fin 3 → Nat :=
  let c0_4074 : Index := 0#32
  let c128_i32_4070 : BitVec 32 := 128#32
  let v6483 : BitVec 32 := Scalar.muli arg13 c128_i32_4070
  let v6484 : BitVec 32 := v6483
  let v6490 : Index := Scalar.indexCast v6484
  let c0_4075 : Index := 0#32
  ![0, v6490.toNat, 0]
def k0_off31 (k0_t1 : Fin k0_t1_loop.trips) : Fin 3 → Nat :=
  let c0_4128 : Index := 0#32
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4071 : BitVec 32 := 128#32
  let v6485 : BitVec 32 := Scalar.muli v1168 c128_i32_4071
  let v6486 : BitVec 32 := v6485
  let v6575 : Index := Scalar.indexCast v6486
  let c128_4129 : Index := 128#32
  ![0, v6575.toNat, 128]
def k0_off32 (arg13 : BitVec 32) : Fin 3 → Nat :=
  let c0_4130 : Index := 0#32
  let c128_i32_4070 : BitVec 32 := 128#32
  let v6483 : BitVec 32 := Scalar.muli arg13 c128_i32_4070
  let v6484 : BitVec 32 := v6483
  let v6578 : Index := Scalar.indexCast v6484
  let c128_4131 : Index := 128#32
  ![0, v6578.toNat, 128]
def k0_off33 (k0_t1 : Fin k0_t1_loop.trips) : Fin 3 → Nat :=
  let c0_4184 : Index := 0#32
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4071 : BitVec 32 := 128#32
  let v6485 : BitVec 32 := Scalar.muli v1168 c128_i32_4071
  let v6486 : BitVec 32 := v6485
  let v6664 : Index := Scalar.indexCast v6486
  let c256_4185 : Index := 256#32
  ![0, v6664.toNat, 256]
def k0_off34 (arg13 : BitVec 32) : Fin 3 → Nat :=
  let c0_4186 : Index := 0#32
  let c128_i32_4070 : BitVec 32 := 128#32
  let v6483 : BitVec 32 := Scalar.muli arg13 c128_i32_4070
  let v6484 : BitVec 32 := v6483
  let v6667 : Index := Scalar.indexCast v6484
  let c256_4187 : Index := 256#32
  ![0, v6667.toNat, 256]
def k0_off35 (k0_t1 : Fin k0_t1_loop.trips) : Fin 3 → Nat :=
  let c0_4240 : Index := 0#32
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4071 : BitVec 32 := 128#32
  let v6485 : BitVec 32 := Scalar.muli v1168 c128_i32_4071
  let v6486 : BitVec 32 := v6485
  let v6753 : Index := Scalar.indexCast v6486
  let c384_4241 : Index := 384#32
  ![0, v6753.toNat, 384]
def k0_off36 (arg13 : BitVec 32) : Fin 3 → Nat :=
  let c0_4242 : Index := 0#32
  let c128_i32_4070 : BitVec 32 := 128#32
  let v6483 : BitVec 32 := Scalar.muli arg13 c128_i32_4070
  let v6484 : BitVec 32 := v6483
  let v6756 : Index := Scalar.indexCast v6484
  let c384_4243 : Index := 384#32
  ![0, v6756.toNat, 384]

def k0_chk2 (arg13 : BitVec 32) : Prop :=
  (128 ∣ (k0_mult104 arg13).toNat) ∧
  (∀ a, (k0_off30 arg13) a + S1x128x128.size a ≤ S1x4096x512.size a) ∧
  (∀ a, (k0_off32 arg13) a + S1x128x128.size a ≤ S1x4096x512.size a) ∧
  (∀ a, (k0_off34 arg13) a + S1x128x128.size a ≤ S1x4096x512.size a) ∧
  (∀ a, (k0_off36 arg13) a + S1x128x128.size a ≤ S1x4096x512.size a)
theorem k0_mult104_dvd : ∀ (arg13 : BitVec 32) (k0_hw2 : k0_chk2 arg13), 128 ∣ (k0_mult104 arg13).toNat := fun arg13 k0_hw2 => k0_hw2.1
theorem k0_off30_inb : ∀ (arg13 : BitVec 32) (k0_hw2 : k0_chk2 arg13), ∀ a, (k0_off30 arg13) a + S1x128x128.size a ≤ S1x4096x512.size a := fun arg13 k0_hw2 => k0_hw2.2.1
theorem k0_off32_inb : ∀ (arg13 : BitVec 32) (k0_hw2 : k0_chk2 arg13), ∀ a, (k0_off32 arg13) a + S1x128x128.size a ≤ S1x4096x512.size a := fun arg13 k0_hw2 => k0_hw2.2.2.1
theorem k0_off34_inb : ∀ (arg13 : BitVec 32) (k0_hw2 : k0_chk2 arg13), ∀ a, (k0_off34 arg13) a + S1x128x128.size a ≤ S1x4096x512.size a := fun arg13 k0_hw2 => k0_hw2.2.2.2.1
theorem k0_off36_inb : ∀ (arg13 : BitVec 32) (k0_hw2 : k0_chk2 arg13), ∀ a, (k0_off36 arg13) a + S1x128x128.size a ≤ S1x4096x512.size a := fun arg13 k0_hw2 => k0_hw2.2.2.2.2

def k0_mult106 (k0_t1 : Fin k0_t1_loop.trips) : BitVec 32 :=
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4070 : BitVec 32 := 128#32
  let v6483 : BitVec 32 := Scalar.muli v1168 c128_i32_4070
  v6483
def k0_off37 (k0_t1 : Fin k0_t1_loop.trips) : Fin 3 → Nat :=
  let c0_4077 : Index := 0#32
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4070 : BitVec 32 := 128#32
  let v6483 : BitVec 32 := Scalar.muli v1168 c128_i32_4070
  let v6484 : BitVec 32 := v6483
  let v6491 : Index := Scalar.indexCast v6484
  let c0_4078 : Index := 0#32
  ![0, v6491.toNat, 0]
def k0_off38 (k0_t1 : Fin k0_t1_loop.trips) : Fin 3 → Nat :=
  let c0_4085 : Index := 0#32
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4070 : BitVec 32 := 128#32
  let v6483 : BitVec 32 := Scalar.muli v1168 c128_i32_4070
  let v6484 : BitVec 32 := v6483
  let v6501 : Index := Scalar.indexCast v6484
  let c128_4086 : Index := 128#32
  ![0, v6501.toNat, 128]
def k0_off39 (k0_t1 : Fin k0_t1_loop.trips) : Fin 3 → Nat :=
  let c0_4093 : Index := 0#32
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4070 : BitVec 32 := 128#32
  let v6483 : BitVec 32 := Scalar.muli v1168 c128_i32_4070
  let v6484 : BitVec 32 := v6483
  let v6511 : Index := Scalar.indexCast v6484
  let c256_4094 : Index := 256#32
  ![0, v6511.toNat, 256]
def k0_off40 (k0_t1 : Fin k0_t1_loop.trips) : Fin 3 → Nat :=
  let c0_4101 : Index := 0#32
  let c2_i32_739 : BitVec 32 := 2#32
  let c0_i32_735 : BitVec 32 := 0#32
  let c1_i32 : BitVec 32 := 1#32
  let arg12 : BitVec 32 := Scf.iv c0_i32_735 c1_i32 k0_t1
  let c5_i32_738 : BitVec 32 := 5#32
  let v1166 : BitVec 32 := Scalar.muli arg12 c5_i32_738
  let v1167 : BitVec 32 := Scalar.addi c2_i32_739 v1166
  let c1_i32_740 : BitVec 32 := 1#32
  let v1168 : BitVec 32 := Scalar.addi v1167 c1_i32_740
  let c128_i32_4070 : BitVec 32 := 128#32
  let v6483 : BitVec 32 := Scalar.muli v1168 c128_i32_4070
  let v6484 : BitVec 32 := v6483
  let v6521 : Index := Scalar.indexCast v6484
  let c384_4102 : Index := 384#32
  ![0, v6521.toNat, 384]
def k0_mult107 (arg13 : BitVec 32) : BitVec 32 :=
  let c128_i32_4070 : BitVec 32 := 128#32
  let v6483 : BitVec 32 := Scalar.muli arg13 c128_i32_4070
  v6483

def k0_mult108 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4071 : BitVec 32 := 128#32
  let v6485 : BitVec 32 := Scalar.muli v1171 c128_i32_4071
  v6485
def k0_off41 (k0_t1 : Fin k0_t1_loop.trips) : Fin 3 → Nat :=
  let c0_4072 : Index := 0#32
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4071 : BitVec 32 := 128#32
  let v6485 : BitVec 32 := Scalar.muli v1171 c128_i32_4071
  let v6486 : BitVec 32 := v6485
  let v6487 : Index := Scalar.indexCast v6486
  let c0_4073 : Index := 0#32
  ![0, v6487.toNat, 0]
def k0_off42 (arg13 : BitVec 32) : Fin 3 → Nat :=
  let c0_4074 : Index := 0#32
  let c128_i32_4070 : BitVec 32 := 128#32
  let v6483 : BitVec 32 := Scalar.muli arg13 c128_i32_4070
  let v6484 : BitVec 32 := v6483
  let v6490 : Index := Scalar.indexCast v6484
  let c0_4075 : Index := 0#32
  ![0, v6490.toNat, 0]
def k0_off43 (k0_t1 : Fin k0_t1_loop.trips) : Fin 3 → Nat :=
  let c0_4128 : Index := 0#32
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4071 : BitVec 32 := 128#32
  let v6485 : BitVec 32 := Scalar.muli v1171 c128_i32_4071
  let v6486 : BitVec 32 := v6485
  let v6575 : Index := Scalar.indexCast v6486
  let c128_4129 : Index := 128#32
  ![0, v6575.toNat, 128]
def k0_off44 (arg13 : BitVec 32) : Fin 3 → Nat :=
  let c0_4130 : Index := 0#32
  let c128_i32_4070 : BitVec 32 := 128#32
  let v6483 : BitVec 32 := Scalar.muli arg13 c128_i32_4070
  let v6484 : BitVec 32 := v6483
  let v6578 : Index := Scalar.indexCast v6484
  let c128_4131 : Index := 128#32
  ![0, v6578.toNat, 128]
def k0_off45 (k0_t1 : Fin k0_t1_loop.trips) : Fin 3 → Nat :=
  let c0_4184 : Index := 0#32
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4071 : BitVec 32 := 128#32
  let v6485 : BitVec 32 := Scalar.muli v1171 c128_i32_4071
  let v6486 : BitVec 32 := v6485
  let v6664 : Index := Scalar.indexCast v6486
  let c256_4185 : Index := 256#32
  ![0, v6664.toNat, 256]
def k0_off46 (arg13 : BitVec 32) : Fin 3 → Nat :=
  let c0_4186 : Index := 0#32
  let c128_i32_4070 : BitVec 32 := 128#32
  let v6483 : BitVec 32 := Scalar.muli arg13 c128_i32_4070
  let v6484 : BitVec 32 := v6483
  let v6667 : Index := Scalar.indexCast v6484
  let c256_4187 : Index := 256#32
  ![0, v6667.toNat, 256]
def k0_off47 (k0_t1 : Fin k0_t1_loop.trips) : Fin 3 → Nat :=
  let c0_4240 : Index := 0#32
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4071 : BitVec 32 := 128#32
  let v6485 : BitVec 32 := Scalar.muli v1171 c128_i32_4071
  let v6486 : BitVec 32 := v6485
  let v6753 : Index := Scalar.indexCast v6486
  let c384_4241 : Index := 384#32
  ![0, v6753.toNat, 384]
def k0_off48 (arg13 : BitVec 32) : Fin 3 → Nat :=
  let c0_4242 : Index := 0#32
  let c128_i32_4070 : BitVec 32 := 128#32
  let v6483 : BitVec 32 := Scalar.muli arg13 c128_i32_4070
  let v6484 : BitVec 32 := v6483
  let v6756 : Index := Scalar.indexCast v6484
  let c384_4243 : Index := 384#32
  ![0, v6756.toNat, 384]

def k0_chk3 (arg13 : BitVec 32) : Prop :=
  (128 ∣ (k0_mult107 arg13).toNat) ∧
  (∀ a, (k0_off42 arg13) a + S1x128x128.size a ≤ S1x4096x512.size a) ∧
  (∀ a, (k0_off44 arg13) a + S1x128x128.size a ≤ S1x4096x512.size a) ∧
  (∀ a, (k0_off46 arg13) a + S1x128x128.size a ≤ S1x4096x512.size a) ∧
  (∀ a, (k0_off48 arg13) a + S1x128x128.size a ≤ S1x4096x512.size a)
theorem k0_mult107_dvd : ∀ (arg13 : BitVec 32) (k0_hw3 : k0_chk3 arg13), 128 ∣ (k0_mult107 arg13).toNat := fun arg13 k0_hw3 => k0_hw3.1
theorem k0_off42_inb : ∀ (arg13 : BitVec 32) (k0_hw3 : k0_chk3 arg13), ∀ a, (k0_off42 arg13) a + S1x128x128.size a ≤ S1x4096x512.size a := fun arg13 k0_hw3 => k0_hw3.2.1
theorem k0_off44_inb : ∀ (arg13 : BitVec 32) (k0_hw3 : k0_chk3 arg13), ∀ a, (k0_off44 arg13) a + S1x128x128.size a ≤ S1x4096x512.size a := fun arg13 k0_hw3 => k0_hw3.2.2.1
theorem k0_off46_inb : ∀ (arg13 : BitVec 32) (k0_hw3 : k0_chk3 arg13), ∀ a, (k0_off46 arg13) a + S1x128x128.size a ≤ S1x4096x512.size a := fun arg13 k0_hw3 => k0_hw3.2.2.2.1
theorem k0_off48_inb : ∀ (arg13 : BitVec 32) (k0_hw3 : k0_chk3 arg13), ∀ a, (k0_off48 arg13) a + S1x128x128.size a ≤ S1x4096x512.size a := fun arg13 k0_hw3 => k0_hw3.2.2.2.2

def k0_mult109 (k0_t1 : Fin k0_t1_loop.trips) : BitVec 32 :=
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4070 : BitVec 32 := 128#32
  let v6483 : BitVec 32 := Scalar.muli v1171 c128_i32_4070
  v6483
def k0_off49 (k0_t1 : Fin k0_t1_loop.trips) : Fin 3 → Nat :=
  let c0_4077 : Index := 0#32
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4070 : BitVec 32 := 128#32
  let v6483 : BitVec 32 := Scalar.muli v1171 c128_i32_4070
  let v6484 : BitVec 32 := v6483
  let v6491 : Index := Scalar.indexCast v6484
  let c0_4078 : Index := 0#32
  ![0, v6491.toNat, 0]
def k0_off50 (k0_t1 : Fin k0_t1_loop.trips) : Fin 3 → Nat :=
  let c0_4085 : Index := 0#32
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4070 : BitVec 32 := 128#32
  let v6483 : BitVec 32 := Scalar.muli v1171 c128_i32_4070
  let v6484 : BitVec 32 := v6483
  let v6501 : Index := Scalar.indexCast v6484
  let c128_4086 : Index := 128#32
  ![0, v6501.toNat, 128]
def k0_off51 (k0_t1 : Fin k0_t1_loop.trips) : Fin 3 → Nat :=
  let c0_4093 : Index := 0#32
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4070 : BitVec 32 := 128#32
  let v6483 : BitVec 32 := Scalar.muli v1171 c128_i32_4070
  let v6484 : BitVec 32 := v6483
  let v6511 : Index := Scalar.indexCast v6484
  let c256_4094 : Index := 256#32
  ![0, v6511.toNat, 256]
def k0_off52 (k0_t1 : Fin k0_t1_loop.trips) : Fin 3 → Nat :=
  let c0_4101 : Index := 0#32
  let c2_i32_742 : BitVec 32 := 2#32
  let c0_i32_735 : BitVec 32 := 0#32
  let c1_i32 : BitVec 32 := 1#32
  let arg12 : BitVec 32 := Scf.iv c0_i32_735 c1_i32 k0_t1
  let c5_i32_741 : BitVec 32 := 5#32
  let v1169 : BitVec 32 := Scalar.muli arg12 c5_i32_741
  let v1170 : BitVec 32 := Scalar.addi c2_i32_742 v1169
  let c2_i32_743 : BitVec 32 := 2#32
  let v1171 : BitVec 32 := Scalar.addi v1170 c2_i32_743
  let c128_i32_4070 : BitVec 32 := 128#32
  let v6483 : BitVec 32 := Scalar.muli v1171 c128_i32_4070
  let v6484 : BitVec 32 := v6483
  let v6521 : Index := Scalar.indexCast v6484
  let c384_4102 : Index := 384#32
  ![0, v6521.toNat, 384]
def k0_mult110 (arg13 : BitVec 32) : BitVec 32 :=
  let c128_i32_4070 : BitVec 32 := 128#32
  let v6483 : BitVec 32 := Scalar.muli arg13 c128_i32_4070
  v6483

def k0_mult111 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4071 : BitVec 32 := 128#32
  let v6485 : BitVec 32 := Scalar.muli v1174 c128_i32_4071
  v6485
def k0_off53 (k0_t1 : Fin k0_t1_loop.trips) : Fin 3 → Nat :=
  let c0_4072 : Index := 0#32
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4071 : BitVec 32 := 128#32
  let v6485 : BitVec 32 := Scalar.muli v1174 c128_i32_4071
  let v6486 : BitVec 32 := v6485
  let v6487 : Index := Scalar.indexCast v6486
  let c0_4073 : Index := 0#32
  ![0, v6487.toNat, 0]
def k0_off54 (arg13 : BitVec 32) : Fin 3 → Nat :=
  let c0_4074 : Index := 0#32
  let c128_i32_4070 : BitVec 32 := 128#32
  let v6483 : BitVec 32 := Scalar.muli arg13 c128_i32_4070
  let v6484 : BitVec 32 := v6483
  let v6490 : Index := Scalar.indexCast v6484
  let c0_4075 : Index := 0#32
  ![0, v6490.toNat, 0]
def k0_off55 (k0_t1 : Fin k0_t1_loop.trips) : Fin 3 → Nat :=
  let c0_4128 : Index := 0#32
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4071 : BitVec 32 := 128#32
  let v6485 : BitVec 32 := Scalar.muli v1174 c128_i32_4071
  let v6486 : BitVec 32 := v6485
  let v6575 : Index := Scalar.indexCast v6486
  let c128_4129 : Index := 128#32
  ![0, v6575.toNat, 128]
def k0_off56 (arg13 : BitVec 32) : Fin 3 → Nat :=
  let c0_4130 : Index := 0#32
  let c128_i32_4070 : BitVec 32 := 128#32
  let v6483 : BitVec 32 := Scalar.muli arg13 c128_i32_4070
  let v6484 : BitVec 32 := v6483
  let v6578 : Index := Scalar.indexCast v6484
  let c128_4131 : Index := 128#32
  ![0, v6578.toNat, 128]
def k0_off57 (k0_t1 : Fin k0_t1_loop.trips) : Fin 3 → Nat :=
  let c0_4184 : Index := 0#32
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4071 : BitVec 32 := 128#32
  let v6485 : BitVec 32 := Scalar.muli v1174 c128_i32_4071
  let v6486 : BitVec 32 := v6485
  let v6664 : Index := Scalar.indexCast v6486
  let c256_4185 : Index := 256#32
  ![0, v6664.toNat, 256]
def k0_off58 (arg13 : BitVec 32) : Fin 3 → Nat :=
  let c0_4186 : Index := 0#32
  let c128_i32_4070 : BitVec 32 := 128#32
  let v6483 : BitVec 32 := Scalar.muli arg13 c128_i32_4070
  let v6484 : BitVec 32 := v6483
  let v6667 : Index := Scalar.indexCast v6484
  let c256_4187 : Index := 256#32
  ![0, v6667.toNat, 256]
def k0_off59 (k0_t1 : Fin k0_t1_loop.trips) : Fin 3 → Nat :=
  let c0_4240 : Index := 0#32
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4071 : BitVec 32 := 128#32
  let v6485 : BitVec 32 := Scalar.muli v1174 c128_i32_4071
  let v6486 : BitVec 32 := v6485
  let v6753 : Index := Scalar.indexCast v6486
  let c384_4241 : Index := 384#32
  ![0, v6753.toNat, 384]
def k0_off60 (arg13 : BitVec 32) : Fin 3 → Nat :=
  let c0_4242 : Index := 0#32
  let c128_i32_4070 : BitVec 32 := 128#32
  let v6483 : BitVec 32 := Scalar.muli arg13 c128_i32_4070
  let v6484 : BitVec 32 := v6483
  let v6756 : Index := Scalar.indexCast v6484
  let c384_4243 : Index := 384#32
  ![0, v6756.toNat, 384]

def k0_chk4 (arg13 : BitVec 32) : Prop :=
  (128 ∣ (k0_mult110 arg13).toNat) ∧
  (∀ a, (k0_off54 arg13) a + S1x128x128.size a ≤ S1x4096x512.size a) ∧
  (∀ a, (k0_off56 arg13) a + S1x128x128.size a ≤ S1x4096x512.size a) ∧
  (∀ a, (k0_off58 arg13) a + S1x128x128.size a ≤ S1x4096x512.size a) ∧
  (∀ a, (k0_off60 arg13) a + S1x128x128.size a ≤ S1x4096x512.size a)
theorem k0_mult110_dvd : ∀ (arg13 : BitVec 32) (k0_hw4 : k0_chk4 arg13), 128 ∣ (k0_mult110 arg13).toNat := fun arg13 k0_hw4 => k0_hw4.1
theorem k0_off54_inb : ∀ (arg13 : BitVec 32) (k0_hw4 : k0_chk4 arg13), ∀ a, (k0_off54 arg13) a + S1x128x128.size a ≤ S1x4096x512.size a := fun arg13 k0_hw4 => k0_hw4.2.1
theorem k0_off56_inb : ∀ (arg13 : BitVec 32) (k0_hw4 : k0_chk4 arg13), ∀ a, (k0_off56 arg13) a + S1x128x128.size a ≤ S1x4096x512.size a := fun arg13 k0_hw4 => k0_hw4.2.2.1
theorem k0_off58_inb : ∀ (arg13 : BitVec 32) (k0_hw4 : k0_chk4 arg13), ∀ a, (k0_off58 arg13) a + S1x128x128.size a ≤ S1x4096x512.size a := fun arg13 k0_hw4 => k0_hw4.2.2.2.1
theorem k0_off60_inb : ∀ (arg13 : BitVec 32) (k0_hw4 : k0_chk4 arg13), ∀ a, (k0_off60 arg13) a + S1x128x128.size a ≤ S1x4096x512.size a := fun arg13 k0_hw4 => k0_hw4.2.2.2.2

def k0_mult112 (k0_t1 : Fin k0_t1_loop.trips) : BitVec 32 :=
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4070 : BitVec 32 := 128#32
  let v6483 : BitVec 32 := Scalar.muli v1174 c128_i32_4070
  v6483
def k0_off61 (k0_t1 : Fin k0_t1_loop.trips) : Fin 3 → Nat :=
  let c0_4077 : Index := 0#32
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4070 : BitVec 32 := 128#32
  let v6483 : BitVec 32 := Scalar.muli v1174 c128_i32_4070
  let v6484 : BitVec 32 := v6483
  let v6491 : Index := Scalar.indexCast v6484
  let c0_4078 : Index := 0#32
  ![0, v6491.toNat, 0]
def k0_off62 (k0_t1 : Fin k0_t1_loop.trips) : Fin 3 → Nat :=
  let c0_4085 : Index := 0#32
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4070 : BitVec 32 := 128#32
  let v6483 : BitVec 32 := Scalar.muli v1174 c128_i32_4070
  let v6484 : BitVec 32 := v6483
  let v6501 : Index := Scalar.indexCast v6484
  let c128_4086 : Index := 128#32
  ![0, v6501.toNat, 128]
def k0_off63 (k0_t1 : Fin k0_t1_loop.trips) : Fin 3 → Nat :=
  let c0_4093 : Index := 0#32
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4070 : BitVec 32 := 128#32
  let v6483 : BitVec 32 := Scalar.muli v1174 c128_i32_4070
  let v6484 : BitVec 32 := v6483
  let v6511 : Index := Scalar.indexCast v6484
  let c256_4094 : Index := 256#32
  ![0, v6511.toNat, 256]
def k0_off64 (k0_t1 : Fin k0_t1_loop.trips) : Fin 3 → Nat :=
  let c0_4101 : Index := 0#32
  let c2_i32_745 : BitVec 32 := 2#32
  let c0_i32_735 : BitVec 32 := 0#32
  let c1_i32 : BitVec 32 := 1#32
  let arg12 : BitVec 32 := Scf.iv c0_i32_735 c1_i32 k0_t1
  let c5_i32_744 : BitVec 32 := 5#32
  let v1172 : BitVec 32 := Scalar.muli arg12 c5_i32_744
  let v1173 : BitVec 32 := Scalar.addi c2_i32_745 v1172
  let c3_i32 : BitVec 32 := 3#32
  let v1174 : BitVec 32 := Scalar.addi v1173 c3_i32
  let c128_i32_4070 : BitVec 32 := 128#32
  let v6483 : BitVec 32 := Scalar.muli v1174 c128_i32_4070
  let v6484 : BitVec 32 := v6483
  let v6521 : Index := Scalar.indexCast v6484
  let c384_4102 : Index := 384#32
  ![0, v6521.toNat, 384]
def k0_mult113 (arg13 : BitVec 32) : BitVec 32 :=
  let c128_i32_4070 : BitVec 32 := 128#32
  let v6483 : BitVec 32 := Scalar.muli arg13 c128_i32_4070
  v6483

def k0_mult114 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4071 : BitVec 32 := 128#32
  let v6485 : BitVec 32 := Scalar.muli v1177 c128_i32_4071
  v6485
def k0_off65 (k0_t1 : Fin k0_t1_loop.trips) : Fin 3 → Nat :=
  let c0_4072 : Index := 0#32
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4071 : BitVec 32 := 128#32
  let v6485 : BitVec 32 := Scalar.muli v1177 c128_i32_4071
  let v6486 : BitVec 32 := v6485
  let v6487 : Index := Scalar.indexCast v6486
  let c0_4073 : Index := 0#32
  ![0, v6487.toNat, 0]
def k0_off66 (arg13 : BitVec 32) : Fin 3 → Nat :=
  let c0_4074 : Index := 0#32
  let c128_i32_4070 : BitVec 32 := 128#32
  let v6483 : BitVec 32 := Scalar.muli arg13 c128_i32_4070
  let v6484 : BitVec 32 := v6483
  let v6490 : Index := Scalar.indexCast v6484
  let c0_4075 : Index := 0#32
  ![0, v6490.toNat, 0]
def k0_off67 (k0_t1 : Fin k0_t1_loop.trips) : Fin 3 → Nat :=
  let c0_4128 : Index := 0#32
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4071 : BitVec 32 := 128#32
  let v6485 : BitVec 32 := Scalar.muli v1177 c128_i32_4071
  let v6486 : BitVec 32 := v6485
  let v6575 : Index := Scalar.indexCast v6486
  let c128_4129 : Index := 128#32
  ![0, v6575.toNat, 128]
def k0_off68 (arg13 : BitVec 32) : Fin 3 → Nat :=
  let c0_4130 : Index := 0#32
  let c128_i32_4070 : BitVec 32 := 128#32
  let v6483 : BitVec 32 := Scalar.muli arg13 c128_i32_4070
  let v6484 : BitVec 32 := v6483
  let v6578 : Index := Scalar.indexCast v6484
  let c128_4131 : Index := 128#32
  ![0, v6578.toNat, 128]
def k0_off69 (k0_t1 : Fin k0_t1_loop.trips) : Fin 3 → Nat :=
  let c0_4184 : Index := 0#32
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4071 : BitVec 32 := 128#32
  let v6485 : BitVec 32 := Scalar.muli v1177 c128_i32_4071
  let v6486 : BitVec 32 := v6485
  let v6664 : Index := Scalar.indexCast v6486
  let c256_4185 : Index := 256#32
  ![0, v6664.toNat, 256]
def k0_off70 (arg13 : BitVec 32) : Fin 3 → Nat :=
  let c0_4186 : Index := 0#32
  let c128_i32_4070 : BitVec 32 := 128#32
  let v6483 : BitVec 32 := Scalar.muli arg13 c128_i32_4070
  let v6484 : BitVec 32 := v6483
  let v6667 : Index := Scalar.indexCast v6484
  let c256_4187 : Index := 256#32
  ![0, v6667.toNat, 256]
def k0_off71 (k0_t1 : Fin k0_t1_loop.trips) : Fin 3 → Nat :=
  let c0_4240 : Index := 0#32
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4071 : BitVec 32 := 128#32
  let v6485 : BitVec 32 := Scalar.muli v1177 c128_i32_4071
  let v6486 : BitVec 32 := v6485
  let v6753 : Index := Scalar.indexCast v6486
  let c384_4241 : Index := 384#32
  ![0, v6753.toNat, 384]
def k0_off72 (arg13 : BitVec 32) : Fin 3 → Nat :=
  let c0_4242 : Index := 0#32
  let c128_i32_4070 : BitVec 32 := 128#32
  let v6483 : BitVec 32 := Scalar.muli arg13 c128_i32_4070
  let v6484 : BitVec 32 := v6483
  let v6756 : Index := Scalar.indexCast v6484
  let c384_4243 : Index := 384#32
  ![0, v6756.toNat, 384]

def k0_chk5 (arg13 : BitVec 32) : Prop :=
  (128 ∣ (k0_mult113 arg13).toNat) ∧
  (∀ a, (k0_off66 arg13) a + S1x128x128.size a ≤ S1x4096x512.size a) ∧
  (∀ a, (k0_off68 arg13) a + S1x128x128.size a ≤ S1x4096x512.size a) ∧
  (∀ a, (k0_off70 arg13) a + S1x128x128.size a ≤ S1x4096x512.size a) ∧
  (∀ a, (k0_off72 arg13) a + S1x128x128.size a ≤ S1x4096x512.size a)
theorem k0_mult113_dvd : ∀ (arg13 : BitVec 32) (k0_hw5 : k0_chk5 arg13), 128 ∣ (k0_mult113 arg13).toNat := fun arg13 k0_hw5 => k0_hw5.1
theorem k0_off66_inb : ∀ (arg13 : BitVec 32) (k0_hw5 : k0_chk5 arg13), ∀ a, (k0_off66 arg13) a + S1x128x128.size a ≤ S1x4096x512.size a := fun arg13 k0_hw5 => k0_hw5.2.1
theorem k0_off68_inb : ∀ (arg13 : BitVec 32) (k0_hw5 : k0_chk5 arg13), ∀ a, (k0_off68 arg13) a + S1x128x128.size a ≤ S1x4096x512.size a := fun arg13 k0_hw5 => k0_hw5.2.2.1
theorem k0_off70_inb : ∀ (arg13 : BitVec 32) (k0_hw5 : k0_chk5 arg13), ∀ a, (k0_off70 arg13) a + S1x128x128.size a ≤ S1x4096x512.size a := fun arg13 k0_hw5 => k0_hw5.2.2.2.1
theorem k0_off72_inb : ∀ (arg13 : BitVec 32) (k0_hw5 : k0_chk5 arg13), ∀ a, (k0_off72 arg13) a + S1x128x128.size a ≤ S1x4096x512.size a := fun arg13 k0_hw5 => k0_hw5.2.2.2.2

def k0_mult115 (k0_t1 : Fin k0_t1_loop.trips) : BitVec 32 :=
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4070 : BitVec 32 := 128#32
  let v6483 : BitVec 32 := Scalar.muli v1177 c128_i32_4070
  v6483
def k0_off73 (k0_t1 : Fin k0_t1_loop.trips) : Fin 3 → Nat :=
  let c0_4077 : Index := 0#32
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4070 : BitVec 32 := 128#32
  let v6483 : BitVec 32 := Scalar.muli v1177 c128_i32_4070
  let v6484 : BitVec 32 := v6483
  let v6491 : Index := Scalar.indexCast v6484
  let c0_4078 : Index := 0#32
  ![0, v6491.toNat, 0]
def k0_off74 (k0_t1 : Fin k0_t1_loop.trips) : Fin 3 → Nat :=
  let c0_4085 : Index := 0#32
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4070 : BitVec 32 := 128#32
  let v6483 : BitVec 32 := Scalar.muli v1177 c128_i32_4070
  let v6484 : BitVec 32 := v6483
  let v6501 : Index := Scalar.indexCast v6484
  let c128_4086 : Index := 128#32
  ![0, v6501.toNat, 128]
def k0_off75 (k0_t1 : Fin k0_t1_loop.trips) : Fin 3 → Nat :=
  let c0_4093 : Index := 0#32
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4070 : BitVec 32 := 128#32
  let v6483 : BitVec 32 := Scalar.muli v1177 c128_i32_4070
  let v6484 : BitVec 32 := v6483
  let v6511 : Index := Scalar.indexCast v6484
  let c256_4094 : Index := 256#32
  ![0, v6511.toNat, 256]
def k0_off76 (k0_t1 : Fin k0_t1_loop.trips) : Fin 3 → Nat :=
  let c0_4101 : Index := 0#32
  let c2_i32_747 : BitVec 32 := 2#32
  let c0_i32_735 : BitVec 32 := 0#32
  let c1_i32 : BitVec 32 := 1#32
  let arg12 : BitVec 32 := Scf.iv c0_i32_735 c1_i32 k0_t1
  let c5_i32_746 : BitVec 32 := 5#32
  let v1175 : BitVec 32 := Scalar.muli arg12 c5_i32_746
  let v1176 : BitVec 32 := Scalar.addi c2_i32_747 v1175
  let c4_i32 : BitVec 32 := 4#32
  let v1177 : BitVec 32 := Scalar.addi v1176 c4_i32
  let c128_i32_4070 : BitVec 32 := 128#32
  let v6483 : BitVec 32 := Scalar.muli v1177 c128_i32_4070
  let v6484 : BitVec 32 := v6483
  let v6521 : Index := Scalar.indexCast v6484
  let c384_4102 : Index := 384#32
  ![0, v6521.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "dead" => some ⊥
  | "log2e" => some (((Real.log 2)⁻¹ : ℝ) : EReal)
  | "mask" => some ⊥
  | _ => none
-- ==== ReferenceIdeal.lean ====
abbrev S8x4096x1024 : Shape := ⟨3, ![8, 4096, 1024]⟩
abbrev S8x4096x16x64 : Shape := ⟨4, ![8, 4096, 16, 64]⟩
abbrev S8x16x4096x64 : Shape := ⟨4, ![8, 16, 4096, 64]⟩
abbrev S8x16x4096x4096 : Shape := ⟨4, ![8, 16, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S8x4096x16x64, .bf16⟩
  | .hbm, ⟨4, _⟩ => ⟨S8x16x4096x64, .bf16⟩
  | .hbm, ⟨5, _⟩ => ⟨S8x4096x16x64, .bf16⟩
  | .hbm, ⟨6, _⟩ => ⟨S8x16x4096x64, .bf16⟩
  | .hbm, ⟨7, _⟩ => ⟨S8x4096x16x64, .bf16⟩
  | .hbm, ⟨8, _⟩ => ⟨S8x16x4096x64, .bf16⟩
  | .hbm, ⟨9, _⟩ => ⟨S8x16x4096x4096, .f32⟩
  | .hbm, ⟨10, _⟩ => ⟨S_, .f32⟩
  | .hbm, ⟨11, _⟩ => ⟨S_, .f32⟩
  | .hbm, ⟨12, _⟩ => ⟨S8x16x4096x4096, .f32⟩
  | .hbm, ⟨13, _⟩ => ⟨S8x16x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S8x16x4096x4096, .f32⟩
  | .hbm, ⟨23, _⟩ => ⟨S8x16x4096x4096, .f32⟩
  | .hbm, ⟨24, _⟩ => ⟨S8x16x4096x4096, .f32⟩
  | .hbm, ⟨25, _⟩ => ⟨S8x16x4096x4096, .f32⟩
  | .hbm, ⟨26, _⟩ => ⟨S8x16x4096x4096, .i1⟩
  | .hbm, ⟨27, _⟩ => ⟨S8x16x4096x4096, .f32⟩
  | .hbm, ⟨28, _⟩ => ⟨S8x16x4096x4096, .f32⟩
  | .hbm, ⟨29, _⟩ => ⟨S8x16x4096x4096, .f32⟩
  | .hbm, ⟨30, _⟩ => ⟨S8x16x4096x4096, .f32⟩
  | .hbm, ⟨31, _⟩ => ⟨S8x16x4096x4096, .f32⟩
  | .hbm, ⟨32, _⟩ => ⟨S8x16x4096x4096, .f32⟩
  | .hbm, ⟨33, _⟩ => ⟨S8x16x4096x4096, .f32⟩
  | .hbm, ⟨34, _⟩ => ⟨S8x16x4096x4096, .f32⟩
  | .hbm, ⟨35, _⟩ => ⟨S8x16x4096x4096, .f32⟩
  | .hbm, ⟨36, _⟩ => ⟨S_, .f32⟩
  | .hbm, ⟨37, _⟩ => ⟨S_, .f32⟩
  | .hbm, ⟨38, _⟩ => ⟨S8x16x4096x4096, .i1⟩
  | .hbm, ⟨39, _⟩ => ⟨S8x16x4096x4096, .f32⟩
  | .hbm, ⟨40, _⟩ => ⟨S8x16x4096x4096, .f32⟩
  | .hbm, ⟨41, _⟩ => ⟨S_, .f32⟩
  | .hbm, ⟨42, _⟩ => ⟨S_, .f32⟩
  | .hbm, ⟨43, _⟩ => ⟨S8x16x4096x4096, .f32⟩
  | .hbm, ⟨44, _⟩ => ⟨S8x16x4096x4096, .f32⟩
  | .hbm, ⟨45, _⟩ => ⟨S8x16x4096x4096, .f32⟩
  | .hbm, ⟨46, _⟩ => ⟨S_, .f32⟩
  | .hbm, ⟨47, _⟩ => ⟨S8x16x4096x4096, .f32⟩
  | .hbm, ⟨48, _⟩ => ⟨S8x16x4096x4096, .f32⟩
  | .hbm, ⟨49, _⟩ => ⟨S8x16x4096x4096, .f32⟩
  | .hbm, ⟨50, _⟩ => ⟨S8x16x4096x4096, .f32⟩
  | .hbm, ⟨51, _⟩ => ⟨S8x16x4096x4096, .i1⟩
  | .hbm, ⟨52, _⟩ => ⟨S8x16x4096x4096, .f32⟩
  | .hbm, ⟨53, _⟩ => ⟨S8x16x4096x4096, .f32⟩
  | .hbm, ⟨54, _⟩ => ⟨S8x16x4096x4096, .f32⟩
  | .hbm, ⟨55, _⟩ => ⟨S8x16x4096x4096, .f32⟩
  | .hbm, ⟨56, _⟩ => ⟨S8x16x4096x4096, .f32⟩
  | .hbm, ⟨57, _⟩ => ⟨S8x16x4096x4096, .f32⟩
  | .hbm, ⟨58, _⟩ => ⟨S8x16x4096x4096, .f32⟩
  | .hbm, ⟨59, _⟩ => ⟨S8x16x4096x4096, .f32⟩
  | .hbm, ⟨60, _⟩ => ⟨S8x16x4096x4096, .f32⟩
  | .hbm, ⟨61, _⟩ => ⟨S8x16x4096x4096, .f32⟩
  | .hbm, ⟨62, _⟩ => ⟨S8x16x4096x4096, .f32⟩
  | .hbm, ⟨63, _⟩ => ⟨S_, .f32⟩
  | .hbm, ⟨64, _⟩ => ⟨S_, .f32⟩
  | .hbm, ⟨65, _⟩ => ⟨S8x16x4096x4096, .i1⟩
  | .hbm, ⟨66, _⟩ => ⟨S8x16x4096x4096, .f32⟩
  | .hbm, ⟨67, _⟩ => ⟨S8x16x4096x4096, .f32⟩
  | .hbm, ⟨68, _⟩ => ⟨S8x16x4096x64, .f32⟩
  | .hbm, ⟨69, _⟩ => ⟨S8x16x4096x64, .f32⟩
  | .hbm, ⟨70, _⟩ => ⟨S8x4096x16x64, .f32⟩
  | .hbm, ⟨71, _⟩ => ⟨S8x4096x1024, .f32⟩
  | .hbm, ⟨72, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S32768x1024 : Shape := ⟨2, ![32768, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S512x4096 : Shape := ⟨2, ![512, 4096]⟩
abbrev S512x1 : Shape := ⟨2, ![512, 1]⟩
abbrev S1024x256 : Shape := ⟨2, ![1024, 256]⟩
abbrev S512x256 : Shape := ⟨2, ![512, 256]⟩
abbrev S512 : Shape := ⟨1, ![512]⟩
abbrev S1x1024x512 : Shape := ⟨3, ![1, 1024, 512]⟩
abbrev S1024x512 : Shape := ⟨2, ![1024, 512]⟩
abbrev S512x512 : Shape := ⟨2, ![512, 512]⟩
abbrev S1x4096x256 : Shape := ⟨3, ![1, 4096, 256]⟩
abbrev S4096x256 : Shape := ⟨2, ![4096, 256]⟩

abbrev nBuf : Space → Nat
  | .hbm => 25
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S2x1024x1024, .f32⟩
  | .hbm, ⟨3, _⟩ => ⟨S4x1024x4096, .f32⟩
  | .hbm, ⟨4, _⟩ => ⟨S4x4096x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024x4096, .bf16⟩
  | .hbm, ⟨9, _⟩ => ⟨S4x4096x1024, .bf16⟩
  | .hbm, ⟨10, _⟩ => ⟨S32768x1024, .bf16⟩
  | .hbm, ⟨11, _⟩ => ⟨S1x1024x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S32768x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x4096x1024 : Shape := ⟨3, ![8, 4096, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S2x1024x1024, .f32⟩
  | .hbm, ⟨3, _⟩ => ⟨S4x1024x4096, .f32⟩
  | .hbm, ⟨4, _⟩ => ⟨S4x4096x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S8x4096x1024, .f32⟩
  | .hbm, ⟨9, _⟩ => ⟨S1x1024x1024, .f32⟩
  | .hbm, ⟨10, _⟩ => ⟨S1024x1024, .f32⟩
  | .hbm, ⟨11, _⟩ => ⟨S8x4096x1024, .f32⟩
  | .hbm, ⟨12, _⟩ => ⟨S1x1024, .f32⟩
  | .hbm, ⟨13, _⟩ => ⟨S1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S1x1024, .f32⟩
  | .hbm, ⟨32, _⟩ => ⟨S1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S1x1024x4096, .f32⟩
  | .hbm, ⟨50, _⟩ => ⟨S1024x4096, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S1x4096x1024, .f32⟩
  | .hbm, ⟨57, _⟩ => ⟨S4096x1024, .f32⟩
  | .hbm, ⟨58, _⟩ => ⟨S8x4096x1024, .f32⟩
  | .hbm, ⟨59, _⟩ => ⟨S1x1024, .f32⟩
  | .hbm, ⟨60, _⟩ => ⟨S1024, .f32⟩
  | .hbm, ⟨61, _⟩ => ⟨S8x4096x1024, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x1024x1024 : Shape := ⟨3, ![2, 1024, 1024]⟩
abbrev S1024x2048 : Shape := ⟨2, ![1024, 2048]⟩
abbrev S1024 : Shape := ⟨1, ![1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S1x1024 : Shape := ⟨2, ![1, 1024]⟩
abbrev S1x1024x1024 : Shape := ⟨3, ![1, 1024, 1024]⟩
abbrev S1024x1024 : Shape := ⟨2, ![1024, 1024]⟩
abbrev S32768x1024 : Shape := ⟨2, ![32768, 1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x4096x256 : Shape := ⟨3, ![1, 4096, 256]⟩
abbrev S4096x256 : Shape := ⟨2, ![4096, 256]⟩
abbrev S512x256 : Shape := ⟨2, ![512, 256]⟩
abbrev S1024x256 : Shape := ⟨2, ![1024, 256]⟩

abbrev nBuf : Space → Nat
  | .hbm => 30
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S2x1024x1024, .f32⟩
  | .hbm, ⟨2, _⟩ => ⟨S1024x2048, .f32⟩
  | .hbm, ⟨3, _⟩ => ⟨S1024, .f32⟩
  | .hbm, ⟨4, _⟩ => ⟨S4x1024x4096, .f32⟩
  | .hbm, ⟨5, _⟩ => ⟨S4x4096x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024x4096, .bf16⟩
  | .hbm, ⟨10, _⟩ => ⟨S4x4096x1024, .bf16⟩
  | .hbm, ⟨11, _⟩ => ⟨S1x1024, .f32⟩
  | .hbm, ⟨12, _⟩ => ⟨S1024x2048, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024x1024, .f32⟩
  | .hbm, ⟨17, _⟩ => ⟨S1024x1024, .f32⟩
  | .hbm, ⟨18, _⟩ => ⟨S1024x1024, .bf16⟩
  | .hbm, ⟨19, _⟩ => ⟨S32768x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S32768x1024, .f32⟩
  | .hbm, ⟨27, _⟩ => ⟨S32768x1024, .bf16⟩
  | .hbm, ⟨28, _⟩ => ⟨S32768x1024, .bf16⟩
  | .hbm, ⟨29, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024x4096, .bf16⟩
  | .local _ .vmem, ⟨5, _⟩ => ⟨S1x4096x1024, .bf16⟩
  | .local _ .vmem, ⟨6, _⟩ => ⟨S1x1024, .f32⟩
  | .local _ .vmem, ⟨7, _⟩ => ⟨S1024x2048, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x4096, .bf16⟩
  | .local _ .vmem, ⟨19, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel3Ideal.lean ====
variable {F : FTy → Type} [FloatOps F] [Named F]
def κ : String → Option EReal := fun
  | "q_scale" => some (((Real.log 2)⁻¹ * (1 / 8) : ℝ) : EReal)
  | _ => none
-- ==== Reference3Ideal.lean ====
abbrev S8x4096x1024 : Shape := ⟨3, ![8, 4096, 1024]⟩
abbrev S2x1024x1024 : Shape := ⟨3, ![2, 1024, 1024]⟩
abbrev S1024x2048 : Shape := ⟨2, ![1024, 2048]⟩
abbrev S1024 : Shape := ⟨1, ![1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S8x4096x2048 : Shape := ⟨3, ![8, 4096, 2048]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024x1024, .f32⟩
  | .hbm, ⟨2, _⟩ => ⟨S1024x2048, .f32⟩
  | .hbm, ⟨3, _⟩ => ⟨S1024, .f32⟩
  | .hbm, ⟨4, _⟩ => ⟨S4x1024x4096, .f32⟩
  | .hbm, ⟨5, _⟩ => ⟨S4x4096x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S1x1024, .f32⟩
  | .hbm, ⟨10, _⟩ => ⟨S1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S1x1024x4096, .f32⟩
  | .hbm, ⟨28, _⟩ => ⟨S1024x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S1x4096x1024, .f32⟩
  | .hbm, ⟨35, _⟩ => ⟨S4096x1024, .f32⟩
  | .hbm, ⟨36, _⟩ => ⟨S8x4096x1024, .f32⟩
  | .hbm, ⟨37, _⟩ => ⟨S1x1024, .f32⟩
  | .hbm, ⟨38, _⟩ => ⟨S1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S1x1x1024, .f32⟩
  | .hbm, ⟨70, _⟩ => ⟨S8x4096x1024, .f32⟩
  | .hbm, ⟨71, _⟩ => ⟨S8x4096x1024, .f32⟩
  | .hbm, ⟨72, _⟩ => ⟨S8x4096x2048, .f32⟩
  | .hbm, ⟨73, _⟩ => ⟨S8x4096x1024, .f32⟩
  | .hbm, ⟨74, _⟩ => ⟨S8x4096x1024, .f32⟩
  | .hbm, ⟨75, _⟩ => ⟨S1x1024, .f32⟩
  | .hbm, ⟨76, _⟩ => ⟨S1024, .f32⟩
  | .hbm, ⟨77, _⟩ => ⟨S8x4096x1024, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | .hbm, ⟨93, _⟩ => ⟨S1x1024x1024, .f32⟩
  | .hbm, ⟨94, _⟩ => ⟨S1024x1024, .f32⟩
  | .hbm, ⟨95, _⟩ => ⟨S8x4096x1024, .f32⟩
  | .hbm, ⟨96, _⟩ => ⟨S_, .f32⟩
  | .hbm, ⟨97, _⟩ => ⟨S8x4096x1024, .f32⟩
  | .hbm, ⟨98, _⟩ => ⟨S8x4096x1024, .f32⟩
  | .hbm, ⟨99, _⟩ => ⟨S_, .f32⟩
  | .hbm, ⟨100, _⟩ => ⟨S_, .f32⟩
  | .hbm, ⟨101, _⟩ => ⟨S8x4096x1024, .f32⟩
  | .hbm, ⟨102, _⟩ => ⟨S8x4096x1024, .f32⟩
  | .hbm, ⟨103, _⟩ => ⟨S32768x1024, .f32⟩
  | .hbm, ⟨104, _⟩ => ⟨S32768x1024, .f32⟩
  | .hbm, ⟨105, _⟩ => ⟨S32768x1024, .bf16⟩
  | .hbm, ⟨106, _⟩ => ⟨S32768x1024, .f32⟩
  | .hbm, ⟨107, _⟩ => ⟨S32768x1024, .bf16⟩
  | .hbm, ⟨108, _⟩ => ⟨S32768x1024, .f32⟩
  | .hbm, ⟨109, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Proof.Model.lean ====
module

public import proofs.«01_k».proof.KernelIdeal

@[expose] public section

set_option maxRecDepth 16384

/-!
# The kernel, phase by phase

The printed kernel is one long list of loads, stores and vector operations. Here the same list is
put together from a few definitions, each taking what follows it as its last argument: the loads
and stores of one block, the scores, weights and values of a query tile, the walk over the older
blocks, the trip of the loop over query tiles. `Same.lean` has that both are the same program.
-/

namespace Cert.KernelIdeal.M
open Idealize.ShloMosaic Idealize.SL.Sem
open Facts₀ Facts
variable {F : FTy → Type} [FloatOps F] [Named F]
variable [Facts]
noncomputable section

/-- A program of the kernel's thread. -/
abbrev K (F : FTy → Type) [FloatOps F] [Named F] [Facts] (α : Type) := Prog (TpuEff nD τ sig (Elt F) (Λ₀ F) .tc) α

/-- The buffers a grid step works on, each a whole array. -/
structure Bufs where
  (q k v : Memref sig .tc .vmem S1x4096x512 .bf16)
  (u : Memref sig .tc .vmem S256x256 .bf16)
  (o : Memref sig .tc .vmem S1x4096x512 .bf16)
  (acc : Memref sig .tc .vmem S8x128x128 .f32)
  (car : Memref sig .tc .vmem S5x8x128x128 .f32)
  (sp : Memref sig .tc .vmem S5x768x512 .bf16)
  (z : Memref sig .tc .vmem S5x768x512 .f32)
  (a : Memref sig .tc .vmem S5x768x512 .bf16)
  (hq : q.IsWhole) (hk : k.IsWhole) (hv : v.IsWhole) (hu : u.IsWhole) (ho : o.IsWhole)
  (hacc : acc.IsWhole) (hcar : car.IsWhole) (hsp : sp.IsWhole) (hz : z.IsWhole) (ha : a.IsWhole)

/-! ## What is computed of blocks -/

/-- A tile of numbers, 128 × 128. -/
abbrev T (F : FTy → Type) := FVec F S128x128 .f32
/-- A tile of rounded numbers. -/
abbrev B (F : FTy → Type) := FVec F S128x128 .bf16

/-- log₂ (1 + 2 ^ z), as the kernel writes it. -/
def softplus2 (z : T F) : T F :=
  addf (maximumf z (broadcast S128x128 (Scalar.ofBits .f32 0x00000000#32)))
    (mulf (log (addf (broadcast S128x128 (Scalar.ofBits .f32 0x3F800000#32))
      (exp2 (subf (broadcast S128x128 (Scalar.ofBits .f32 0x00000000#32)) (absf z)))))
      (broadcast S128x128 (Named.named κ "log2e" 0x3FB8AA3B#32)))

/-- The lanes of one head, the others zero. -/
def lane (m : IVec S128x128 1) (x : B F) : B F := select m x (broadcast S128x128 (Scalar.ofBits .bf16 0x0000#16))

/-- The scores of a query tile against one block of keys. -/
def scores (q k : B F) : T F := matmul dot_S128x128_S128x128_S128x128_1_1_0_0_n_n none q k (constant S128x128 .f32 0x00000000#32)

/-- The sum of each row, as a column. -/
def rowSum (s : T F) : FVec F S128x1 .f32 :=
  shapeCast S128x1 (multiReduction .add [1] S128 s 0x00000000#32 reduces_S128x128_S128 (.inl rfl) rfl) shapeCasts_S128_S128x1

/-- A column repeated along the lanes. -/
def wide (c : FVec F S128x1 .f32) : T F := broadcastTo S128x128 c broadcasts_S128x1_S128x128

def mm (x y : B F) : T F := matmul dot_S128x128_S128x128_S128x128_1_0_0_1_n_n none x y (constant S128x128 .f32 0x00000000#32)

def round (x : T F) : B F := truncf .bf16 x bitsLt_bf16_f32

/-- Whether a number is above the bound at which a carry leaves nothing to give. -/
def above (x : FVec F S1 .f32) : BitVec 1 :=
  Scalar.cmpf .ogt (extractAt ![0, 0, 0] (shapeCast S1x1x1 x shapeCasts_S1_S1x1x1) inpos_S1x1x1_p0_0_0) (Named.named κ "dead" 0xC3160000#32)

/-- Whether the largest of a column is. -/
def aliveCol (x : FVec F S128x1 .f32) : BitVec 1 :=
  above (multiReduction .maximumf [1, 2] S1 (shapeCast S1x128x1 x shapeCasts_S128x1_S1x128x1) 0xFF800000#32 reduces_S1x128x1_S1 (.inl rfl) rfl)

/-- Whether the largest of a tile is. -/
def alive (x : T F) : BitVec 1 :=
  above (multiReduction .maximumf [1, 2] S1 (shapeCast S1x128x128 x shapeCasts_S128x128_S1x128x128) 0xFF800000#32 reduces_S1x128x128_S1 (.inl rfl) rfl)

/-- Key before query. -/
def causal : IVec S128x128 1 := cmpi .slt (iota .tc S128x128 32 [1] iota_S128x128_d1_w32) (iota .tc S128x128 32 [0] iota_S128x128_d0_w32)
/-- The lanes of the first head of a pair. -/
def lane0 : IVec S128x128 1 := cmpi .slt (iota .tc S128x128 32 [1] iota_S128x128_d1_w32) (broadcast S128x128 64#32)
/-- The lanes of the second. -/
def lane1 : IVec S128x128 1 := cmpi .sge (iota .tc S128x128 32 [1] iota_S128x128_d1_w32) (broadcast S128x128 64#32)

/-! ## The boxes -/

theorem inb7 (h : Fin 8) : ∀ a, (![h.1, 0, 0] : Fin 3 → Nat) a + S1x128x128.size a ≤ S8x128x128.size a := by
  revert h; decide
theorem inb8 (s : Fin 5) (h : Fin 8) : ∀ a, (![s.1, h.1, 0, 0] : Fin 4 → Nat) a + S1x1x128x128.size a ≤ S5x8x128x128.size a := by
  revert s h; decide
theorem inbT (s : Fin 5) (b : Fin 6) (p : Fin 4) : ∀ a, (![s.1, 128 * b.1, 128 * p.1] : Fin 3 → Nat) a + S1x128x128.size a ≤ S5x768x512.size a := by
  revert s b p; decide
theorem inbW (s : Fin 5) (b : Fin 3) (c : Fin 2) : ∀ a, (![s.1, 256 * b.1, 256 * c.1] : Fin 3 → Nat) a + S1x256x256.size a ≤ S5x768x512.size a := by
  revert s b c; decide
theorem inbV (s : Fin 5) (b : Fin 3) (p : Fin 4) : ∀ a, (![s.1, 256 * b.1, 128 * p.1] : Fin 3 → Nat) a + S1x256x128.size a ≤ S5x768x512.size a := by
  revert s b p; decide
theorem packT (s : Fin 5) (b : Fin 6) (p : Fin 4) : (Rect.unit (s := S5x768x512) ![s.1, 128 * b.1, 128 * p.1] S1x128x128.size (inbT s b p)).PackedRows (EltTy.packing .bf16) := by
  exact .inr ⟨by decide, rfl, .inl ⟨⟨64 * b.1, by show 128 * b.1 = 2 * (64 * b.1); omega⟩, ⟨64, rfl⟩⟩⟩
theorem packW (s : Fin 5) (b : Fin 3) (c : Fin 2) : (Rect.unit (s := S5x768x512) ![s.1, 256 * b.1, 256 * c.1] S1x256x256.size (inbW s b c)).PackedRows (EltTy.packing .bf16) := by
  exact .inr ⟨by decide, rfl, .inl ⟨⟨128 * b.1, by show 256 * b.1 = 2 * (128 * b.1); omega⟩, ⟨128, rfl⟩⟩⟩

/-- One head's accumulator. -/
abbrev r7 (h : Fin 8) := Rect.unit (s := S8x128x128) ![h.1, 0, 0] S1x128x128.size (inb7 h)
/-- One head's carry in a slot. -/
abbrev r8 (s : Fin 5) (h : Fin 8) := Rect.unit (s := S5x8x128x128) ![s.1, h.1, 0, 0] S1x1x128x128.size (inb8 s h)
/-- One staged tile of a slot. -/
abbrev rT (s : Fin 5) (b : Fin 6) (p : Fin 4) := Rect.unit (s := S5x768x512) ![s.1, 128 * b.1, 128 * p.1] S1x128x128.size (inbT s b p)
/-- Two by two staged tiles. -/
abbrev rW (s : Fin 5) (b : Fin 3) (c : Fin 2) := Rect.unit (s := S5x768x512) ![s.1, 256 * b.1, 256 * c.1] S1x256x256.size (inbW s b c)
/-- Two staged tiles, one under the other. -/
abbrev rV (s : Fin 5) (b : Fin 3) (p : Fin 4) := Rect.unit (s := S5x768x512) ![s.1, 256 * b.1, 128 * p.1] S1x256x128.size (inbV s b p)

/-- A row a block of `n` tiles may begin at. -/
def okR (n r : Nat) : Prop := 128 ∣ r ∧ r + 128 * n ≤ 4096

theorem inbR {r : Nat} (h : okR 1 r) (p : Fin 4) : ∀ a, (![0, r, 128 * p.1] : Fin 3 → Nat) a + S1x128x128.size a ≤ S1x4096x512.size a := by
  have h' := h.2
  intro a; fin_cases a
  · exact Nat.le_refl 1
  · exact h'
  · show 128 * p.1 + 128 ≤ 512; omega
theorem inbR2 {r : Nat} (h : okR 2 r) (p : Fin 4) : ∀ a, (![0, r, 128 * p.1] : Fin 3 → Nat) a + S1x256x128.size a ≤ S1x4096x512.size a := by
  have h' := h.2
  intro a; fin_cases a
  · exact Nat.le_refl 1
  · exact h'
  · show 128 * p.1 + 128 ≤ 512; omega
theorem inbR3 {r : Nat} (h : okR 3 r) (p : Fin 4) : ∀ a, (![0, r, 128 * p.1] : Fin 3 → Nat) a + S1x384x128.size a ≤ S1x4096x512.size a := by
  have h' := h.2
  intro a; fin_cases a
  · exact Nat.le_refl 1
  · exact h'
  · show 128 * p.1 + 128 ≤ 512; omega

/-- One block of one pair of heads. -/
abbrev rB {r : Nat} (h : okR 1 r) (p : Fin 4) := Rect.unit (s := S1x4096x512) ![0, r, 128 * p.1] S1x128x128.size (inbR h p)
abbrev rB2 {r : Nat} (h : okR 2 r) (p : Fin 4) := Rect.unit (s := S1x4096x512) ![0, r, 128 * p.1] S1x256x128.size (inbR2 h p)
abbrev rB3 {r : Nat} (h : okR 3 r) (p : Fin 4) := Rect.unit (s := S1x4096x512) ![0, r, 128 * p.1] S1x384x128.size (inbR3 h p)

theorem packR {r : Nat} (h : okR 1 r) (p : Fin 4) : (rB h p).PackedRows (EltTy.packing .bf16) :=
  .inr ⟨by decide, rfl, .inl (by
    obtain ⟨x, hx⟩ := h.1
    exact ⟨⟨64 * x, by show r = 2 * (64 * x); omega⟩, ⟨64, rfl⟩⟩)⟩

/-! ## Loads and stores of blocks -/

variable {α : Type}

def ldB (m : Memref sig .tc .vmem S1x4096x512 .bf16) {r : Nat} (h : okR 1 r) (p : Fin 4) (next : B F → K F α) : K F α :=
  .op (.load m (rB h p).toLoadRect (View.loadsAt_vmem h_S1x128x128)) fun x =>
  next (shapeCast S128x128 x shapeCasts_S1x128x128_S128x128 : FVec F S128x128 .bf16)

def ldB2 (m : Memref sig .tc .vmem S1x4096x512 .bf16) {r : Nat} (h : okR 2 r) (p : Fin 4) (next : FVec F S256x128 .bf16 → K F α) : K F α :=
  .op (.load m (rB2 h p).toLoadRect (View.loadsAt_vmem h_S1x256x128)) fun x =>
  next (shapeCast S256x128 x shapeCasts_S1x256x128_S256x128 : FVec F S256x128 .bf16)

def ldB3 (m : Memref sig .tc .vmem S1x4096x512 .bf16) {r : Nat} (h : okR 3 r) (p : Fin 4) (next : FVec F S384x128 .bf16 → K F α) : K F α :=
  .op (.load m (rB3 h p).toLoadRect (View.loadsAt_vmem h_S1x384x128)) fun x =>
  next (shapeCast S384x128 x shapeCasts_S1x384x128_S384x128 : FVec F S384x128 .bf16)

def stO (β : Bufs) {r : Nat} (h : okR 1 r) (p : Fin 4) (x : B F) (next : K F α) : K F α :=
  .op (.load β.o (rB h p).toLoadRect (View.loadsAt_vmem h_S1x128x128)) fun _ =>
  .op (.store β.o (rB h p) (shapeCast S1x128x128 x shapeCasts_S128x128_S1x128x128) Finset.univ
    (View.stores_vmem h_S1x128x128 (β.ho.storeExact_slice rfl _ (packR h p)) (fun _ => rfl)) (.inl rfl)) fun _ => next

def ldAcc (β : Bufs) (h : Fin 8) (next : T F → K F α) : K F α :=
  .op (.load β.acc (r7 h).toLoadRect (View.loadsAt_vmem h_S1x128x128)) fun x =>
  next (shapeCast S128x128 x shapeCasts_S1x128x128_S128x128 : FVec F S128x128 .f32)

def stAcc (β : Bufs) (h : Fin 8) (x : T F) (next : K F α) : K F α :=
  .op (.load β.acc (r7 h).toLoadRect (View.loadsAt_vmem h_S1x128x128)) fun _ =>
  .op (.store β.acc (r7 h) (shapeCast S1x128x128 x shapeCasts_S128x128_S1x128x128) Finset.univ
    (View.stores_vmem_bits_univ h_S1x128x128 rfl) (.inl rfl)) fun _ => next

def ldCar (β : Bufs) (s : Fin 5) (h : Fin 8) (next : T F → K F α) : K F α :=
  .op (.load β.car (r8 s h).toLoadRect (View.loadsAt_vmem h_S1x1x128x128)) fun x =>
  next (shapeCast S128x128 x shapeCasts_S1x1x128x128_S128x128 : FVec F S128x128 .f32)

def stCar (β : Bufs) (s : Fin 5) (h : Fin 8) (x : T F) (next : K F α) : K F α :=
  .op (.load β.car (r8 s h).toLoadRect (View.loadsAt_vmem h_S1x1x128x128)) fun _ =>
  .op (.store β.car (r8 s h) (shapeCast S1x1x128x128 x shapeCasts_S128x128_S1x1x128x128) Finset.univ
    (View.stores_vmem_bits_univ h_S1x1x128x128 rfl) (.inl rfl)) fun _ => next

def ldZ (β : Bufs) (s : Fin 5) (b : Fin 6) (p : Fin 4) (next : T F → K F α) : K F α :=
  .op (.load β.z (rT s b p).toLoadRect (View.loadsAt_vmem h_S1x128x128)) fun x =>
  next (shapeCast S128x128 x shapeCasts_S1x128x128_S128x128 : FVec F S128x128 .f32)

def stZ (β : Bufs) (s : Fin 5) (b : Fin 6) (p : Fin 4) (x : T F) (next : K F α) : K F α :=
  .op (.load β.z (rT s b p).toLoadRect (View.loadsAt_vmem h_S1x128x128)) fun _ =>
  .op (.store β.z (rT s b p) (shapeCast S1x128x128 x shapeCasts_S128x128_S1x128x128) Finset.univ
    (View.stores_vmem_bits_univ h_S1x128x128 rfl) (.inl rfl)) fun _ => next

def stSp (β : Bufs) (s : Fin 5) (b : Fin 6) (p : Fin 4) (x : B F) (next : K F α) : K F α :=
  .op (.load β.sp (rT s b p).toLoadRect (View.loadsAt_vmem h_S1x128x128)) fun _ =>
  .op (.store β.sp (rT s b p) (shapeCast S1x128x128 x shapeCasts_S128x128_S1x128x128) Finset.univ
    (View.stores_vmem h_S1x128x128 (β.hsp.storeExact_slice rfl _ (packT s b p)) (fun _ => rfl)) (.inl rfl)) fun _ => next

def ldSpW (β : Bufs) (s : Fin 5) (b : Fin 3) (c : Fin 2) (next : FVec F S256x256 .bf16 → K F α) : K F α :=
  .op (.load β.sp (rW s b c).toLoadRect (View.loadsAt_vmem h_S1x256x256)) fun x =>
  next (shapeCast S256x256 x shapeCasts_S1x256x256_S256x256 : FVec F S256x256 .bf16)

def ldZW (β : Bufs) (s : Fin 5) (b : Fin 3) (c : Fin 2) (next : FVec F S256x256 .f32 → K F α) : K F α :=
  .op (.load β.z (rW s b c).toLoadRect (View.loadsAt_vmem h_S1x256x256)) fun x =>
  next (shapeCast S256x256 x shapeCasts_S1x256x256_S256x256 : FVec F S256x256 .f32)

def stAW (β : Bufs) (s : Fin 5) (b : Fin 3) (c : Fin 2) (x : FVec F S256x256 .bf16) (next : K F α) : K F α :=
  .op (.load β.a (rW s b c).toLoadRect (View.loadsAt_vmem h_S1x256x256)) fun _ =>
  .op (.store β.a (rW s b c) (shapeCast S1x256x256 x shapeCasts_S256x256_S1x256x256) Finset.univ
    (View.stores_vmem h_S1x256x256 (β.ha.storeExact_slice rfl _ (packW s b c)) (fun _ => rfl)) (.inl rfl)) fun _ => next

def ldAV (β : Bufs) (s : Fin 5) (b : Fin 3) (p : Fin 4) (next : FVec F S256x128 .bf16 → K F α) : K F α :=
  .op (.load β.a (rV s b p).toLoadRect (View.loadsAt_vmem h_S1x256x128)) fun x =>
  next (shapeCast S256x128 x shapeCasts_S1x256x128_S256x128 : FVec F S256x128 .bf16)

def ldU (β : Bufs) (next : FVec F S256x256 .bf16 → K F α) : K F α :=
  .op (.load β.u (Rect.unit (s := S256x256) ![0, 0] S256x256.size inb_S256x256_S256x256_0_0).toLoadRect (View.loadsAt_vmem h_S256x256)) fun x =>
  next (shapeCast S256x256 x shapeCasts_S256x256_S256x256 : FVec F S256x256 .bf16)

def ldU1 (β : Bufs) (next : B F → K F α) : K F α :=
  .op (.load β.u (Rect.unit (s := S256x256) ![0, 0] S128x128.size inb_S256x256_S128x128_0_0).toLoadRect (View.loadsAt_vmem h_S128x128)) fun x =>
  next (shapeCast S128x128 x shapeCasts_S128x128_S128x128 : FVec F S128x128 .bf16)

/-- Something for each pair of heads. -/
def pairs (f : Fin 4 → K F α → K F α) (next : K F α) : K F α := f 0 (f 1 (f 2 (f 3 next)))

/-! ## Scores -/

/-- A head of a pair as one of the eight. -/
abbrev hd (p : Fin 4) (hh : Fin 2) : Fin 8 := ⟨2 * p.1 + hh.1, by omega⟩
/-- A block's staged tile for a head of a pair. -/
abbrev tl (b : Fin 3) (hh : Fin 2) : Fin 6 := ⟨2 * b.1 + hh.1, by omega⟩

def laneOf (hh : Fin 2) : IVec S128x128 1 := match hh with | 0 => lane0 | 1 => lane1

def zs1 (β : Bufs) (s : Fin 5) {qr kr : Nat} (hq : okR 1 qr) (hk : okR 1 kr) (p : Fin 4) (next : K F α) : K F α :=
  ldB β.q hq p fun q => ldB β.k hk p fun k =>
  stZ β s (tl 0 0) p (scores (lane lane0 q) k) <|
  stZ β s (tl 0 1) p (scores (lane lane1 q) k) next

def zs2 (β : Bufs) (s : Fin 5) {qr kr : Nat} (hq : okR 1 qr) (hk : okR 2 kr) (p : Fin 4) (next : K F α) : K F α :=
  ldB β.q hq p fun q => ldB2 β.k hk p fun k =>
  let z0 : FVec F S128x256 .f32 := matmul dot_S128x128_S256x128_S128x256_1_1_0_0_n_n none (lane lane0 q) k (constant S128x256 .f32 0x00000000#32)
  let z1 : FVec F S128x256 .f32 := matmul dot_S128x128_S256x128_S128x256_1_1_0_0_n_n none (lane lane1 q) k (constant S128x256 .f32 0x00000000#32)
  stZ β s (tl 0 0) p (extractStridedSlice S128x128 ![0, 0] z0 slices_S128x256_o0_0_S128x128) <|
  stZ β s (tl 1 0) p (extractStridedSlice S128x128 ![0, 128] z0 slices_S128x256_o0_128_S128x128) <|
  stZ β s (tl 0 1) p (extractStridedSlice S128x128 ![0, 0] z1 slices_S128x256_o0_0_S128x128) <|
  stZ β s (tl 1 1) p (extractStridedSlice S128x128 ![0, 128] z1 slices_S128x256_o0_128_S128x128) next

def zs3 (β : Bufs) (s : Fin 5) {qr kr : Nat} (hq : okR 1 qr) (hk : okR 3 kr) (p : Fin 4) (next : K F α) : K F α :=
  ldB β.q hq p fun q => ldB3 β.k hk p fun k =>
  let z0 : FVec F S128x384 .f32 := matmul dot_S128x128_S384x128_S128x384_1_1_0_0_n_n none (lane lane0 q) k (constant S128x384 .f32 0x00000000#32)
  let z1 : FVec F S128x384 .f32 := matmul dot_S128x128_S384x128_S128x384_1_1_0_0_n_n none (lane lane1 q) k (constant S128x384 .f32 0x00000000#32)
  stZ β s (tl 0 0) p (extractStridedSlice S128x128 ![0, 0] z0 slices_S128x384_o0_0_S128x128) <|
  stZ β s (tl 1 0) p (extractStridedSlice S128x128 ![0, 128] z0 slices_S128x384_o0_128_S128x128) <|
  stZ β s (tl 2 0) p (extractStridedSlice S128x128 ![0, 256] z0 slices_S128x384_o0_256_S128x128) <|
  stZ β s (tl 0 1) p (extractStridedSlice S128x128 ![0, 0] z1 slices_S128x384_o0_0_S128x128) <|
  stZ β s (tl 1 1) p (extractStridedSlice S128x128 ![0, 128] z1 slices_S128x384_o0_128_S128x128) <|
  stZ β s (tl 2 1) p (extractStridedSlice S128x128 ![0, 256] z1 slices_S128x384_o0_256_S128x128) next

/-- The tile on the diagonal: what the mask leaves of it. -/
def masked (z : T F) : T F := select causal z (broadcast S128x128 (Named.named κ "mask" 0xF149F2CA#32))

def diagBlk (β : Bufs) (s : Fin 5) (b : Fin 3) (p : Fin 4) (hh : Fin 2) (next : FVec F S128x1 .f32 → K F α) : K F α :=
  ldZ β s (tl b hh) p fun z =>
  stSp β s (tl b hh) p (round (softplus2 (masked z))) <|
  stZ β s (tl b hh) p (masked z) <|
  next (subf (broadcast S128x1 (Scalar.ofBits .f32 0x00000000#32)) (rowSum (softplus2 (masked z))))

def nearBlk (β : Bufs) (s : Fin 5) (b : Fin 3) (p : Fin 4) (hh : Fin 2) (c : FVec F S128x1 .f32) (next : FVec F S128x1 .f32 → K F α) : K F α :=
  ldZ β s (tl b hh) p fun z =>
  stSp β s (tl b hh) p (round (softplus2 z)) <|
  stZ β s (tl b hh) p (addf z (wide c)) <|
  next (subf c (rowSum (softplus2 z)))

def carOut (β : Bufs) (s : Fin 5) (p : Fin 4) (hh : Fin 2) (c : FVec F S128x1 .f32) (next : FVec F S128x1 .f32 → K F α) : K F α :=
  stCar β s (hd p hh) (wide (shapeCast S128x1 c shapeCasts_S128x1_S128x1)) (next c)

def head1 (β : Bufs) (s : Fin 5) (p : Fin 4) (hh : Fin 2) (next : FVec F S128x1 .f32 → K F α) : K F α :=
  diagBlk β s 0 p hh fun c => carOut β s p hh c next
def head2 (β : Bufs) (s : Fin 5) (p : Fin 4) (hh : Fin 2) (next : FVec F S128x1 .f32 → K F α) : K F α :=
  diagBlk β s 1 p hh fun c => nearBlk β s 0 p hh c fun c => carOut β s p hh c next
def head3 (β : Bufs) (s : Fin 5) (p : Fin 4) (hh : Fin 2) (next : FVec F S128x1 .f32 → K F α) : K F α :=
  diagBlk β s 2 p hh fun c => nearBlk β s 1 p hh c fun c => nearBlk β s 0 p hh c fun c => carOut β s p hh c next

/-- What each of the eight heads gives, and the largest of it. -/
def heads (f : Fin 4 → Fin 2 → (FVec F S128x1 .f32 → K F α) → K F α) (next : FVec F S128x1 .f32 → K F α) : K F α :=
  f 0 0 fun c0 => f 0 1 fun c1 => f 1 0 fun c2 => f 1 1 fun c3 =>
  f 2 0 fun c4 => f 2 1 fun c5 => f 3 0 fun c6 => f 3 1 fun c7 =>
  next (maximumf (maximumf (maximumf (maximumf (maximumf (maximumf (maximumf c0 c1) c2) c3) c4) c5) c6) c7)

/-! ## Weights and values -/

def weightBox (β : Bufs) (s : Fin 5) (b : Fin 3) (c : Fin 2) (next : K F α) : K F α :=
  ldSpW β s b c fun sp => ldU β fun u => ldZW β s b c fun z =>
  stAW β s b c (truncf .bf16 (exp2 (addf z (matmul dot_S256x256_S256x256_S256x256_1_0_0_1_n_n none sp u (constant S256x256 .f32 0x00000000#32)))) bitsLt_bf16_f32) next

def weight (β : Bufs) (s : Fin 5) (b : Fin 3) (next : K F α) : K F α := weightBox β s b 0 (weightBox β s b 1 next)

def weights1 (β : Bufs) (s : Fin 5) (next : K F α) : K F α := weight β s 0 next
def weights2 (β : Bufs) (s : Fin 5) (next : K F α) : K F α := weight β s 0 (weight β s 1 next)
def weights3 (β : Bufs) (s : Fin 5) (next : K F α) : K F α := weight β s 0 (weight β s 1 (weight β s 2 next))

/-- Both heads' weights on the values of one block. -/
def part (a : FVec F S256x128 .bf16) (v : B F) : FVec F S256x128 .f32 :=
  matmul dot_S256x128_S128x128_S256x128_1_0_0_1_n_n none a v (constant S256x128 .f32 0x00000000#32)

def top (x : FVec F S256x128 .f32) : T F := extractStridedSlice S128x128 ![0, 0] x slices_S256x128_o0_0_S128x128
def bot (x : FVec F S256x128 .f32) : T F := extractStridedSlice S128x128 ![128, 0] x slices_S256x128_o128_0_S128x128

/-- Each head's result on its own lanes. -/
def both (x y : T F) : B F := round (select lane0 x y)

def val1 (β : Bufs) (s : Fin 5) {qr v0 : Nat} (hq : okR 1 qr) (h0 : okR 1 v0) (p : Fin 4) (next : FVec F S256x128 .f32 → K F α) : K F α :=
  ldB β.v h0 p fun v0 => ldAV β s 0 p fun a0 =>
  let x := part a0 v0
  stO β hq p (both (top x) (bot x)) (next x)
def val2 (β : Bufs) (s : Fin 5) {qr v0 v1 : Nat} (hq : okR 1 qr) (h0 : okR 1 v0) (h1 : okR 1 v1) (p : Fin 4) (next : FVec F S256x128 .f32 → K F α) : K F α :=
  ldB β.v h0 p fun v0 => ldAV β s 0 p fun a0 => ldB β.v h1 p fun v1 => ldAV β s 1 p fun a1 =>
  let x := addf (part a0 v0) (part a1 v1)
  stO β hq p (both (top x) (bot x)) (next x)
def val3 (β : Bufs) (s : Fin 5) {qr v0 v1 v2 : Nat} (hq : okR 1 qr) (h0 : okR 1 v0) (h1 : okR 1 v1) (h2 : okR 1 v2) (p : Fin 4) (next : FVec F S256x128 .f32 → K F α) : K F α :=
  ldB β.v h0 p fun v0 => ldAV β s 0 p fun a0 => ldB β.v h1 p fun v1 => ldAV β s 1 p fun a1 => ldB β.v h2 p fun v2 => ldAV β s 2 p fun a2 =>
  let x := addf (addf (part a0 v0) (part a1 v1)) (part a2 v2)
  stO β hq p (both (top x) (bot x)) (next x)

/-! ## The older blocks -/

/-- One head of one older block: its share added to the accumulator, its carry moved on. -/
def oldHead (β : Bufs) (s : Fin 5) (p : Fin 4) (hh : Fin 2) (q k v : B F) (next : T F → K F α) : K F α :=
  ldCar β s (hd p hh) fun c => ldU1 β fun u => ldAcc β (hd p hh) fun a =>
  let z := scores (lane (laneOf hh) q) k
  let sp := softplus2 z
  stAcc β (hd p hh) (addf a (mm (round (exp2 (addf (addf z (mm (round sp) u)) c))) v)) <|
  stCar β s (hd p hh) (subf c (wide (rowSum sp))) <|
  next (subf c (wide (rowSum sp)))

def oldPair (β : Bufs) (s : Fin 5) {qr kr : Nat} (hq : okR 1 qr) (hk : okR 1 kr) (p : Fin 4) (next : T F → T F → K F α) : K F α :=
  ldB β.q hq p fun q => ldB β.k hk p fun k => ldB β.v hk p fun v =>
  oldHead β s p 0 q k v fun c0 => oldHead β s p 1 q k v fun c1 => next c0 c1

/-- One older block, and whether another is called for. -/
def oldBody (β : Bufs) (s : Fin 5) {qr kr : Nat} (hq : okR 1 qr) (hk : okR 1 kr) (next : BitVec 1 → K F α) : K F α :=
  oldPair β s hq hk 0 fun c0 c1 => oldPair β s hq hk 1 fun c2 c3 =>
  oldPair β s hq hk 2 fun c4 c5 => oldPair β s hq hk 3 fun c6 c7 =>
  next (alive (maximumf (maximumf (maximumf (maximumf (maximumf (maximumf (maximumf c0 c1) c2) c3) c4) c5) c6) c7))

/-- The row a word's block begins at. -/
abbrev rowOf (w : BitVec 32) : Nat := (Scalar.indexCast (Scalar.muli w 128#32)).toNat

theorem okK (w : BitVec 32) (h : k0_chk1 w) : okR 1 (rowOf w) := ⟨h.1, h.2.1 1⟩

/-- A turn of the walk over the older blocks, and what comes after it. -/
def walk (β : Bufs) (s : Fin 5) {qr : Nat} (hq : okR 1 qr) (j : BitVec 32) (b : BitVec 1) (again : BitVec 32 → BitVec 1 → K F (BitVec 32 × BitVec 1)) : K F (BitVec 32 × BitVec 1) :=
  if Scalar.andi (Scalar.cmpi .sge j 0#32) b = 1#1 then
    .op (TpuEff.assume (k0_chk1 j) (k0_chk1.dec j)) fun hw =>
    oldBody β s hq (okK j hw.down) fun al => again (Scalar.subi j 1#32) al
  else .ret (j, b)

/-- The accumulators before the walk. -/
def accIn (β : Bufs) (x : Fin 4 → FVec F S256x128 .f32) (next : K F α) : K F α :=
  stAcc β 0 (top (x 0)) <| stAcc β 1 (bot (x 0)) <| stAcc β 2 (top (x 1)) <| stAcc β 3 (bot (x 1)) <|
  stAcc β 4 (top (x 2)) <| stAcc β 5 (bot (x 2)) <| stAcc β 6 (top (x 3)) <| stAcc β 7 (bot (x 3)) next

/-- The tile after the walk. -/
def accOut (β : Bufs) {qr : Nat} (hq : okR 1 qr) (next : K F α) : K F α :=
  pairs (fun p n => ldAcc β (hd p 0) fun x => ldAcc β (hd p 1) fun y => stO β hq p (both x y) n) next

/-- Whether a query tile's walk has a first turn. -/
def go (f : BitVec 32) (live : BitVec 1) : BitVec 1 := Scalar.andi (Scalar.cmpi .sge f 0#32) live
/-- The same, as the kernel's conditions have it. -/
abbrev goes (f : BitVec 32) (live : BitVec 1) : BitVec 1 := Scalar.cmpi .ne (Scalar.extui (go f live)) 0#32

/-- The accumulators set, where the walk has a first turn. -/
def before (β : Bufs) (f : BitVec 32) (live : BitVec 1) (x : Fin 4 → FVec F S256x128 .f32) (next : K F α) : K F α :=
  if goes f live = 1#1 then accIn β x next else next

/-- The tile written again, where it had one. -/
def after (β : Bufs) {qr : Nat} (hq : okR 1 qr) (f : BitVec 32) (live : BitVec 1) (next : K F α) : K F α :=
  if goes f live = 1#1 then accOut β hq next else next

/-! ## Tiles -/

/-- All of a query tile with the blocks `0 … n` of keys, for the first two tiles. -/
def tile1 (β : Bufs) {qr : Nat} (hq : okR 1 qr) (next : K F α) : K F α :=
  pairs (zs1 β 0 hq hq) <| heads (head1 β 0) fun _ => weights1 β 0 <|
  val1 β 0 hq hq 0 fun _ => val1 β 0 hq hq 1 fun _ => val1 β 0 hq hq 2 fun _ => val1 β 0 hq hq 3 fun _ => next

def tile2 (β : Bufs) {qr k0 : Nat} (hq : okR 1 qr) (hk : okR 2 k0) (h0 : okR 1 k0) (next : K F α) : K F α :=
  pairs (zs2 β 0 hq hk) <| heads (head2 β 0) fun _ => weights2 β 0 <|
  val2 β 0 hq h0 hq 0 fun _ => val2 β 0 hq h0 hq 1 fun _ => val2 β 0 hq h0 hq 2 fun _ => val2 β 0 hq h0 hq 3 fun _ => next

/-- The scores of a later tile, and whether its walk may have a turn. -/
def score3 (β : Bufs) (s : Fin 5) {qr kr : Nat} (hq : okR 1 qr) (hk : okR 3 kr) (next : BitVec 1 → K F α) : K F α :=
  pairs (zs3 β s hq hk) <| heads (head3 β s) fun m => next (aliveCol m)

def value3 (β : Bufs) (s : Fin 5) {qr v0 v1 v2 : Nat} (hq : okR 1 qr) (h0 : okR 1 v0) (h1 : okR 1 v1) (h2 : okR 1 v2)
    (next : (Fin 4 → FVec F S256x128 .f32) → K F α) : K F α :=
  val3 β s hq h0 h1 h2 0 fun x0 => val3 β s hq h0 h1 h2 1 fun x1 => val3 β s hq h0 h1 h2 2 fun x2 =>
  val3 β s hq h0 h1 h2 3 fun x3 => next ![x0, x1, x2, x3]

/-! ## A trip -/

/-- The query tile of slot `s` at trip `t`. -/
abbrev qi (t : Fin k0_t1_loop.trips) (s : BitVec 32) : BitVec 32 :=
  Scalar.addi (Scalar.addi 2#32 (Scalar.muli (Scf.iv 0#32 1#32 t) 5#32)) s
/-- Its first block of keys. -/
abbrev kRow (t : Fin k0_t1_loop.trips) (s : BitVec 32) : Nat := rowOf (Scalar.subi (qi t s) 2#32)
/-- The rows of values. -/
abbrev vRow (t : Fin k0_t1_loop.trips) (s b : BitVec 32) : Nat :=
  (Scalar.indexCast (Scalar.addi (Scalar.muli (Scalar.subi (qi t s) 2#32) 128#32) b)).toNat
/-- The block its walk begins with. -/
abbrev fst (t : Fin k0_t1_loop.trips) (s : BitVec 32) : BitVec 32 := Scalar.subi (Scalar.subi (qi t s) 2#32) 1#32

/-- The rows a trip works on are those of blocks. -/
structure Rows (t : Fin k0_t1_loop.trips) (s : BitVec 32) : Prop where
  q : okR 1 (rowOf (qi t s))
  k : okR 3 (kRow t s)
  v0 : okR 1 (vRow t s 0#32)
  v1 : okR 1 (vRow t s 128#32)
  v2 : okR 1 (vRow t s 256#32)

/-- The scores of the five tiles of a trip, and of each whether its walk may have a turn. -/
def scores5 (β : Bufs) {t : Fin k0_t1_loop.trips} (r0 : Rows t 0#32) (r1 : Rows t 1#32) (r2 : Rows t 2#32) (r3 : Rows t 3#32) (r4 : Rows t 4#32)
    (next : BitVec 1 → BitVec 1 → BitVec 1 → BitVec 1 → BitVec 1 → K F α) : K F α :=
  score3 β 0 r0.q r0.k fun l0 => score3 β 1 r1.q r1.k fun l1 => score3 β 2 r2.q r2.k fun l2 =>
  score3 β 3 r3.q r3.k fun l3 => score3 β 4 r4.q r4.k fun l4 => next l0 l1 l2 l3 l4

def weights5 (β : Bufs) (next : K F α) : K F α :=
  weights3 β 0 <| weights3 β 1 <| weights3 β 2 <| weights3 β 3 <| weights3 β 4 next

def values5 (β : Bufs) {t : Fin k0_t1_loop.trips} (r0 : Rows t 0#32) (r1 : Rows t 1#32) (r2 : Rows t 2#32) (r3 : Rows t 3#32) (r4 : Rows t 4#32)
    (next : (x0 x1 x2 x3 x4 : Fin 4 → FVec F S256x128 .f32) → K F α) : K F α :=
  value3 β 0 r0.q r0.v0 r0.v1 r0.v2 fun x0 => value3 β 1 r1.q r1.v0 r1.v1 r1.v2 fun x1 => value3 β 2 r2.q r2.v0 r2.v1 r2.v2 fun x2 =>
  value3 β 3 r3.q r3.v0 r3.v1 r3.v2 fun x3 => value3 β 4 r4.q r4.v0 r4.v1 r4.v2 fun x4 => next x0 x1 x2 x3 x4

/-- The walk of each slot, called. -/
def call1 (β : Bufs) (i : grid0.Coords) (t : Fin k0_t1_loop.trips) (l0 : BitVec 1) (f : BitVec 32) (b : BitVec 1) : K F (BitVec 32 × BitVec 1) :=
  .op (.call (1 : (Λ₀ F).Label) ⟨i, t, l0, β.q, β.hq, β.k, β.hk, β.v, β.hv, lane0, β.car, β.hcar, β.u, β.hu, β.acc, β.hacc, lane1, f, b⟩) .ret
def call2 (β : Bufs) (i : grid0.Coords) (t : Fin k0_t1_loop.trips) (l0 l1 : BitVec 1) (f : BitVec 32) (b : BitVec 1) : K F (BitVec 32 × BitVec 1) :=
  .op (.call (2 : (Λ₀ F).Label) ⟨i, t, l0, l1, β.q, β.hq, β.k, β.hk, β.v, β.hv, lane0, β.car, β.hcar, β.u, β.hu, β.acc, β.hacc, lane1, f, b⟩) .ret
def call3 (β : Bufs) (i : grid0.Coords) (t : Fin k0_t1_loop.trips) (l0 l1 l2 : BitVec 1) (f : BitVec 32) (b : BitVec 1) : K F (BitVec 32 × BitVec 1) :=
  .op (.call (3 : (Λ₀ F).Label) ⟨i, t, l0, l1, l2, β.q, β.hq, β.k, β.hk, β.v, β.hv, lane0, β.car, β.hcar, β.u, β.hu, β.acc, β.hacc, lane1, f, b⟩) .ret
def call4 (β : Bufs) (i : grid0.Coords) (t : Fin k0_t1_loop.trips) (l0 l1 l2 l3 : BitVec 1) (f : BitVec 32) (b : BitVec 1) : K F (BitVec 32 × BitVec 1) :=
  .op (.call (4 : (Λ₀ F).Label) ⟨i, t, l0, l1, l2, l3, β.q, β.hq, β.k, β.hk, β.v, β.hv, lane0, β.car, β.hcar, β.u, β.hu, β.acc, β.hacc, lane1, f, b⟩) .ret
def call5 (β : Bufs) (i : grid0.Coords) (t : Fin k0_t1_loop.trips) (l0 l1 l2 l3 l4 : BitVec 1) (f : BitVec 32) (b : BitVec 1) : K F (BitVec 32 × BitVec 1) :=
  .op (.call (5 : (Λ₀ F).Label) ⟨i, t, l0, l1, l2, l3, l4, β.q, β.hq, β.k, β.hk, β.v, β.hv, lane0, β.car, β.hcar, β.u, β.hu, β.acc, β.hacc, lane1, f, b⟩) .ret

/-- The walk of a tile with what is set before it and written after it. -/
def finish (β : Bufs) {qr : Nat} (hq : okR 1 qr) (f : BitVec 32) (l : BitVec 1) (x : Fin 4 → FVec F S256x128 .f32)
    (call : BitVec 32 → BitVec 1 → K F (BitVec 32 × BitVec 1)) (next : K F α) : K F α :=
  before β f l x <| Prog.bind (call f l) fun _ => after β hq f l next

/-- The five walks of a trip. -/
def finish5 (β : Bufs) (i : grid0.Coords) {t : Fin k0_t1_loop.trips} (r0 : Rows t 0#32) (r1 : Rows t 1#32) (r2 : Rows t 2#32) (r3 : Rows t 3#32) (r4 : Rows t 4#32)
    (l0 l1 l2 l3 l4 : BitVec 1) (x0 x1 x2 x3 x4 : Fin 4 → FVec F S256x128 .f32) : K F PUnit :=
  finish β r0.q (fst t 0#32) l0 x0 (call1 β i t l0) <| finish β r1.q (fst t 1#32) l1 x1 (call2 β i t l0 l1) <|
  finish β r2.q (fst t 2#32) l2 x2 (call3 β i t l0 l1 l2) <| finish β r3.q (fst t 3#32) l3 x3 (call4 β i t l0 l1 l2 l3) <|
  finish β r4.q (fst t 4#32) l4 x4 (call5 β i t l0 l1 l2 l3 l4) <| .ret ⟨⟩

/-- A trip: five query tiles. -/
def trip (β : Bufs) (i : grid0.Coords) {t : Fin k0_t1_loop.trips} (r0 : Rows t 0#32) (r1 : Rows t 1#32) (r2 : Rows t 2#32) (r3 : Rows t 3#32) (r4 : Rows t 4#32) : K F PUnit :=
  scores5 β r0 r1 r2 r3 r4 fun l0 l1 l2 l3 l4 => weights5 β <| values5 β r0 r1 r2 r3 r4 fun x0 x1 x2 x3 x4 =>
  finish5 β i r0 r1 r2 r3 r4 l0 l1 l2 l3 l4 x0 x1 x2 x3 x4

theorem ok0 : okR 1 0 := ⟨by decide, by decide⟩
theorem ok20 : okR 2 0 := ⟨by decide, by decide⟩
theorem ok128 : okR 1 128 := ⟨by decide, by decide⟩

instance (n r : Nat) : Decidable (okR n r) := inferInstanceAs (Decidable (_ ∧ _))

theorem rows0 (t : Fin k0_t1_loop.trips) : Rows t 0#32 :=
  ⟨by revert t; decide +kernel, by revert t; decide +kernel, by revert t; decide +kernel, by revert t; decide +kernel, by revert t; decide +kernel⟩
theorem rows1 (t : Fin k0_t1_loop.trips) : Rows t 1#32 :=
  ⟨by revert t; decide +kernel, by revert t; decide +kernel, by revert t; decide +kernel, by revert t; decide +kernel, by revert t; decide +kernel⟩
theorem rows2 (t : Fin k0_t1_loop.trips) : Rows t 2#32 :=
  ⟨by revert t; decide +kernel, by revert t; decide +kernel, by revert t; decide +kernel, by revert t; decide +kernel, by revert t; decide +kernel⟩
theorem rows3 (t : Fin k0_t1_loop.trips) : Rows t 3#32 :=
  ⟨by revert t; decide +kernel, by revert t; decide +kernel, by revert t; decide +kernel, by revert t; decide +kernel, by revert t; decide +kernel⟩
theorem rows4 (t : Fin k0_t1_loop.trips) : Rows t 4#32 :=
  ⟨by revert t; decide +kernel, by revert t; decide +kernel, by revert t; decide +kernel, by revert t; decide +kernel, by revert t; decide +kernel⟩

/-- The kernel: the first two tiles, then six trips. -/
def attn (β : Bufs) (i : grid0.Coords) : K F PUnit :=
  tile1 β ok0 <| tile2 β ok128 ok20 ok0 <|
  Prog.bind (Scf.Loop.for k0_t1_loop k0_t1_ok ⟨⟩ fun t _ => trip β i (rows0 t) (rows1 t) (rows2 t) (rows3 t) (rows4 t)) fun _ => .ret ⟨⟩

end
end Cert.KernelIdeal.M
-- ==== Proof.State.lean ====
module

public import proofs.«01_k».proof.Proof.Model
public import Idealize.ShloMosaic.Lib.Pipeline.Sound
public import Idealize.ShloMosaic.Lib.Pipeline.Kit
public import Idealize.ShloMosaic.Lib.Tactic
public import Idealize.ShloMosaic.Lib.Writes
public import Idealize.ShloMosaic.Lib.WritesUnit
public import Idealize.ShloMosaic.Lib.Pointwise

@[expose] public section

set_option maxRecDepth 16384

/-!
# What the buffers hold

A state gives every buffer by its tiles. `H σ` holds the ten buffers at the tiles of `σ`, and `Sat σ p Φ` says that
the program `p`, run from them, ends in `Φ`. Each load and store of `Model.lean` has one rule.
-/

namespace Cert.KernelIdeal.M
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
variable {F : FTy → Type} [FloatOps F] [Named F]
variable [Facts]
noncomputable section

/-- The resource algebra: the rounds library's over the machine's cells. -/
abbrev UR (nD : Nat) (τ : Topo) : Type := URounds (GSem nD τ sig) Unit

local notation "𝕄" => MT nD τ sig Unit (Elt F) ℕ (UR nD τ) ℕ

/-- The variants: the turns a walk has still to go. -/
abbrev 𝒱₀ : Variants := Variants.nat

/-! ## Tiles of an array -/

/-- One slot's staging. -/
structure Slot (F : FTy → Type) [FloatOps F] where
  z : Fin 6 → Fin 4 → T F
  sp : Fin 6 → Fin 4 → B F
  a : Fin 3 → Fin 2 → FVec F S256x256 .bf16
  car : Fin 8 → T F

/-- The buffers, by their tiles. -/
structure St (F : FTy → Type) [FloatOps F] where
  q : Nat → Fin 4 → B F
  k : Nat → Fin 4 → B F
  v : Nat → Fin 4 → B F
  u : FVec F S256x256 .bf16
  o : Nat → Fin 4 → B F
  acc : Fin 8 → T F
  slot : Fin 5 → Slot F

theorem lt1 {n : Nat} (x : Fin n) (m : Nat) (h : n ≤ 128 * m) : x.1 / 128 < m := by omega
theorem lt2 {n : Nat} (x : Fin n) (m : Nat) (h : n ≤ 256 * m) : x.1 / 256 < m := by omega

def arrB (X : Nat → Fin 4 → B F) : Vec F S1x4096x512 .bf16 := fun y =>
  X ((y 1).1 / 128) ⟨(y 2).1 / 128, lt1 (y 2) 4 (Nat.le_refl _)⟩ (ix2 ⟨(y 1).1 % 128, Nat.mod_lt _ (by decide)⟩ ⟨(y 2).1 % 128, Nat.mod_lt _ (by decide)⟩)
def arrAcc (X : Fin 8 → T F) : Vec F S8x128x128 .f32 := fun y => X (y 0) (ix2 (y 1) (y 2))
def arrCar (X : Fin 5 → Slot F) : Vec F S5x8x128x128 .f32 := fun y => (X (y 0)).car (y 1) (ix2 (y 2) (y 3))
def arrZ (X : Fin 5 → Slot F) : Vec F S5x768x512 .f32 := fun y =>
  (X (y 0)).z ⟨(y 1).1 / 128, lt1 (y 1) 6 (Nat.le_refl _)⟩ ⟨(y 2).1 / 128, lt1 (y 2) 4 (Nat.le_refl _)⟩ (ix2 ⟨(y 1).1 % 128, Nat.mod_lt _ (by decide)⟩ ⟨(y 2).1 % 128, Nat.mod_lt _ (by decide)⟩)
def arrSp (X : Fin 5 → Slot F) : Vec F S5x768x512 .bf16 := fun y =>
  (X (y 0)).sp ⟨(y 1).1 / 128, lt1 (y 1) 6 (Nat.le_refl _)⟩ ⟨(y 2).1 / 128, lt1 (y 2) 4 (Nat.le_refl _)⟩ (ix2 ⟨(y 1).1 % 128, Nat.mod_lt _ (by decide)⟩ ⟨(y 2).1 % 128, Nat.mod_lt _ (by decide)⟩)
def arrA (X : Fin 5 → Slot F) : Vec F S5x768x512 .bf16 := fun y =>
  (X (y 0)).a ⟨(y 1).1 / 256, lt2 (y 1) 3 (Nat.le_refl _)⟩ ⟨(y 2).1 / 256, lt2 (y 2) 2 (Nat.le_refl _)⟩ (ix2 ⟨(y 1).1 % 256, Nat.mod_lt _ (by decide)⟩ ⟨(y 2).1 % 256, Nat.mod_lt _ (by decide)⟩)

theorem cut_arrB (X : Nat → Fin 4 → B F) {r : Nat} (h : okR 1 r) (p : Fin 4) :
    (shapeCast S128x128 (fun x => arrB X ((rB h p).toLoadRect.idx x) : Vec F S1x128x128 .bf16) shapeCasts_S1x128x128_S128x128 : FVec F S128x128 .bf16) = X (r / 128) p := by
  funext y
  idx_vars y
  pointwise [arrB]
  obtain ⟨⟨n, rfl⟩, _⟩ := h
  have e1 : (128 * n + y0.1) / 128 = 128 * n / 128 := by omega
  have e2 : (128 * n + y0.1) % 128 = y0.1 := by omega
  have e3 : (128 * p.1 + y1.1) / 128 = p.1 := by omega
  have e4 : (128 * p.1 + y1.1) % 128 = y1.1 := by omega
  simp only [e1, e2, e3, e4]

/-- Two tiles, one under the other. -/
def stack2 (X : Nat → B F) : FVec F S256x128 .bf16 := fun y => X ((y 0).1 / 128) (ix2 ⟨(y 0).1 % 128, Nat.mod_lt _ (by decide)⟩ (y 1))
/-- Three. -/
def stack3 (X : Nat → B F) : FVec F S384x128 .bf16 := fun y => X ((y 0).1 / 128) (ix2 ⟨(y 0).1 % 128, Nat.mod_lt _ (by decide)⟩ (y 1))
/-- Two by two. -/
def quad {φ : FTy} (X : Fin 6 → Fin 4 → FVec F S128x128 φ) (b : Fin 3) (c : Fin 2) : FVec F S256x256 φ := fun y =>
  X ⟨2 * b.1 + (y 0).1 / 128, by have := lt1 (y 0) 2 (Nat.le_refl _); omega⟩ ⟨2 * c.1 + (y 1).1 / 128, by have := lt1 (y 1) 2 (Nat.le_refl _); omega⟩
    (ix2 ⟨(y 0).1 % 128, Nat.mod_lt _ (by decide)⟩ ⟨(y 1).1 % 128, Nat.mod_lt _ (by decide)⟩)
/-- Half the columns of a square. -/
def half (X : Fin 2 → FVec F S256x256 .bf16) (p : Fin 4) : FVec F S256x128 .bf16 := fun y =>
  X ⟨p.1 / 2, by omega⟩ (ix2 (y 0) ⟨128 * (p.1 % 2) + (y 1).1, by have : (y 1).1 < 128 := (y 1).2; omega⟩)

theorem cut_arrB2 (X : Nat → Fin 4 → B F) {r : Nat} (h : okR 2 r) (p : Fin 4) :
    (shapeCast S256x128 (fun x => arrB X ((rB2 h p).toLoadRect.idx x) : Vec F S1x256x128 .bf16) shapeCasts_S1x256x128_S256x128 : FVec F S256x128 .bf16)
      = stack2 fun i => X (r / 128 + i) p := by
  funext y
  idx_vars y
  pointwise [arrB, stack2]
  obtain ⟨⟨n, rfl⟩, _⟩ := h
  have e1 : (128 * n + y0.1) / 128 = 128 * n / 128 + y0.1 / 128 := by omega
  have e2 : (128 * n + y0.1) % 128 = y0.1 % 128 := by omega
  have e3 : (128 * p.1 + y1.1) / 128 = p.1 := by omega
  have e4 : (128 * p.1 + y1.1) % 128 = y1.1 := by omega
  simp only [e1, e2, e3, e4]

theorem cut_arrB3 (X : Nat → Fin 4 → B F) {r : Nat} (h : okR 3 r) (p : Fin 4) :
    (shapeCast S384x128 (fun x => arrB X ((rB3 h p).toLoadRect.idx x) : Vec F S1x384x128 .bf16) shapeCasts_S1x384x128_S384x128 : FVec F S384x128 .bf16)
      = stack3 fun i => X (r / 128 + i) p := by
  funext y
  idx_vars y
  pointwise [arrB, stack3]
  obtain ⟨⟨n, rfl⟩, _⟩ := h
  have e1 : (128 * n + y0.1) / 128 = 128 * n / 128 + y0.1 / 128 := by omega
  have e2 : (128 * n + y0.1) % 128 = y0.1 % 128 := by omega
  have e3 : (128 * p.1 + y1.1) / 128 = p.1 := by omega
  have e4 : (128 * p.1 + y1.1) % 128 = y1.1 := by omega
  simp only [e1, e2, e3, e4]

theorem cut_arrAcc (X : Fin 8 → T F) (h : Fin 8) :
    (shapeCast S128x128 (fun x => arrAcc X ((r7 h).toLoadRect.idx x) : Vec F S1x128x128 .f32) shapeCasts_S1x128x128_S128x128 : FVec F S128x128 .f32) = X h := by
  funext y
  idx_vars y
  pointwise [arrAcc]

theorem cut_arrCar (X : Fin 5 → Slot F) (s : Fin 5) (h : Fin 8) :
    (shapeCast S128x128 (fun x => arrCar X ((r8 s h).toLoadRect.idx x) : Vec F S1x1x128x128 .f32) shapeCasts_S1x1x128x128_S128x128 : FVec F S128x128 .f32) = (X s).car h := by
  funext y
  idx_vars y
  pointwise [arrCar]

theorem cut_arrZ (X : Fin 5 → Slot F) (s : Fin 5) (b : Fin 6) (p : Fin 4) :
    (shapeCast S128x128 (fun x => arrZ X ((rT s b p).toLoadRect.idx x) : Vec F S1x128x128 .f32) shapeCasts_S1x128x128_S128x128 : FVec F S128x128 .f32) = (X s).z b p := by
  funext y
  idx_vars y
  pointwise [arrZ]
  have e1 : (128 * b.1 + y0.1) / 128 = b.1 := by omega
  have e2 : (128 * b.1 + y0.1) % 128 = y0.1 := by omega
  have e3 : (128 * p.1 + y1.1) / 128 = p.1 := by omega
  have e4 : (128 * p.1 + y1.1) % 128 = y1.1 := by omega
  simp only [e1, e2, e3, e4]

theorem cut_arrZW (X : Fin 5 → Slot F) (s : Fin 5) (b : Fin 3) (c : Fin 2) :
    (shapeCast S256x256 (fun x => arrZ X ((rW s b c).toLoadRect.idx x) : Vec F S1x256x256 .f32) shapeCasts_S1x256x256_S256x256 : FVec F S256x256 .f32) = quad (X s).z b c := by
  funext y
  idx_vars y
  pointwise [arrZ, quad]
  have e1 : (256 * b.1 + y0.1) / 128 = 2 * b.1 + y0.1 / 128 := by omega
  have e2 : (256 * b.1 + y0.1) % 128 = y0.1 % 128 := by omega
  have e3 : (256 * c.1 + y1.1) / 128 = 2 * c.1 + y1.1 / 128 := by omega
  have e4 : (256 * c.1 + y1.1) % 128 = y1.1 % 128 := by omega
  simp only [e1, e2, e3, e4]

theorem cut_arrSpW (X : Fin 5 → Slot F) (s : Fin 5) (b : Fin 3) (c : Fin 2) :
    (shapeCast S256x256 (fun x => arrSp X ((rW s b c).toLoadRect.idx x) : Vec F S1x256x256 .bf16) shapeCasts_S1x256x256_S256x256 : FVec F S256x256 .bf16) = quad (X s).sp b c := by
  funext y
  idx_vars y
  pointwise [arrSp, quad]
  have e1 : (256 * b.1 + y0.1) / 128 = 2 * b.1 + y0.1 / 128 := by omega
  have e2 : (256 * b.1 + y0.1) % 128 = y0.1 % 128 := by omega
  have e3 : (256 * c.1 + y1.1) / 128 = 2 * c.1 + y1.1 / 128 := by omega
  have e4 : (256 * c.1 + y1.1) % 128 = y1.1 % 128 := by omega
  simp only [e1, e2, e3, e4]

theorem cut_arrAV (X : Fin 5 → Slot F) (s : Fin 5) (b : Fin 3) (p : Fin 4) :
    (shapeCast S256x128 (fun x => arrA X ((rV s b p).toLoadRect.idx x) : Vec F S1x256x128 .bf16) shapeCasts_S1x256x128_S256x128 : FVec F S256x128 .bf16) = half ((X s).a b) p := by
  funext y
  idx_vars y
  pointwise [arrA, half]
  have e1 : (256 * b.1 + y0.1) / 256 = b.1 := by omega
  have e2 : (256 * b.1 + y0.1) % 256 = y0.1 := by omega
  have e3 : (128 * p.1 + y1.1) / 256 = p.1 / 2 := by omega
  have e4 : (128 * p.1 + y1.1) % 256 = 128 * (p.1 % 2) + y1.1 := by omega
  simp only [e1, e2, e3, e4]

/-- The upper left quarter. -/
def quarter (u : FVec F S256x256 .bf16) : B F := fun y => u (ix2 ⟨(y 0).1, by have : (y 0).1 < 128 := (y 0).2; omega⟩ ⟨(y 1).1, by have : (y 1).1 < 128 := (y 1).2; omega⟩)

theorem cut_U (X : FVec F S256x256 .bf16) :
    (shapeCast S256x256 (fun x => X ((Rect.unit (s := S256x256) ![0, 0] S256x256.size inb_S256x256_S256x256_0_0).toLoadRect.idx x) : Vec F S256x256 .bf16) shapeCasts_S256x256_S256x256 : FVec F S256x256 .bf16) = X := by
  funext y
  idx_vars y
  pointwise []

theorem cut_U1 (X : FVec F S256x256 .bf16) :
    (shapeCast S128x128 (fun x => X ((Rect.unit (s := S256x256) ![0, 0] S128x128.size inb_S256x256_S128x128_0_0).toLoadRect.idx x) : Vec F S128x128 .bf16) shapeCasts_S128x128_S128x128 : FVec F S128x128 .bf16) = quarter X := by
  funext y
  idx_vars y
  pointwise [quarter]

/-! ## A tile replaced -/

def Slot.setZ (l : Slot F) (b : Fin 6) (p : Fin 4) (x : T F) : Slot F := { l with z := Function.update l.z b (Function.update (l.z b) p x) }
def Slot.setSp (l : Slot F) (b : Fin 6) (p : Fin 4) (x : B F) : Slot F := { l with sp := Function.update l.sp b (Function.update (l.sp b) p x) }
def Slot.setA (l : Slot F) (b : Fin 3) (c : Fin 2) (x : FVec F S256x256 .bf16) : Slot F := { l with a := Function.update l.a b (Function.update (l.a b) c x) }
def Slot.setCar (l : Slot F) (h : Fin 8) (x : T F) : Slot F := { l with car := Function.update l.car h x }

def St.setO (σ : St F) (i : Nat) (p : Fin 4) (x : B F) : St F := { σ with o := Function.update σ.o i (Function.update (σ.o i) p x) }
def St.setAcc (σ : St F) (h : Fin 8) (x : T F) : St F := { σ with acc := Function.update σ.acc h x }
/-- One slot changed. -/
def St.on (σ : St F) (s : Fin 5) (g : Slot F → Slot F) : St F := { σ with slot := Function.update σ.slot s (g (σ.slot s)) }

theorem put_O (X : Nat → Fin 4 → B F) {r : Nat} (h : okR 1 r) (p : Fin 4) (w : B F) (x : S1x128x128.Idx) :
    arrB (Function.update X (r / 128) (Function.update (X (r / 128)) p w)) ((rB h p).toLoadRect.idx x) =
      (shapeCast S1x128x128 w shapeCasts_S128x128_S1x128x128 : FVec F S1x128x128 .bf16) x := by
  idx_vars x
  pointwise [arrB]
  obtain ⟨⟨n, rfl⟩, _⟩ := h
  have e1 : (128 * n + x1.1) / 128 = 128 * n / 128 := by omega
  have e2 : (128 * n + x1.1) % 128 = x1.1 := by omega
  have e3 : (128 * p.1 + x2.1) / 128 = p.1 := by omega
  have e4 : (128 * p.1 + x2.1) % 128 = x2.1 := by omega
  simp only [e1, e2, e3, e4, Function.update_self]

theorem put_Acc (X : Fin 8 → T F) (h : Fin 8) (w : T F) (x : S1x128x128.Idx) :
    arrAcc (Function.update X h w) ((r7 h).toLoadRect.idx x) = (shapeCast S1x128x128 w shapeCasts_S128x128_S1x128x128 : FVec F S1x128x128 .f32) x := by
  idx_vars x
  pointwise [arrAcc]
  simp only [Function.update_self]

theorem put_Car (X : Fin 5 → Slot F) (s : Fin 5) (h : Fin 8) (w : T F) (x : S1x1x128x128.Idx) :
    arrCar (Function.update X s ((X s).setCar h w)) ((r8 s h).toLoadRect.idx x) = (shapeCast S1x1x128x128 w shapeCasts_S128x128_S1x1x128x128 : FVec F S1x1x128x128 .f32) x := by
  idx_vars x
  pointwise [arrCar]
  simp only [Slot.setCar, Function.update_self]

theorem put_Z (X : Fin 5 → Slot F) (s : Fin 5) (b : Fin 6) (p : Fin 4) (w : T F) (x : S1x128x128.Idx) :
    arrZ (Function.update X s ((X s).setZ b p w)) ((rT s b p).toLoadRect.idx x) = (shapeCast S1x128x128 w shapeCasts_S128x128_S1x128x128 : FVec F S1x128x128 .f32) x := by
  idx_vars x
  pointwise [arrZ]
  have e1 : (128 * b.1 + x1.1) / 128 = b.1 := by omega
  have e2 : (128 * b.1 + x1.1) % 128 = x1.1 := by omega
  have e3 : (128 * p.1 + x2.1) / 128 = p.1 := by omega
  have e4 : (128 * p.1 + x2.1) % 128 = x2.1 := by omega
  simp only [e1, e2, e3, e4, Slot.setZ, Function.update_self]

theorem put_Sp (X : Fin 5 → Slot F) (s : Fin 5) (b : Fin 6) (p : Fin 4) (w : B F) (x : S1x128x128.Idx) :
    arrSp (Function.update X s ((X s).setSp b p w)) ((rT s b p).toLoadRect.idx x) = (shapeCast S1x128x128 w shapeCasts_S128x128_S1x128x128 : FVec F S1x128x128 .bf16) x := by
  idx_vars x
  pointwise [arrSp]
  have e1 : (128 * b.1 + x1.1) / 128 = b.1 := by omega
  have e2 : (128 * b.1 + x1.1) % 128 = x1.1 := by omega
  have e3 : (128 * p.1 + x2.1) / 128 = p.1 := by omega
  have e4 : (128 * p.1 + x2.1) % 128 = x2.1 := by omega
  simp only [e1, e2, e3, e4, Slot.setSp, Function.update_self]

theorem put_A (X : Fin 5 → Slot F) (s : Fin 5) (b : Fin 3) (c : Fin 2) (w : FVec F S256x256 .bf16) (x : S1x256x256.Idx) :
    arrA (Function.update X s ((X s).setA b c w)) ((rW s b c).toLoadRect.idx x) = (shapeCast S1x256x256 w shapeCasts_S256x256_S1x256x256 : FVec F S1x256x256 .bf16) x := by
  idx_vars x
  pointwise [arrA]
  have e1 : (256 * b.1 + x1.1) / 256 = b.1 := by omega
  have e2 : (256 * b.1 + x1.1) % 256 = x1.1 := by omega
  have e3 : (256 * c.1 + x2.1) / 256 = c.1 := by omega
  have e4 : (256 * c.1 + x2.1) % 256 = x2.1 := by omega
  simp only [e1, e2, e3, e4, Slot.setA, Function.update_self]

/-- An index outside a box. -/
abbrev Out {n : Nat} (off size : Fin n → Nat) (y : Fin n → Nat) : Prop := ∃ a, y a < off a ∨ off a + size a ≤ y a

theorem keep_O (X : Nat → Fin 4 → B F) {r : Nat} (h : okR 1 r) (p : Fin 4) (w : B F) (y : S1x4096x512.Idx)
    (hy : Out ![0, r, 128 * p.1] S1x128x128.size fun a => (y a).1) :
    arrB (Function.update X (r / 128) (Function.update (X (r / 128)) p w)) y = arrB X y := by
  unfold arrB
  by_cases h1 : (y 1).1 / 128 = r / 128
  · rw [h1, Function.update_self]
    by_cases h2 : (⟨(y 2).1 / 128, lt1 (y 2) 4 (Nat.le_refl _)⟩ : Fin 4) = p
    · exfalso
      obtain ⟨⟨n, rfl⟩, _⟩ := h
      have h2 := congrArg Fin.val h2
      have h0 : (y 0).1 < 1 := (y 0).2
      simp only at h2
      obtain ⟨a, ha⟩ := hy
      fin_cases a
      · have ha : (y 0).1 < 0 ∨ 0 + 1 ≤ (y 0).1 := ha; omega
      · have ha : (y 1).1 < 128 * n ∨ 128 * n + 128 ≤ (y 1).1 := ha; omega
      · have ha : (y 2).1 < 128 * p.1 ∨ 128 * p.1 + 128 ≤ (y 2).1 := ha; omega
    · rw [Function.update_of_ne h2]
  · rw [Function.update_of_ne h1]

theorem keep_Acc (X : Fin 8 → T F) (h : Fin 8) (w : T F) (y : S8x128x128.Idx) (hy : Out ![h.1, 0, 0] S1x128x128.size fun a => (y a).1) :
    arrAcc (Function.update X h w) y = arrAcc X y := by
  unfold arrAcc
  by_cases h1 : (y 0 : Fin 8) = h
  · exfalso
    have h1 := congrArg Fin.val h1
    have h3 : (y 1).1 < 128 := (y 1).2
    have h4 : (y 2).1 < 128 := (y 2).2
    obtain ⟨a, ha⟩ := hy
    fin_cases a
    · have ha : (y 0).1 < h.1 ∨ h.1 + 1 ≤ (y 0).1 := ha; omega
    · have ha : (y 1).1 < 0 ∨ 0 + 128 ≤ (y 1).1 := ha; omega
    · have ha : (y 2).1 < 0 ∨ 0 + 128 ≤ (y 2).1 := ha; omega
  · exact congrFun (Function.update_of_ne h1 _ _) _

theorem keep_Car (X : Fin 5 → Slot F) (s : Fin 5) (h : Fin 8) (w : T F) (y : S5x8x128x128.Idx) (hy : Out ![s.1, h.1, 0, 0] S1x1x128x128.size fun a => (y a).1) :
    arrCar (Function.update X s ((X s).setCar h w)) y = arrCar X y := by
  unfold arrCar
  by_cases h1 : (y 0 : Fin 5) = s
  · rw [h1, Function.update_self]
    unfold Slot.setCar
    by_cases h2 : (y 1 : Fin 8) = h
    · exfalso
      have h1 := congrArg Fin.val h1
      have h2 := congrArg Fin.val h2
      have h3 : (y 2).1 < 128 := (y 2).2
      have h4 : (y 3).1 < 128 := (y 3).2
      obtain ⟨a, ha⟩ := hy
      fin_cases a
      · have ha : (y 0).1 < s.1 ∨ s.1 + 1 ≤ (y 0).1 := ha; omega
      · have ha : (y 1).1 < h.1 ∨ h.1 + 1 ≤ (y 1).1 := ha; omega
      · have ha : (y 2).1 < 0 ∨ 0 + 128 ≤ (y 2).1 := ha; omega
      · have ha : (y 3).1 < 0 ∨ 0 + 128 ≤ (y 3).1 := ha; omega
    · exact congrFun (Function.update_of_ne h2 _ _) _
  · exact congrArg (fun l : Slot F => l.car (y 1) (ix2 (y 2) (y 3))) (Function.update_of_ne h1 _ _)

theorem out_T {s : Fin 5} {b : Fin 6} {p : Fin 4} {y : S5x768x512.Idx} (hy : Out ![s.1, 128 * b.1, 128 * p.1] S1x128x128.size fun a => (y a).1)
    (h1 : (y 0 : Fin 5) = s) (h2 : (⟨(y 1).1 / 128, lt1 (y 1) 6 (Nat.le_refl _)⟩ : Fin 6) = b) (h3 : (⟨(y 2).1 / 128, lt1 (y 2) 4 (Nat.le_refl _)⟩ : Fin 4) = p) : False := by
  have h1 := congrArg Fin.val h1
  have h2 := congrArg Fin.val h2
  have h3 := congrArg Fin.val h3
  simp only at h2 h3
  obtain ⟨a, ha⟩ := hy
  fin_cases a
  · have ha : (y 0).1 < s.1 ∨ s.1 + 1 ≤ (y 0).1 := ha; omega
  · have ha : (y 1).1 < 128 * b.1 ∨ 128 * b.1 + 128 ≤ (y 1).1 := ha; omega
  · have ha : (y 2).1 < 128 * p.1 ∨ 128 * p.1 + 128 ≤ (y 2).1 := ha; omega

theorem keep_Z (X : Fin 5 → Slot F) (s : Fin 5) (b : Fin 6) (p : Fin 4) (w : T F) (y : S5x768x512.Idx) (hy : Out ![s.1, 128 * b.1, 128 * p.1] S1x128x128.size fun a => (y a).1) :
    arrZ (Function.update X s ((X s).setZ b p w)) y = arrZ X y := by
  unfold arrZ
  by_cases h1 : (y 0 : Fin 5) = s
  · rw [h1, Function.update_self]
    unfold Slot.setZ
    dsimp only
    by_cases h2 : (⟨(y 1).1 / 128, lt1 (y 1) 6 (Nat.le_refl _)⟩ : Fin 6) = b
    · rw [h2, Function.update_self]
      by_cases h3 : (⟨(y 2).1 / 128, lt1 (y 2) 4 (Nat.le_refl _)⟩ : Fin 4) = p
      · exact (out_T hy h1 h2 h3).elim
      · rw [Function.update_of_ne h3]
    · rw [Function.update_of_ne h2]
  · exact congrArg (fun l : Slot F => l.z ⟨(y 1).1 / 128, lt1 (y 1) 6 (Nat.le_refl _)⟩ ⟨(y 2).1 / 128, lt1 (y 2) 4 (Nat.le_refl _)⟩ (ix2 ⟨(y 1).1 % 128, Nat.mod_lt _ (by decide)⟩ ⟨(y 2).1 % 128, Nat.mod_lt _ (by decide)⟩)) (Function.update_of_ne h1 _ _)

theorem keep_Sp (X : Fin 5 → Slot F) (s : Fin 5) (b : Fin 6) (p : Fin 4) (w : B F) (y : S5x768x512.Idx) (hy : Out ![s.1, 128 * b.1, 128 * p.1] S1x128x128.size fun a => (y a).1) :
    arrSp (Function.update X s ((X s).setSp b p w)) y = arrSp X y := by
  unfold arrSp
  by_cases h1 : (y 0 : Fin 5) = s
  · rw [h1, Function.update_self]
    unfold Slot.setSp
    dsimp only
    by_cases h2 : (⟨(y 1).1 / 128, lt1 (y 1) 6 (Nat.le_refl _)⟩ : Fin 6) = b
    · rw [h2, Function.update_self]
      by_cases h3 : (⟨(y 2).1 / 128, lt1 (y 2) 4 (Nat.le_refl _)⟩ : Fin 4) = p
      · exact (out_T hy h1 h2 h3).elim
      · rw [Function.update_of_ne h3]
    · rw [Function.update_of_ne h2]
  · exact congrArg (fun l : Slot F => l.sp ⟨(y 1).1 / 128, lt1 (y 1) 6 (Nat.le_refl _)⟩ ⟨(y 2).1 / 128, lt1 (y 2) 4 (Nat.le_refl _)⟩ (ix2 ⟨(y 1).1 % 128, Nat.mod_lt _ (by decide)⟩ ⟨(y 2).1 % 128, Nat.mod_lt _ (by decide)⟩)) (Function.update_of_ne h1 _ _)

theorem keep_A (X : Fin 5 → Slot F) (s : Fin 5) (b : Fin 3) (c : Fin 2) (w : FVec F S256x256 .bf16) (y : S5x768x512.Idx) (hy : Out ![s.1, 256 * b.1, 256 * c.1] S1x256x256.size fun a => (y a).1) :
    arrA (Function.update X s ((X s).setA b c w)) y = arrA X y := by
  unfold arrA
  by_cases h1 : (y 0 : Fin 5) = s
  · rw [h1, Function.update_self]
    unfold Slot.setA
    dsimp only
    by_cases h2 : (⟨(y 1).1 / 256, lt2 (y 1) 3 (Nat.le_refl _)⟩ : Fin 3) = b
    · rw [h2, Function.update_self]
      by_cases h3 : (⟨(y 2).1 / 256, lt2 (y 2) 2 (Nat.le_refl _)⟩ : Fin 2) = c
      · exfalso
        have h1 := congrArg Fin.val h1
        have h2 := congrArg Fin.val h2
        have h3 := congrArg Fin.val h3
        simp only at h2 h3
        obtain ⟨a, ha⟩ := hy
        fin_cases a
        · have ha : (y 0).1 < s.1 ∨ s.1 + 1 ≤ (y 0).1 := ha; omega
        · have ha : (y 1).1 < 256 * b.1 ∨ 256 * b.1 + 256 ≤ (y 1).1 := ha; omega
        · have ha : (y 2).1 < 256 * c.1 ∨ 256 * c.1 + 256 ≤ (y 2).1 := ha; omega
      · rw [Function.update_of_ne h3]
    · rw [Function.update_of_ne h2]
  · exact congrArg (fun l : Slot F => l.a ⟨(y 1).1 / 256, lt2 (y 1) 3 (Nat.le_refl _)⟩ ⟨(y 2).1 / 256, lt2 (y 2) 2 (Nat.le_refl _)⟩ (ix2 ⟨(y 1).1 % 256, Nat.mod_lt _ (by decide)⟩ ⟨(y 2).1 % 256, Nat.mod_lt _ (by decide)⟩)) (Function.update_of_ne h1 _ _)

/-! ## Holding the buffers -/

variable (c : Dev nD)

/-- A buffer held whole at contents that read as `X`. -/
def own {S : Shape} {e : EltTy} (m : Memref sig .tc .vmem S e) (X : S.Idx → Elt F e) : sProp 𝕄 :=
  iprop(∃ f : Buf (Elt F) (m.view.loc (c : Thread nD τ)), ⌜m.view.read (Elt F) f = X⌝ ∗ (m.view.loc (c : Thread nD τ) ↦{fullShare} f))

variable (β : Bufs)

/-- The ten buffers at a state. -/
def H (σ : St F) : sProp 𝕄 :=
  iprop(own c β.q (arrB σ.q) ∗ own c β.k (arrB σ.k) ∗ own c β.v (arrB σ.v) ∗ own c β.u σ.u ∗ own c β.o (arrB σ.o)
    ∗ own c β.acc (arrAcc σ.acc) ∗ own c β.car (arrCar σ.slot) ∗ own c β.sp (arrSp σ.slot) ∗ own c β.z (arrZ σ.slot) ∗ own c β.a (arrA σ.slot))

variable (bd : Option ℕ)

/-- From the buffers at `σ` the program ends in `Φ`. -/
def Sat {α : Type} (σ : St F) (p : K F α) (Φ : α → sProp 𝕄) : Prop :=
  H c β σ ⊢ wp frame (wpE (defs₀ (F := F)) 𝒱₀ (c : Thread nD τ) bd) Set.univ p Φ

variable {c β bd}
variable {α : Type} {σ : St F} {Φ : α → sProp (MT nD τ sig Unit (Elt F) ℕ (UR nD τ) ℕ)}

theorem sat_load {S : Shape} {e : EltTy} {m : Memref sig .tc .vmem S e} {X : S.Idx → Elt F e} {r : LoadRect S} {hl : m.view.LoadsAt r}
    {k : (r.shape.Idx → Elt F e) → K F α} (hf : H c β σ ⊢ iprop(own c m X ∗ (own c m X -∗ H c β σ)))
    (h : Sat c β bd σ (k fun x => X (r.idx x)) Φ) : Sat c β bd σ (.op (.load m r hl) k) Φ := by
  unfold Sat at h ⊢
  refine hf.trans ?_
  unfold own
  iintro ⟨⟨%f, %hf, Hm⟩, Hr⟩
  subst hf
  iapply (wp_load 𝒱₀ (c : Thread nD τ) bd Set.univ (m := m) (Finset.subset_univ _)) $$ Hm; iintro Hm
  iapply h
  iapply Hr
  iexists f
  isplitr
  · ipureintro; rfl
  · iexact Hm

theorem sat_store {S : Shape} {e : EltTy} {m : Memref sig .tc .vmem S e} {X X' : S.Idx → Elt F e} {off size : Fin S.rank → Nat}
    {inb : ∀ a, off a + size a ≤ S.size a} {w : (Rect.unit off size inb).shape.Idx → Elt F e}
    {hx : (m.access (Rect.unit off size inb)).Stores Finset.univ} {hm : Finset.univ = Finset.univ ∨ ∀ a, (Rect.unit off size inb).stride a = 1}
    {k : PUnit → K F α} {σ' : St F}
    (hf : H c β σ ⊢ iprop(own c m X ∗ (own c m X' -∗ H c β σ')))
    (hin : ∀ x, X' ((Rect.unit off size inb).toLoadRect.idx x) = w x) (hout : ∀ y : S.Idx, Out off size (fun a => (y a).1) → X' y = X y)
    (h : Sat c β bd σ' (k ⟨⟩) Φ) : Sat c β bd σ (.op (.store m (Rect.unit off size inb) w Finset.univ hx hm) k) Φ := by
  unfold Sat at h ⊢
  refine hf.trans ?_
  unfold own
  iintro ⟨⟨%f, %hf, Hm⟩, Hr⟩
  subst hf
  iapply (wp_store 𝒱₀ (c : Thread nD τ) bd Set.univ (m := m) (r := Rect.unit off size inb) (Mk := Finset.univ) (Finset.subset_univ _)) $$ Hm; iintro Hm
  iapply h
  iapply Hr
  iexists _
  isplitr; swap
  · iexact Hm
  · ipureintro
    funext y
    refine (View.read_writes_cons_unit m.view f inb w [] y rfl).trans ?_
    split
    · next hy =>
      refine (hin _).symm.trans (congrArg X' ?_)
      funext a
      apply Fin.ext
      have := hy a
      show off a + 1 * ((y a).1 - off a) = (y a).1
      omega
    · next hy =>
      refine (hout y ?_).symm
      simp only [not_forall] at hy
      obtain ⟨a, ha⟩ := hy
      exact ⟨a, by show (y a).1 < off a ∨ off a + size a ≤ (y a).1; omega⟩

/-! ## One buffer taken out and put back -/

theorem take_q : H c β σ ⊢ iprop(own c β.q (arrB σ.q) ∗ (own c β.q (arrB σ.q) -∗ H c β σ)) := by
  unfold H
  iintro ⟨Hq, Hk, Hv, Hu, Ho, Hacc, Hcar, Hsp, Hz, Ha⟩
  isplitl [Hq]; · iexact Hq
  iintro Hq
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_k : H c β σ ⊢ iprop(own c β.k (arrB σ.k) ∗ (own c β.k (arrB σ.k) -∗ H c β σ)) := by
  unfold H
  iintro ⟨Hq, Hk, Hv, Hu, Ho, Hacc, Hcar, Hsp, Hz, Ha⟩
  isplitl [Hk]; · iexact Hk
  iintro Hk
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_v : H c β σ ⊢ iprop(own c β.v (arrB σ.v) ∗ (own c β.v (arrB σ.v) -∗ H c β σ)) := by
  unfold H
  iintro ⟨Hq, Hk, Hv, Hu, Ho, Hacc, Hcar, Hsp, Hz, Ha⟩
  isplitl [Hv]; · iexact Hv
  iintro Hv
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_u : H c β σ ⊢ iprop(own c β.u σ.u ∗ (own c β.u σ.u -∗ H c β σ)) := by
  unfold H
  iintro ⟨Hq, Hk, Hv, Hu, Ho, Hacc, Hcar, Hsp, Hz, Ha⟩
  isplitl [Hu]; · iexact Hu
  iintro Hu
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_o : H c β σ ⊢ iprop(own c β.o (arrB σ.o) ∗ (own c β.o (arrB σ.o) -∗ H c β σ)) := by
  unfold H
  iintro ⟨Hq, Hk, Hv, Hu, Ho, Hacc, Hcar, Hsp, Hz, Ha⟩
  isplitl [Ho]; · iexact Ho
  iintro Ho
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_acc : H c β σ ⊢ iprop(own c β.acc (arrAcc σ.acc) ∗ (own c β.acc (arrAcc σ.acc) -∗ H c β σ)) := by
  unfold H
  iintro ⟨Hq, Hk, Hv, Hu, Ho, Hacc, Hcar, Hsp, Hz, Ha⟩
  isplitl [Hacc]; · iexact Hacc
  iintro Hacc
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_car : H c β σ ⊢ iprop(own c β.car (arrCar σ.slot) ∗ (own c β.car (arrCar σ.slot) -∗ H c β σ)) := by
  unfold H
  iintro ⟨Hq, Hk, Hv, Hu, Ho, Hacc, Hcar, Hsp, Hz, Ha⟩
  isplitl [Hcar]; · iexact Hcar
  iintro Hcar
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_sp : H c β σ ⊢ iprop(own c β.sp (arrSp σ.slot) ∗ (own c β.sp (arrSp σ.slot) -∗ H c β σ)) := by
  unfold H
  iintro ⟨Hq, Hk, Hv, Hu, Ho, Hacc, Hcar, Hsp, Hz, Ha⟩
  isplitl [Hsp]; · iexact Hsp
  iintro Hsp
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_z : H c β σ ⊢ iprop(own c β.z (arrZ σ.slot) ∗ (own c β.z (arrZ σ.slot) -∗ H c β σ)) := by
  unfold H
  iintro ⟨Hq, Hk, Hv, Hu, Ho, Hacc, Hcar, Hsp, Hz, Ha⟩
  isplitl [Hz]; · iexact Hz
  iintro Hz
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem take_a : H c β σ ⊢ iprop(own c β.a (arrA σ.slot) ∗ (own c β.a (arrA σ.slot) -∗ H c β σ)) := by
  unfold H
  iintro ⟨Hq, Hk, Hv, Hu, Ho, Hacc, Hcar, Hsp, Hz, Ha⟩
  isplitl [Ha]; · iexact Ha
  iintro Ha
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem give_o (O : Nat → Fin 4 → B F) : H c β σ ⊢ iprop(own c β.o (arrB σ.o) ∗ (own c β.o (arrB O) -∗ H c β { σ with o := O })) := by
  unfold H
  iintro ⟨Hq, Hk, Hv, Hu, Ho, Hacc, Hcar, Hsp, Hz, Ha⟩
  isplitl [Ho]; · iexact Ho
  iintro Ho
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem give_acc (A : Fin 8 → T F) : H c β σ ⊢ iprop(own c β.acc (arrAcc σ.acc) ∗ (own c β.acc (arrAcc A) -∗ H c β { σ with acc := A })) := by
  unfold H
  iintro ⟨Hq, Hk, Hv, Hu, Ho, Hacc, Hcar, Hsp, Hz, Ha⟩
  isplitl [Hacc]; · iexact Hacc
  iintro Hacc
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

/-- A slot replaced by one with the same other parts leaves their arrays. -/
theorem same_slot {γ : Type} (X : Fin 5 → Slot F) (s : Fin 5) (l : Slot F) (f : Slot F → γ) (h : f l = f (X s)) (s' : Fin 5) :
    f (Function.update X s l s') = f (X s') := by
  by_cases e : s' = s
  · subst e; rw [Function.update_self, h]
  · rw [Function.update_of_ne e]
theorem same_z (X : Fin 5 → Slot F) (s : Fin 5) (l : Slot F) (h : l.z = (X s).z) : arrZ (Function.update X s l) = arrZ X :=
  funext fun y => congrFun (congrFun (congrFun (same_slot X s l Slot.z h (y 0)) _) _) _
theorem same_sp (X : Fin 5 → Slot F) (s : Fin 5) (l : Slot F) (h : l.sp = (X s).sp) : arrSp (Function.update X s l) = arrSp X :=
  funext fun y => congrFun (congrFun (congrFun (same_slot X s l Slot.sp h (y 0)) _) _) _
theorem same_a (X : Fin 5 → Slot F) (s : Fin 5) (l : Slot F) (h : l.a = (X s).a) : arrA (Function.update X s l) = arrA X :=
  funext fun y => congrFun (congrFun (congrFun (same_slot X s l Slot.a h (y 0)) _) _) _
theorem same_car (X : Fin 5 → Slot F) (s : Fin 5) (l : Slot F) (h : l.car = (X s).car) : arrCar (Function.update X s l) = arrCar X :=
  funext fun y => congrFun (congrFun (same_slot X s l Slot.car h (y 0)) _) _

theorem give_car (s : Fin 5) (g : Slot F → Slot F) (h_sp : (g (σ.slot s)).sp = (σ.slot s).sp) (h_z : (g (σ.slot s)).z = (σ.slot s).z) (h_a : (g (σ.slot s)).a = (σ.slot s).a) : H c β σ ⊢ iprop(own c β.car (arrCar σ.slot) ∗ (own c β.car (arrCar (σ.on s g).slot) -∗ H c β (σ.on s g))) := by
  have e_sp : arrSp (σ.on s g).slot = arrSp σ.slot := same_sp _ _ _ h_sp
  have e_z : arrZ (σ.on s g).slot = arrZ σ.slot := same_z _ _ _ h_z
  have e_a : arrA (σ.on s g).slot = arrA σ.slot := same_a _ _ _ h_a
  unfold H
  rw [e_sp, e_z, e_a]
  iintro ⟨Hq, Hk, Hv, Hu, Ho, Hacc, Hcar, Hsp, Hz, Ha⟩
  isplitl [Hcar]; · iexact Hcar
  iintro Hcar
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem give_sp (s : Fin 5) (g : Slot F → Slot F) (h_car : (g (σ.slot s)).car = (σ.slot s).car) (h_z : (g (σ.slot s)).z = (σ.slot s).z) (h_a : (g (σ.slot s)).a = (σ.slot s).a) : H c β σ ⊢ iprop(own c β.sp (arrSp σ.slot) ∗ (own c β.sp (arrSp (σ.on s g).slot) -∗ H c β (σ.on s g))) := by
  have e_car : arrCar (σ.on s g).slot = arrCar σ.slot := same_car _ _ _ h_car
  have e_z : arrZ (σ.on s g).slot = arrZ σ.slot := same_z _ _ _ h_z
  have e_a : arrA (σ.on s g).slot = arrA σ.slot := same_a _ _ _ h_a
  unfold H
  rw [e_car, e_z, e_a]
  iintro ⟨Hq, Hk, Hv, Hu, Ho, Hacc, Hcar, Hsp, Hz, Ha⟩
  isplitl [Hsp]; · iexact Hsp
  iintro Hsp
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem give_z (s : Fin 5) (g : Slot F → Slot F) (h_car : (g (σ.slot s)).car = (σ.slot s).car) (h_sp : (g (σ.slot s)).sp = (σ.slot s).sp) (h_a : (g (σ.slot s)).a = (σ.slot s).a) : H c β σ ⊢ iprop(own c β.z (arrZ σ.slot) ∗ (own c β.z (arrZ (σ.on s g).slot) -∗ H c β (σ.on s g))) := by
  have e_car : arrCar (σ.on s g).slot = arrCar σ.slot := same_car _ _ _ h_car
  have e_sp : arrSp (σ.on s g).slot = arrSp σ.slot := same_sp _ _ _ h_sp
  have e_a : arrA (σ.on s g).slot = arrA σ.slot := same_a _ _ _ h_a
  unfold H
  rw [e_car, e_sp, e_a]
  iintro ⟨Hq, Hk, Hv, Hu, Ho, Hacc, Hcar, Hsp, Hz, Ha⟩
  isplitl [Hz]; · iexact Hz
  iintro Hz
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

theorem give_a (s : Fin 5) (g : Slot F → Slot F) (h_car : (g (σ.slot s)).car = (σ.slot s).car) (h_sp : (g (σ.slot s)).sp = (σ.slot s).sp) (h_z : (g (σ.slot s)).z = (σ.slot s).z) : H c β σ ⊢ iprop(own c β.a (arrA σ.slot) ∗ (own c β.a (arrA (σ.on s g).slot) -∗ H c β (σ.on s g))) := by
  have e_car : arrCar (σ.on s g).slot = arrCar σ.slot := same_car _ _ _ h_car
  have e_sp : arrSp (σ.on s g).slot = arrSp σ.slot := same_sp _ _ _ h_sp
  have e_z : arrZ (σ.on s g).slot = arrZ σ.slot := same_z _ _ _ h_z
  unfold H
  rw [e_car, e_sp, e_z]
  iintro ⟨Hq, Hk, Hv, Hu, Ho, Hacc, Hcar, Hsp, Hz, Ha⟩
  isplitl [Ha]; · iexact Ha
  iintro Ha
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

/-! ## The rules -/

theorem sat_ldQ {r : Nat} {ok : okR 1 r} {p : Fin 4} {next : B F → K F α} (h : Sat c β bd σ (next (σ.q (r / 128) p)) Φ) : Sat c β bd σ (ldB β.q ok p next) Φ :=
  sat_load take_q ((congrArg (fun t => Sat c β bd σ (next t) Φ) (cut_arrB σ.q ok p)).mpr h)
theorem sat_ldK {r : Nat} {ok : okR 1 r} {p : Fin 4} {next : B F → K F α} (h : Sat c β bd σ (next (σ.k (r / 128) p)) Φ) : Sat c β bd σ (ldB β.k ok p next) Φ :=
  sat_load take_k ((congrArg (fun t => Sat c β bd σ (next t) Φ) (cut_arrB σ.k ok p)).mpr h)
theorem sat_ldV {r : Nat} {ok : okR 1 r} {p : Fin 4} {next : B F → K F α} (h : Sat c β bd σ (next (σ.v (r / 128) p)) Φ) : Sat c β bd σ (ldB β.v ok p next) Φ :=
  sat_load take_v ((congrArg (fun t => Sat c β bd σ (next t) Φ) (cut_arrB σ.v ok p)).mpr h)
theorem sat_ldK2 {r : Nat} {ok : okR 2 r} {p : Fin 4} {next : FVec F S256x128 .bf16 → K F α} (h : Sat c β bd σ (next (stack2 fun i => σ.k (r / 128 + i) p)) Φ) :
    Sat c β bd σ (ldB2 β.k ok p next) Φ :=
  sat_load take_k ((congrArg (fun t => Sat c β bd σ (next t) Φ) (cut_arrB2 σ.k ok p)).mpr h)
theorem sat_ldK3 {r : Nat} {ok : okR 3 r} {p : Fin 4} {next : FVec F S384x128 .bf16 → K F α} (h : Sat c β bd σ (next (stack3 fun i => σ.k (r / 128 + i) p)) Φ) :
    Sat c β bd σ (ldB3 β.k ok p next) Φ :=
  sat_load take_k ((congrArg (fun t => Sat c β bd σ (next t) Φ) (cut_arrB3 σ.k ok p)).mpr h)
theorem sat_stO {r : Nat} {ok : okR 1 r} {p : Fin 4} {x : B F} {next : K F α} (h : Sat c β bd (σ.setO (r / 128) p x) next Φ) : Sat c β bd σ (stO β ok p x next) Φ :=
  sat_load take_o (sat_store (give_o _) (put_O σ.o ok p x) (keep_O σ.o ok p x) h)
theorem sat_ldAcc {i : Fin 8} {next : T F → K F α} (h : Sat c β bd σ (next (σ.acc i)) Φ) : Sat c β bd σ (ldAcc β i next) Φ :=
  sat_load take_acc ((congrArg (fun t => Sat c β bd σ (next t) Φ) (cut_arrAcc σ.acc i)).mpr h)
theorem sat_stAcc {i : Fin 8} {x : T F} {next : K F α} (h : Sat c β bd (σ.setAcc i x) next Φ) : Sat c β bd σ (stAcc β i x next) Φ :=
  sat_load take_acc (sat_store (give_acc _) (put_Acc σ.acc i x) (keep_Acc σ.acc i x) h)
theorem sat_ldCar {s : Fin 5} {i : Fin 8} {next : T F → K F α} (h : Sat c β bd σ (next ((σ.slot s).car i)) Φ) : Sat c β bd σ (ldCar β s i next) Φ :=
  sat_load take_car ((congrArg (fun t => Sat c β bd σ (next t) Φ) (cut_arrCar σ.slot s i)).mpr h)
theorem sat_stCar {s : Fin 5} {i : Fin 8} {x : T F} {next : K F α} (h : Sat c β bd (σ.on s (·.setCar i x)) next Φ) : Sat c β bd σ (stCar β s i x next) Φ :=
  sat_load take_car (sat_store (give_car s (·.setCar i x) rfl rfl rfl) (put_Car σ.slot s i x) (keep_Car σ.slot s i x) h)
theorem sat_ldZ {s : Fin 5} {b : Fin 6} {p : Fin 4} {next : T F → K F α} (h : Sat c β bd σ (next ((σ.slot s).z b p)) Φ) : Sat c β bd σ (ldZ β s b p next) Φ :=
  sat_load take_z ((congrArg (fun t => Sat c β bd σ (next t) Φ) (cut_arrZ σ.slot s b p)).mpr h)
theorem sat_stZ {s : Fin 5} {b : Fin 6} {p : Fin 4} {x : T F} {next : K F α} (h : Sat c β bd (σ.on s (·.setZ b p x)) next Φ) : Sat c β bd σ (stZ β s b p x next) Φ :=
  sat_load take_z (sat_store (give_z s (·.setZ b p x) rfl rfl rfl) (put_Z σ.slot s b p x) (keep_Z σ.slot s b p x) h)
theorem sat_stSp {s : Fin 5} {b : Fin 6} {p : Fin 4} {x : B F} {next : K F α} (h : Sat c β bd (σ.on s (·.setSp b p x)) next Φ) : Sat c β bd σ (stSp β s b p x next) Φ :=
  sat_load take_sp (sat_store (give_sp s (·.setSp b p x) rfl rfl rfl) (put_Sp σ.slot s b p x) (keep_Sp σ.slot s b p x) h)
theorem sat_ldSpW {s : Fin 5} {b : Fin 3} {p : Fin 2} {next : FVec F S256x256 .bf16 → K F α} (h : Sat c β bd σ (next (quad (σ.slot s).sp b p)) Φ) : Sat c β bd σ (ldSpW β s b p next) Φ :=
  sat_load take_sp ((congrArg (fun t => Sat c β bd σ (next t) Φ) (cut_arrSpW σ.slot s b p)).mpr h)
theorem sat_ldZW {s : Fin 5} {b : Fin 3} {p : Fin 2} {next : FVec F S256x256 .f32 → K F α} (h : Sat c β bd σ (next (quad (σ.slot s).z b p)) Φ) : Sat c β bd σ (ldZW β s b p next) Φ :=
  sat_load take_z ((congrArg (fun t => Sat c β bd σ (next t) Φ) (cut_arrZW σ.slot s b p)).mpr h)
theorem sat_stAW {s : Fin 5} {b : Fin 3} {p : Fin 2} {x : FVec F S256x256 .bf16} {next : K F α} (h : Sat c β bd (σ.on s (·.setA b p x)) next Φ) : Sat c β bd σ (stAW β s b p x next) Φ :=
  sat_load take_a (sat_store (give_a s (·.setA b p x) rfl rfl rfl) (put_A σ.slot s b p x) (keep_A σ.slot s b p x) h)
theorem sat_ldAV {s : Fin 5} {b : Fin 3} {p : Fin 4} {next : FVec F S256x128 .bf16 → K F α} (h : Sat c β bd σ (next (half ((σ.slot s).a b) p)) Φ) : Sat c β bd σ (ldAV β s b p next) Φ :=
  sat_load take_a ((congrArg (fun t => Sat c β bd σ (next t) Φ) (cut_arrAV σ.slot s b p)).mpr h)
theorem sat_ldU {next : FVec F S256x256 .bf16 → K F α} (h : Sat c β bd σ (next σ.u) Φ) : Sat c β bd σ (ldU β next) Φ :=
  sat_load take_u ((congrArg (fun t => Sat c β bd σ (next t) Φ) (cut_U σ.u)).mpr h)
theorem sat_ldU1 {next : B F → K F α} (h : Sat c β bd σ (next (quarter σ.u)) Φ) : Sat c β bd σ (ldU1 β next) Φ :=
  sat_load take_u ((congrArg (fun t => Sat c β bd σ (next t) Φ) (cut_U1 σ.u)).mpr h)
theorem sat_ret {x : α} (h : H c β σ ⊢ Φ x) : Sat c β bd σ (.ret x) Φ := by
  unfold Sat
  rw [wp_ret]
  iintro Hσ
  imodintro
  iapply h
  iexact Hσ

theorem St.on_on (σ : St F) (s : Fin 5) (g g' : Slot F → Slot F) : (σ.on s g).on s g' = σ.on s fun l => g' (g l) := by
  unfold St.on; simp only [Function.update_self, Function.update_idem]
theorem St.on_slot (σ : St F) (s : Fin 5) (g : Slot F → Slot F) : (σ.on s g).slot s = g (σ.slot s) := by
  unfold St.on; simp only [Function.update_self]
theorem St.on_other (σ : St F) (s s' : Fin 5) (g : Slot F → Slot F) (h : s' ≠ s) : (σ.on s g).slot s' = σ.slot s' := by
  unfold St.on; simp only [Function.update_of_ne h]
end
end Cert.KernelIdeal.M
-- ==== Proof.Phase.lean ====
module

public import proofs.«01_k».proof.Proof.State

@[expose] public section

set_option maxRecDepth 16384

/-!
# What the phases of a query tile leave

The near blocks of a query tile are at most three, the last of them on the diagonal. `scoreS`, `weightS` and `xs` are
what the three phases compute from the scores, `oldAcc` and `oldCar` what a turn of the walk does to one head.
-/

namespace Cert.KernelIdeal.M
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
variable {F : FTy → Type} [FloatOps F] [Named F]
variable [Facts]
noncomputable section

/-- A column of numbers. -/
abbrev C (F : FTy → Type) := FVec F S128x1 .f32

/-! ## Scores -/

/-- The scores of a head against block `b` of the near ones, of which `d` is the last. -/
def raw (d : Fin 3) (q : B F) (k : Nat → B F) (hh : Fin 2) (b : Nat) : T F :=
  match d with
  | 0 => scores (lane (laneOf hh) q) (k 0)
  | 1 =>
    let z : FVec F S128x256 .f32 := matmul dot_S128x128_S256x128_S128x256_1_1_0_0_n_n none (lane (laneOf hh) q) (stack2 k) (constant S128x256 .f32 0x00000000#32)
    if b = 0 then extractStridedSlice S128x128 ![0, 0] z slices_S128x256_o0_0_S128x128
    else extractStridedSlice S128x128 ![0, 128] z slices_S128x256_o0_128_S128x128
  | 2 =>
    let z : FVec F S128x384 .f32 := matmul dot_S128x128_S384x128_S128x384_1_1_0_0_n_n none (lane (laneOf hh) q) (stack3 k) (constant S128x384 .f32 0x00000000#32)
    if b = 0 then extractStridedSlice S128x128 ![0, 0] z slices_S128x384_o0_0_S128x128
    else if b = 1 then extractStridedSlice S128x128 ![0, 128] z slices_S128x384_o0_128_S128x128
    else extractStridedSlice S128x128 ![0, 256] z slices_S128x384_o0_256_S128x128

/-- The carry after the diagonal block and `m` blocks before it. -/
def col (ζ : Nat → T F) (d : Nat) : Nat → C F
  | 0 => subf (broadcast S128x1 (Scalar.ofBits .f32 0x00000000#32)) (rowSum (softplus2 (masked (ζ d))))
  | m + 1 => subf (col ζ d m) (rowSum (softplus2 (ζ (d - 1 - m))))

/-- What the scores of block `b` are staged as. -/
def zf (ζ : Nat → T F) (d b : Nat) : T F := if b = d then masked (ζ d) else addf (ζ b) (wide (col ζ d (d - 1 - b)))
/-- Their softplus, as staged. -/
def spf (ζ : Nat → T F) (d b : Nat) : B F := round (softplus2 (if b = d then masked (ζ d) else ζ b))

/-- A head's block and which head of the pair it is, of a staged tile. -/
abbrev hOf (x : Nat) : Fin 2 := ⟨x % 2, Nat.mod_lt _ (by decide)⟩
abbrev pOf (h : Fin 8) : Fin 4 := ⟨h.1 / 2, by omega⟩

/-- One pair's scores. -/
def zsS (d : Fin 3) (p : Fin 4) (q : B F) (k : Nat → B F) (l : Slot F) : Slot F :=
  { l with z := fun x p' => if p' = p ∧ x.1 / 2 ≤ d.1 then raw d q k (hOf x.1) (x.1 / 2) else l.z x p' }

/-- One head's scores made ready. -/
def headS (d : Fin 3) (p : Fin 4) (hh : Fin 2) (l : Slot F) : Slot F :=
  let ζ : Nat → T F := fun b => l.z ⟨(2 * b + hh.1) % 6, Nat.mod_lt _ (by decide)⟩ p
  { l with
    z := fun x p' => if p' = p ∧ x.1 / 2 ≤ d.1 ∧ hOf x.1 = hh then zf ζ d (x.1 / 2) else l.z x p'
    sp := fun x p' => if p' = p ∧ x.1 / 2 ≤ d.1 ∧ hOf x.1 = hh then spf ζ d (x.1 / 2) else l.sp x p'
    car := Function.update l.car (hd p hh) (wide (shapeCast S128x1 (col ζ d d) shapeCasts_S128x1_S128x1)) }

/-- The scores of all heads made ready. -/
def scoreS (d : Fin 3) (q : Fin 4 → B F) (k : Nat → Fin 4 → B F) (l : Slot F) : Slot F :=
  { l with
    z := fun x p => if x.1 / 2 ≤ d.1 then zf (raw d (q p) (fun i => k i p) (hOf x.1)) d (x.1 / 2) else l.z x p
    sp := fun x p => if x.1 / 2 ≤ d.1 then spf (raw d (q p) (fun i => k i p) (hOf x.1)) d (x.1 / 2) else l.sp x p
    car := fun h => wide (shapeCast S128x1 (col (raw d (q (pOf h)) (fun i => k i (pOf h)) (hOf h.1)) d d) shapeCasts_S128x1_S128x1) }

/-- The largest carry of the eight heads. -/
def maxOf (f : Fin 4 → Fin 2 → C F) : C F :=
  maximumf (maximumf (maximumf (maximumf (maximumf (maximumf (maximumf (f 0 0) (f 0 1)) (f 1 0)) (f 1 1)) (f 2 0)) (f 2 1)) (f 3 0)) (f 3 1)
/-- Of a tile's scores. -/
def lastCols (d : Fin 3) (q : Fin 4 → B F) (k : Nat → Fin 4 → B F) (p : Fin 4) (hh : Fin 2) : C F := col (raw d (q p) (fun i => k i p) hh) d d

theorem Slot.ext' {l l' : Slot F} (hz : ∀ b p, l.z b p = l'.z b p) (hs : ∀ b p, l.sp b p = l'.sp b p) (ha : ∀ b p, l.a b p = l'.a b p) (hc : ∀ h, l.car h = l'.car h) : l = l' := by
  cases l; cases l'
  congr
  · funext b p; exact hz b p
  · funext b p; exact hs b p
  · funext b p; exact ha b p
  · funext h; exact hc h

variable {c : Dev nD} {β : Bufs} {bd : Option ℕ}
variable {α : Type} {σ : St F} {Φ : α → sProp (MT nD τ sig Unit (Elt F) ℕ (UR nD τ) ℕ)}

theorem Sat.to {σ' : St F} {p : K F α} (e : σ = σ') (h : Sat c β bd σ' p Φ) : Sat c β bd σ p Φ := e ▸ h

theorem sat_zs1 {s : Fin 5} {qr kr : Nat} {hq : okR 1 qr} {hk : okR 1 kr} {p : Fin 4} {next : K F α}
    (h : Sat c β bd (σ.on s (zsS 0 p (σ.q (qr / 128) p) (fun i => σ.k (kr / 128 + i) p))) next Φ) : Sat c β bd σ (zs1 β s hq hk p next) Φ := by
  refine sat_ldQ <| sat_ldK <| sat_stZ <| sat_stZ <| Sat.to ?_ h
  rw [St.on_on]
  refine congrArg (σ.on s) (funext fun l => Slot.ext' (fun b p' => ?_) (fun _ _ => rfl) (fun _ _ => rfl) fun _ => rfl)
  by_cases e : p' = p
  · subst e; fin_cases b <;> simp [Slot.setZ, zsS, raw, laneOf, tl, hOf]
  · fin_cases b <;> simp [Slot.setZ, zsS, e, tl]
theorem sat_zs2 {s : Fin 5} {qr kr : Nat} {hq : okR 1 qr} {hk : okR 2 kr} {p : Fin 4} {next : K F α}
    (h : Sat c β bd (σ.on s (zsS 1 p (σ.q (qr / 128) p) (fun i => σ.k (kr / 128 + i) p))) next Φ) : Sat c β bd σ (zs2 β s hq hk p next) Φ := by
  refine sat_ldQ <| sat_ldK2 <| sat_stZ <| sat_stZ <| sat_stZ <| sat_stZ <| Sat.to ?_ h
  simp only [St.on_on]
  refine congrArg (σ.on s) (funext fun l => Slot.ext' (fun b p' => ?_) (fun _ _ => rfl) (fun _ _ => rfl) fun _ => rfl)
  by_cases e : p' = p
  · subst e; fin_cases b <;> simp [Slot.setZ, zsS, raw, laneOf, tl, hOf]
  · fin_cases b <;> simp [Slot.setZ, zsS, e, tl]
theorem sat_zs3 {s : Fin 5} {qr kr : Nat} {hq : okR 1 qr} {hk : okR 3 kr} {p : Fin 4} {next : K F α}
    (h : Sat c β bd (σ.on s (zsS 2 p (σ.q (qr / 128) p) (fun i => σ.k (kr / 128 + i) p))) next Φ) : Sat c β bd σ (zs3 β s hq hk p next) Φ := by
  refine sat_ldQ <| sat_ldK3 <| sat_stZ <| sat_stZ <| sat_stZ <| sat_stZ <| sat_stZ <| sat_stZ <| Sat.to ?_ h
  simp only [St.on_on]
  refine congrArg (σ.on s) (funext fun l => Slot.ext' (fun b p' => ?_) (fun _ _ => rfl) (fun _ _ => rfl) fun _ => rfl)
  by_cases e : p' = p
  · subst e; fin_cases b <;> simp [Slot.setZ, zsS, raw, laneOf, tl, hOf]
  · fin_cases b <;> simp [Slot.setZ, zsS, e, tl]

/-- The carry of a head after its near blocks. -/
def headC (d : Fin 3) (p : Fin 4) (hh : Fin 2) (l : Slot F) : C F :=
  col (fun b => l.z ⟨(2 * b + hh.1) % 6, Nat.mod_lt _ (by decide)⟩ p) d d

theorem sat_diag {s : Fin 5} {b : Fin 3} {p : Fin 4} {hh : Fin 2} {next : C F → K F α} {z : T F} (hz : (σ.slot s).z (tl b hh) p = z)
    (h : Sat c β bd (σ.on s fun l => (l.setSp (tl b hh) p (round (softplus2 (masked z)))).setZ (tl b hh) p (masked z))
      (next (subf (broadcast S128x1 (Scalar.ofBits .f32 0x00000000#32)) (rowSum (softplus2 (masked z))))) Φ) :
    Sat c β bd σ (diagBlk β s b p hh next) Φ := by
  subst hz
  unfold diagBlk
  refine sat_ldZ ?_
  refine sat_stSp ?_
  refine sat_stZ ?_
  rw [St.on_on]; exact h
theorem sat_near {s : Fin 5} {b : Fin 3} {p : Fin 4} {hh : Fin 2} {x : C F} {next : C F → K F α} {z : T F} (hz : (σ.slot s).z (tl b hh) p = z)
    (h : Sat c β bd (σ.on s fun l => (l.setSp (tl b hh) p (round (softplus2 z))).setZ (tl b hh) p (addf z (wide x)))
      (next (subf x (rowSum (softplus2 z)))) Φ) :
    Sat c β bd σ (nearBlk β s b p hh x next) Φ := by
  subst hz
  unfold nearBlk
  refine sat_ldZ ?_
  refine sat_stSp ?_
  refine sat_stZ ?_
  rw [St.on_on]; exact h
theorem sat_car {s : Fin 5} {p : Fin 4} {hh : Fin 2} {x : C F} {next : C F → K F α}
    (h : Sat c β bd (σ.on s (·.setCar (hd p hh) (wide (shapeCast S128x1 x shapeCasts_S128x1_S128x1)))) (next x) Φ) :
    Sat c β bd σ (carOut β s p hh x next) Φ := sat_stCar h

/-! What a slot holds after parts of it were set. -/

theorem setZ_z (l : Slot F) (x p w x' p') : (l.setZ x p w).z x' p' = if p' = p ∧ x' = x then w else l.z x' p' := by
  unfold Slot.setZ
  by_cases h : x' = x
  · subst h; by_cases h : p' = p <;> simp [h]
  · simp [h]
theorem setSp_sp (l : Slot F) (x p w x' p') : (l.setSp x p w).sp x' p' = if p' = p ∧ x' = x then w else l.sp x' p' := by
  unfold Slot.setSp
  by_cases h : x' = x
  · subst h; by_cases h : p' = p <;> simp [h]
  · simp [h]
theorem setZ_sp (l : Slot F) (x p w) : (l.setZ x p w).sp = l.sp := rfl
theorem setSp_z (l : Slot F) (x p w) : (l.setSp x p w).z = l.z := rfl
theorem setCar_z (l : Slot F) (x w) : (l.setCar x w).z = l.z := rfl
theorem setCar_sp (l : Slot F) (x w) : (l.setCar x w).sp = l.sp := rfl

theorem sat_head1 {s : Fin 5} {p : Fin 4} {hh : Fin 2} {next : C F → K F α}
    (h : Sat c β bd (σ.on s (headS 0 p hh)) (next (headC 0 p hh (σ.slot s))) Φ) : Sat c β bd σ (head1 β s p hh next) Φ := by
  unfold head1
  refine sat_diag (z := (σ.slot s).z ⟨(2 * 0 + hh.1) % 6, Nat.mod_lt _ (by decide)⟩ p) (by fin_cases hh <;> rfl) ?_
  refine sat_car ?_
  rw [St.on_on]
  refine Sat.to (congrArg (fun l => ({ σ with slot := Function.update σ.slot s l } : St F)) ?_) h
  refine Slot.ext' (fun b p' => ?_) (fun b p' => ?_) (fun _ _ => rfl) fun _ => rfl
  · simp only [setZ_z, setSp_z, setCar_z, headS]
    by_cases e : p' = p
    · subst e; fin_cases hh <;> fin_cases b <;> simp [tl, hOf, zf]
    · simp [e]
  · simp only [setSp_sp, setZ_sp, setCar_sp, headS]
    by_cases e : p' = p
    · subst e; fin_cases hh <;> fin_cases b <;> simp [tl, hOf, spf]
    · simp [e]
theorem sat_head2 {s : Fin 5} {p : Fin 4} {hh : Fin 2} {next : C F → K F α}
    (h : Sat c β bd (σ.on s (headS 1 p hh)) (next (headC 1 p hh (σ.slot s))) Φ) : Sat c β bd σ (head2 β s p hh next) Φ := by
  unfold head2
  refine sat_diag (z := (σ.slot s).z ⟨(2 * 1 + hh.1) % 6, Nat.mod_lt _ (by decide)⟩ p) (by fin_cases hh <;> rfl) ?_
  refine sat_near (z := (σ.slot s).z ⟨(2 * 0 + hh.1) % 6, Nat.mod_lt _ (by decide)⟩ p) (by rw [St.on_slot]; simp only [setZ_z, setSp_z]; fin_cases hh <;> rfl) ?_
  refine sat_car ?_
  simp only [St.on_on]
  refine Sat.to (congrArg (fun l => ({ σ with slot := Function.update σ.slot s l } : St F)) ?_) h
  refine Slot.ext' (fun b p' => ?_) (fun b p' => ?_) (fun _ _ => rfl) fun _ => rfl
  · simp only [setZ_z, setSp_z, setCar_z, headS]
    by_cases e : p' = p
    · subst e; fin_cases hh <;> fin_cases b <;> simp [tl, hOf, zf, col]
    · simp [e]
  · simp only [setSp_sp, setZ_sp, setCar_sp, headS]
    by_cases e : p' = p
    · subst e; fin_cases hh <;> fin_cases b <;> simp [tl, hOf, spf]
    · simp [e]
theorem sat_head3 {s : Fin 5} {p : Fin 4} {hh : Fin 2} {next : C F → K F α}
    (h : Sat c β bd (σ.on s (headS 2 p hh)) (next (headC 2 p hh (σ.slot s))) Φ) : Sat c β bd σ (head3 β s p hh next) Φ := by
  unfold head3
  refine sat_diag (z := (σ.slot s).z ⟨(2 * 2 + hh.1) % 6, Nat.mod_lt _ (by decide)⟩ p) (by fin_cases hh <;> rfl) ?_
  refine sat_near (z := (σ.slot s).z ⟨(2 * 1 + hh.1) % 6, Nat.mod_lt _ (by decide)⟩ p) (by rw [St.on_slot]; simp only [setZ_z, setSp_z]; fin_cases hh <;> rfl) ?_
  refine sat_near (z := (σ.slot s).z ⟨(2 * 0 + hh.1) % 6, Nat.mod_lt _ (by decide)⟩ p) (by rw [St.on_slot, St.on_slot]; simp only [setZ_z, setSp_z]; fin_cases hh <;> rfl) ?_
  refine sat_car ?_
  simp only [St.on_on]
  refine Sat.to (congrArg (fun l => ({ σ with slot := Function.update σ.slot s l } : St F)) ?_) h
  refine Slot.ext' (fun b p' => ?_) (fun b p' => ?_) (fun _ _ => rfl) fun _ => rfl
  · simp only [setZ_z, setSp_z, setCar_z, headS]
    by_cases e : p' = p
    · subst e; fin_cases hh <;> fin_cases b <;> simp [tl, hOf, zf, col]
    · simp [e]
  · simp only [setSp_sp, setZ_sp, setCar_sp, headS]
    by_cases e : p' = p
    · subst e; fin_cases hh <;> fin_cases b <;> simp [tl, hOf, spf]
    · simp [e]

/-! All pairs and all heads. -/

/-- The scores of every pair. -/
def zsAll (d : Fin 3) (q : Fin 4 → B F) (k : Nat → Fin 4 → B F) (l : Slot F) : Slot F :=
  { l with z := fun x p => if x.1 / 2 ≤ d.1 then raw d (q p) (fun i => k i p) (hOf x.1) (x.1 / 2) else l.z x p }

theorem zsAll_eq (d : Fin 3) (q : Fin 4 → B F) (k : Nat → Fin 4 → B F) (l : Slot F) :
    zsS d 3 (q 3) (fun i => k i 3) (zsS d 2 (q 2) (fun i => k i 2) (zsS d 1 (q 1) (fun i => k i 1) (zsS d 0 (q 0) (fun i => k i 0) l))) = zsAll d q k l := by
  refine Slot.ext' (fun b p => ?_) (fun _ _ => rfl) (fun _ _ => rfl) fun _ => rfl
  simp only [zsS, zsAll]
  fin_cases p <;> simp

theorem headC_headS {d : Fin 3} {p p' : Fin 4} {hh hh' : Fin 2} (l : Slot F) (h : p' ≠ p ∨ hh' ≠ hh) : headC d p' hh' (headS d p hh l) = headC d p' hh' l := by
  unfold headC headS
  refine congrArg (fun ζ => col ζ d.1 d.1) (funext fun b => ?_)
  dsimp only
  rw [if_neg]
  rintro ⟨h1, h2, h3⟩
  have : hOf ((2 * b + hh'.1) % 6) = hh' := by apply Fin.ext; show ((2 * b + hh'.1) % 6) % 2 = hh'.1; omega
  rw [this] at h3
  rcases h with h | h
  · exact h h1
  · exact h h3

theorem headC_zsAll (d : Fin 3) (q : Fin 4 → B F) (k : Nat → Fin 4 → B F) (l : Slot F) (p : Fin 4) (hh : Fin 2) : headC d p hh (zsAll d q k l) = lastCols d q k p hh := by
  have h1 : hOf hh.1 = hh := by fin_cases hh <;> rfl
  fin_cases d <;> fin_cases hh <;> rfl

/-- A head's staged scores. -/
def zOf (l : Slot F) (p : Fin 4) (hh : Fin 2) (b : Nat) : T F := l.z ⟨(2 * b + hh.1) % 6, Nat.mod_lt _ (by decide)⟩ p

/-- A head's scores made ready, from given ones. -/
def headW (d : Fin 3) (p : Fin 4) (hh : Fin 2) (ζ : Nat → T F) (l : Slot F) : Slot F :=
  { l with
    z := fun x p' => if p' = p ∧ x.1 / 2 ≤ d.1 ∧ hOf x.1 = hh then zf ζ d (x.1 / 2) else l.z x p'
    sp := fun x p' => if p' = p ∧ x.1 / 2 ≤ d.1 ∧ hOf x.1 = hh then spf ζ d (x.1 / 2) else l.sp x p'
    car := Function.update l.car (hd p hh) (wide (shapeCast S128x1 (col ζ d d) shapeCasts_S128x1_S128x1)) }
theorem headS_eq (d : Fin 3) (p : Fin 4) (hh : Fin 2) (l : Slot F) : headS d p hh l = headW d p hh (zOf l p hh) l := rfl
theorem zOf_headW {d : Fin 3} {p p' : Fin 4} {hh hh' : Fin 2} (ζ : Nat → T F) (l : Slot F) (h : p' ≠ p ∨ hh' ≠ hh) : zOf (headW d p hh ζ l) p' hh' = zOf l p' hh' := by
  funext b
  unfold zOf headW
  dsimp only
  rw [if_neg]
  rintro ⟨h1, h2, h3⟩
  have : hOf ((2 * b + hh'.1) % 6) = hh' := by apply Fin.ext; show ((2 * b + hh'.1) % 6) % 2 = hh'.1; omega
  rw [this] at h3
  rcases h with h | h
  · exact h h1
  · exact h h3

theorem zf_all (d : Fin 3) (q : Fin 4 → B F) (k : Nat → Fin 4 → B F) (l : Slot F) (p : Fin 4) (hh : Fin 2) (b : Nat) (hb : b ≤ d.1) :
    zf (zOf (zsAll d q k l) p hh) d b = zf (raw d (q p) (fun i => k i p) hh) d b := by
  fin_cases d <;> fin_cases hh <;> dsimp only at hb <;> interval_cases b <;> rfl
theorem spf_all (d : Fin 3) (q : Fin 4 → B F) (k : Nat → Fin 4 → B F) (l : Slot F) (p : Fin 4) (hh : Fin 2) (b : Nat) (hb : b ≤ d.1) :
    spf (zOf (zsAll d q k l) p hh) d b = spf (raw d (q p) (fun i => k i p) hh) d b := by
  fin_cases d <;> fin_cases hh <;> dsimp only at hb <;> interval_cases b <;> rfl
theorem col_all (d : Fin 3) (q : Fin 4 → B F) (k : Nat → Fin 4 → B F) (l : Slot F) (p : Fin 4) (hh : Fin 2) :
    col (zOf (zsAll d q k l) p hh) d d = col (raw d (q p) (fun i => k i p) hh) d d := by
  fin_cases d <;> fin_cases hh <;> rfl

/-- All heads, from given scores. -/
theorem headW_all (d : Fin 3) (ζ : Fin 4 → Fin 2 → Nat → T F) (l : Slot F) :
    headW d 3 1 (ζ 3 1) (headW d 3 0 (ζ 3 0) (headW d 2 1 (ζ 2 1) (headW d 2 0 (ζ 2 0) (headW d 1 1 (ζ 1 1) (headW d 1 0 (ζ 1 0) (headW d 0 1 (ζ 0 1) (headW d 0 0 (ζ 0 0) l))))))) =
    { l with
      z := fun x p => if x.1 / 2 ≤ d.1 then zf (ζ p (hOf x.1)) d (x.1 / 2) else l.z x p
      sp := fun x p => if x.1 / 2 ≤ d.1 then spf (ζ p (hOf x.1)) d (x.1 / 2) else l.sp x p
      car := fun h => wide (shapeCast S128x1 (col (ζ (pOf h) (hOf h.1)) d d) shapeCasts_S128x1_S128x1) } := by
  refine Slot.ext' (fun x p => ?_) (fun x p => ?_) (fun _ _ => rfl) fun h => ?_
  · dsimp only [headW]
    generalize hOf x.1 = y
    by_cases hx : x.1 / 2 ≤ d.1
    · fin_cases p <;> fin_cases y <;> simp [hx]
    · simp [hx]
  · dsimp only [headW]
    generalize hOf x.1 = y
    by_cases hx : x.1 / 2 ≤ d.1
    · fin_cases p <;> fin_cases y <;> simp [hx]
    · simp [hx]
  · dsimp only [headW]
    fin_cases h <;> rfl

theorem headAll_eq (d : Fin 3) (q : Fin 4 → B F) (k : Nat → Fin 4 → B F) (l : Slot F) :
    headS d 3 1 (headS d 3 0 (headS d 2 1 (headS d 2 0 (headS d 1 1 (headS d 1 0 (headS d 0 1 (headS d 0 0 (zsAll d q k l)))))))) = scoreS d q k l := by
  simp only [headS_eq, zOf_headW _ _ (Or.inl (show (3 : Fin 4) ≠ 0 by decide)), zOf_headW _ _ (Or.inl (show (3 : Fin 4) ≠ 1 by decide)),
    zOf_headW _ _ (Or.inl (show (3 : Fin 4) ≠ 2 by decide)), zOf_headW _ _ (Or.inl (show (2 : Fin 4) ≠ 0 by decide)), zOf_headW _ _ (Or.inl (show (2 : Fin 4) ≠ 1 by decide)),
    zOf_headW _ _ (Or.inl (show (1 : Fin 4) ≠ 0 by decide)), zOf_headW _ _ (Or.inr (show (1 : Fin 2) ≠ 0 by decide))]
  refine (headW_all d (fun p hh => zOf (zsAll d q k l) p hh) _).trans ?_
  refine Slot.ext' (fun x p => ?_) (fun x p => ?_) (fun _ _ => rfl) fun h => ?_
  · dsimp only [scoreS]
    by_cases hx : x.1 / 2 ≤ d.1
    · rw [if_pos hx, if_pos hx, zf_all d q k l p _ _ hx]
    · rw [if_neg hx, if_neg hx]; exact if_neg hx
  · dsimp only [scoreS]
    by_cases hx : x.1 / 2 ≤ d.1
    · rw [if_pos hx, if_pos hx, spf_all d q k l p _ _ hx]
    · rw [if_neg hx, if_neg hx]; rfl
  · dsimp only [scoreS]
    rw [col_all]

/-! ## Score phases -/

theorem on_zs (s : Fin 5) (d : Fin 3) (σ : St F) (i j : Nat) :
    ((((σ.on s (zsS d 0 (σ.q i 0) fun n => σ.k (j + n) 0)).on s (zsS d 1 (σ.q i 1) fun n => σ.k (j + n) 1)).on s (zsS d 2 (σ.q i 2) fun n => σ.k (j + n) 2)).on s
      (zsS d 3 (σ.q i 3) fun n => σ.k (j + n) 3)) = σ.on s (zsAll d (σ.q i) fun n => σ.k (j + n)) := by
  simp only [St.on_on]
  exact congrArg (σ.on s) (funext fun l => zsAll_eq d (σ.q i) (fun n => σ.k (j + n)) l)

theorem sat_heads {s : Fin 5} {d : Fin 3} {f : Fin 4 → Fin 2 → (C F → K F α) → K F α} {next : C F → K F α}
    (hf : ∀ (τ' : St F) (p : Fin 4) (hh : Fin 2) (nx : C F → K F α), Sat c β bd (τ'.on s (headS d p hh)) (nx (headC d p hh (τ'.slot s))) Φ → Sat c β bd τ' (f p hh nx) Φ)
    (q : Fin 4 → B F) (k : Nat → Fin 4 → B F)
    (h : Sat c β bd (σ.on s (scoreS d q k)) (next (maxOf (lastCols d q k))) Φ) : Sat c β bd (σ.on s (zsAll d q k)) (heads f next) Φ := by
  have step : ∀ (g : Slot F → Slot F) (p : Fin 4) (hh : Fin 2) (nx : C F → K F α), headC d p hh (g (σ.slot s)) = lastCols d q k p hh →
      Sat c β bd (σ.on s fun l => headS d p hh (g l)) (nx (lastCols d q k p hh)) Φ → Sat c β bd (σ.on s g) (f p hh nx) Φ := by
    intro g p hh nx e h
    refine hf _ _ _ _ ?_
    rw [St.on_on, St.on_slot, e]
    exact h
  unfold heads
  refine step _ 0 0 _ (headC_zsAll ..) ?_
  refine step _ 0 1 _ (by repeat rw [headC_headS _ (by decide)]
                          exact headC_zsAll ..) ?_
  refine step _ 1 0 _ (by repeat rw [headC_headS _ (by decide)]
                          exact headC_zsAll ..) ?_
  refine step _ 1 1 _ (by repeat rw [headC_headS _ (by decide)]
                          exact headC_zsAll ..) ?_
  refine step _ 2 0 _ (by repeat rw [headC_headS _ (by decide)]
                          exact headC_zsAll ..) ?_
  refine step _ 2 1 _ (by repeat rw [headC_headS _ (by decide)]
                          exact headC_zsAll ..) ?_
  refine step _ 3 0 _ (by repeat rw [headC_headS _ (by decide)]
                          exact headC_zsAll ..) ?_
  refine step _ 3 1 _ (by repeat rw [headC_headS _ (by decide)]
                          exact headC_zsAll ..) ?_
  exact Sat.to (σ' := σ.on s (scoreS d q k)) (congrArg (σ.on s) (funext fun l => headAll_eq d q k l)) h

theorem sat_score1 {s : Fin 5} {qr kr : Nat} {hq : okR 1 qr} {hk : okR 1 kr} {next : C F → K F α}
    (h : Sat c β bd (σ.on s (scoreS 0 (σ.q (qr / 128)) fun n => σ.k (kr / 128 + n))) (next (maxOf (lastCols 0 (σ.q (qr / 128)) fun n => σ.k (kr / 128 + n)))) Φ) :
    Sat c β bd σ (pairs (zs1 β s hq hk) (heads (head1 β s) next)) Φ := by
  unfold pairs
  refine sat_zs1 <| sat_zs1 <| sat_zs1 <| sat_zs1 <| Sat.to (on_zs s 0 σ (qr / 128) (kr / 128)) <| sat_heads (fun _ _ _ _ => sat_head1) _ _ h
theorem sat_score2 {s : Fin 5} {qr kr : Nat} {hq : okR 1 qr} {hk : okR 2 kr} {next : C F → K F α}
    (h : Sat c β bd (σ.on s (scoreS 1 (σ.q (qr / 128)) fun n => σ.k (kr / 128 + n))) (next (maxOf (lastCols 1 (σ.q (qr / 128)) fun n => σ.k (kr / 128 + n)))) Φ) :
    Sat c β bd σ (pairs (zs2 β s hq hk) (heads (head2 β s) next)) Φ := by
  unfold pairs
  refine sat_zs2 <| sat_zs2 <| sat_zs2 <| sat_zs2 <| Sat.to (on_zs s 1 σ (qr / 128) (kr / 128)) <| sat_heads (fun _ _ _ _ => sat_head2) _ _ h
theorem sat_score3 {s : Fin 5} {qr kr : Nat} {hq : okR 1 qr} {hk : okR 3 kr} {next : BitVec 1 → K F α}
    (h : Sat c β bd (σ.on s (scoreS 2 (σ.q (qr / 128)) fun n => σ.k (kr / 128 + n))) (next (aliveCol (maxOf (lastCols 2 (σ.q (qr / 128)) fun n => σ.k (kr / 128 + n))))) Φ) :
    Sat c β bd σ (score3 β s hq hk next) Φ := by
  unfold score3 pairs
  refine sat_zs3 <| sat_zs3 <| sat_zs3 <| sat_zs3 <| Sat.to (on_zs s 2 σ (qr / 128) (kr / 128)) <| sat_heads (fun _ _ _ _ => sat_head3) _ _ h

/-! ## Weights and values -/

/-- The weights of one quarter of the heads against one block. -/
def wt (u : FVec F S256x256 .bf16) (l : Slot F) (b : Fin 3) (c : Fin 2) : FVec F S256x256 .bf16 :=
  truncf .bf16 (exp2 (addf (quad l.z b c) (matmul dot_S256x256_S256x256_S256x256_1_0_0_1_n_n none (quad l.sp b c) u (constant S256x256 .f32 0x00000000#32)))) bitsLt_bf16_f32

/-- The weights of a tile. -/
def weightS (d : Fin 3) (u : FVec F S256x256 .bf16) (l : Slot F) : Slot F := { l with a := fun b c => if b.1 ≤ d.1 then wt u l b c else l.a b c }

theorem sat_weight {s : Fin 5} {b : Fin 3} {next : K F α}
    (h : Sat c β bd (σ.on s fun l => { l with a := fun b' c => if b' = b then wt σ.u l b c else l.a b' c }) next Φ) : Sat c β bd σ (weight β s b next) Φ := by
  unfold weight weightBox
  refine sat_ldSpW <| sat_ldU <| sat_ldZW <| sat_stAW <| sat_ldSpW <| sat_ldU <| sat_ldZW <| sat_stAW ?_
  rw [St.on_slot, St.on_on]
  refine Sat.to (congrArg (fun l => ({ σ with slot := Function.update σ.slot s l } : St F)) ?_) h
  refine Slot.ext' (fun _ _ => rfl) (fun _ _ => rfl) (fun b' c => ?_) fun _ => rfl
  by_cases e : b' = b
  · subst e; fin_cases c <;> simp [Slot.setA, wt, St.on]
  · simp [Slot.setA, e]

theorem St.on_congr (σ : St F) (s : Fin 5) {g g' : Slot F → Slot F} (h : ∀ l, g l = g' l) : σ.on s g = σ.on s g' := congrArg (σ.on s) (funext h)

theorem sat_weights1 {s : Fin 5} {next : K F α} (h : Sat c β bd (σ.on s (weightS 0 σ.u)) next Φ) : Sat c β bd σ (weights1 β s next) Φ := by
  unfold weights1
  refine sat_weight <| Sat.to (σ' := σ.on s (weightS 0 σ.u)) (St.on_congr _ _ fun l => Slot.ext' (fun _ _ => rfl) (fun _ _ => rfl) (fun b c => ?_) fun _ => rfl) h
  fin_cases b <;> rfl
theorem sat_weights2 {s : Fin 5} {next : K F α} (h : Sat c β bd (σ.on s (weightS 1 σ.u)) next Φ) : Sat c β bd σ (weights2 β s next) Φ := by
  unfold weights2
  refine sat_weight <| sat_weight ?_
  rw [St.on_on]
  refine Sat.to (σ' := σ.on s (weightS 1 σ.u)) (St.on_congr _ _ fun l => Slot.ext' (fun _ _ => rfl) (fun _ _ => rfl) (fun b c => ?_) fun _ => rfl) h
  fin_cases b <;> rfl
theorem sat_weights3 {s : Fin 5} {next : K F α} (h : Sat c β bd (σ.on s (weightS 2 σ.u)) next Φ) : Sat c β bd σ (weights3 β s next) Φ := by
  unfold weights3
  refine sat_weight <| sat_weight <| sat_weight ?_
  rw [St.on_on, St.on_on]
  refine Sat.to (σ' := σ.on s (weightS 2 σ.u)) (St.on_congr _ _ fun l => Slot.ext' (fun _ _ => rfl) (fun _ _ => rfl) (fun b c => ?_) fun _ => rfl) h
  fin_cases b <;> rfl

/-- Both heads of a pair: the weights on the values of the near blocks. -/
def xs (d : Fin 3) (a : Fin 3 → Fin 2 → FVec F S256x256 .bf16) (v : Fin 3 → Fin 4 → B F) (p : Fin 4) : FVec F S256x128 .f32 :=
  match d with
  | 0 => part (half (a 0) p) (v 0 p)
  | 1 => addf (part (half (a 0) p) (v 0 p)) (part (half (a 1) p) (v 1 p))
  | 2 => addf (addf (part (half (a 0) p) (v 0 p)) (part (half (a 1) p) (v 1 p))) (part (half (a 2) p) (v 2 p))

/-- A tile of the result. -/
def St.tile (σ : St F) (i : Nat) (w : Fin 4 → B F) : St F := { σ with o := Function.update σ.o i w }

theorem set4 (σ : St F) (i : Nat) (w : Fin 4 → B F) : (((σ.setO i 0 (w 0)).setO i 1 (w 1)).setO i 2 (w 2)).setO i 3 (w 3) = σ.tile i w := by
  unfold St.setO St.tile
  refine congrArg (fun o => ({ σ with o := o } : St F)) ?_
  simp only [Function.update_self, Function.update_idem]
  refine congrArg (Function.update σ.o i) (funext fun p => ?_)
  fin_cases p <;> rfl

/-- The tile the near blocks give. -/
def nearO (x : Fin 4 → FVec F S256x128 .f32) (p : Fin 4) : B F := both (top (x p)) (bot (x p))

theorem sat_val1 {s : Fin 5} {qr v0 : Nat} {hq : okR 1 qr} {h0 : okR 1 v0} {p : Fin 4} {next : FVec F S256x128 .f32 → K F α}
    (h : let x := xs 0 (σ.slot s).a ![σ.v (v0 / 128), σ.v 0, σ.v 0] p; Sat c β bd (σ.setO (qr / 128) p (both (top x) (bot x))) (next x) Φ) : Sat c β bd σ (val1 β s hq h0 p next) Φ := by
  unfold val1
  exact sat_ldV <| sat_ldAV <| sat_stO h
theorem sat_val2 {s : Fin 5} {qr v0 v1 : Nat} {hq : okR 1 qr} {h0 : okR 1 v0} {h1 : okR 1 v1} {p : Fin 4} {next : FVec F S256x128 .f32 → K F α}
    (h : let x := xs 1 (σ.slot s).a ![σ.v (v0 / 128), σ.v (v1 / 128), σ.v 0] p; Sat c β bd (σ.setO (qr / 128) p (both (top x) (bot x))) (next x) Φ) : Sat c β bd σ (val2 β s hq h0 h1 p next) Φ := by
  unfold val2
  exact sat_ldV <| sat_ldAV <| sat_ldV <| sat_ldAV <| sat_stO h
theorem sat_val3 {s : Fin 5} {qr v0 v1 v2 : Nat} {hq : okR 1 qr} {h0 : okR 1 v0} {h1 : okR 1 v1} {h2 : okR 1 v2} {p : Fin 4} {next : FVec F S256x128 .f32 → K F α}
    (h : let x := xs 2 (σ.slot s).a ![σ.v (v0 / 128), σ.v (v1 / 128), σ.v (v2 / 128)] p; Sat c β bd (σ.setO (qr / 128) p (both (top x) (bot x))) (next x) Φ) : Sat c β bd σ (val3 β s hq h0 h1 h2 p next) Φ := by
  unfold val3
  exact sat_ldV <| sat_ldAV <| sat_ldV <| sat_ldAV <| sat_ldV <| sat_ldAV <| sat_stO h

theorem sat_value3 {s : Fin 5} {qr v0 v1 v2 : Nat} {hq : okR 1 qr} {h0 : okR 1 v0} {h1 : okR 1 v1} {h2 : okR 1 v2} {next : (Fin 4 → FVec F S256x128 .f32) → K F α}
    (h : let x := xs 2 (σ.slot s).a ![σ.v (v0 / 128), σ.v (v1 / 128), σ.v (v2 / 128)]; Sat c β bd (σ.tile (qr / 128) (nearO x)) (next x) Φ) : Sat c β bd σ (value3 β s hq h0 h1 h2 next) Φ := by
  unfold value3
  refine sat_val3 <| sat_val3 <| sat_val3 <| sat_val3 ?_
  have e := set4 σ (qr / 128) (nearO (xs 2 (σ.slot s).a ![σ.v (v0 / 128), σ.v (v1 / 128), σ.v (v2 / 128)]))
  have e' : ∀ x : Fin 4 → FVec F S256x128 .f32, ![x 0, x 1, x 2, x 3] = x := fun x => by funext i; fin_cases i <;> rfl
  refine Sat.to e ?_
  refine (congrArg (fun x => Sat c β bd _ (next x) Φ) (e' _)).mpr h

/-- The first tile. -/
theorem sat_tile1 {qr : Nat} {hq : okR 1 qr} {next : K F α}
    (h : let l := weightS 0 σ.u (scoreS 0 (σ.q (qr / 128)) (fun n => σ.k (qr / 128 + n)) (σ.slot 0))
      Sat c β bd ((σ.on 0 fun _ => l).tile (qr / 128) (nearO (xs 0 l.a ![σ.v (qr / 128), σ.v 0, σ.v 0]))) next Φ) : Sat c β bd σ (tile1 β hq next) Φ := by
  unfold tile1
  refine sat_score1 <| sat_weights1 ?_
  rw [St.on_on]
  refine sat_val1 <| sat_val1 <| sat_val1 <| sat_val1 ?_
  refine Sat.to (σ' := St.tile _ _ _) ?_ h
  refine Eq.trans ?_ (set4 _ _ _)
  simp only [nearO, St.setO, St.on_slot]
  simp only [St.on, Function.update_self]

theorem sat_tile2 {qr kr : Nat} {hq : okR 1 qr} {hk : okR 2 kr} {h0 : okR 1 kr} {next : K F α}
    (h : let l := weightS 1 σ.u (scoreS 1 (σ.q (qr / 128)) (fun n => σ.k (kr / 128 + n)) (σ.slot 0))
      Sat c β bd ((σ.on 0 fun _ => l).tile (qr / 128) (nearO (xs 1 l.a ![σ.v (kr / 128), σ.v (qr / 128), σ.v 0]))) next Φ) : Sat c β bd σ (tile2 β hq hk h0 next) Φ := by
  unfold tile2
  refine sat_score2 <| sat_weights2 ?_
  rw [St.on_on]
  refine sat_val2 <| sat_val2 <| sat_val2 <| sat_val2 ?_
  refine Sat.to (σ' := St.tile _ _ _) ?_ h
  refine Eq.trans ?_ (set4 _ _ _)
  simp only [nearO, St.setO, St.on_slot]
  simp only [St.on, Function.update_self]
end
end Cert.KernelIdeal.M
-- ==== Proof.Same.lean ====
module

public import proofs.«01_k».proof.Proof.Model

@[expose] public section

set_option maxRecDepth 1000000

/-!
# The two writings are the same program
-/

namespace Cert.KernelIdeal.M
open Idealize.ShloMosaic Idealize.SL.Sem
open Facts₀ Facts
variable {F : FTy → Type} [FloatOps F] [Named F]
variable [Facts]
noncomputable section

/-! ## The walks -/

theorem w1 (β : Bufs) (i : grid0.Coords) (t : Fin k0_t1_loop.trips) (l : BitVec 1) (j : BitVec 32) (b : BitVec 1) :
    cc0_while1 (F := F) i t l β.q β.hq β.k β.hk β.v β.hv lane0 β.car β.hcar β.u β.hu β.acc β.hacc lane1 j b =
    walk β 0 (rows0 t).q j b (call1 β i t l) := rfl
theorem w2 (β : Bufs) (i : grid0.Coords) (t : Fin k0_t1_loop.trips) (l l1 : BitVec 1) (j : BitVec 32) (b : BitVec 1) :
    cc0_while2 (F := F) i t l l1 β.q β.hq β.k β.hk β.v β.hv lane0 β.car β.hcar β.u β.hu β.acc β.hacc lane1 j b =
    walk β 1 (rows1 t).q j b (call2 β i t l l1) := rfl
theorem w3 (β : Bufs) (i : grid0.Coords) (t : Fin k0_t1_loop.trips) (l l1 l2 : BitVec 1) (j : BitVec 32) (b : BitVec 1) :
    cc0_while3 (F := F) i t l l1 l2 β.q β.hq β.k β.hk β.v β.hv lane0 β.car β.hcar β.u β.hu β.acc β.hacc lane1 j b =
    walk β 2 (rows2 t).q j b (call3 β i t l l1 l2) := rfl
theorem w4 (β : Bufs) (i : grid0.Coords) (t : Fin k0_t1_loop.trips) (l l1 l2 l3 : BitVec 1) (j : BitVec 32) (b : BitVec 1) :
    cc0_while4 (F := F) i t l l1 l2 l3 β.q β.hq β.k β.hk β.v β.hv lane0 β.car β.hcar β.u β.hu β.acc β.hacc lane1 j b =
    walk β 3 (rows3 t).q j b (call4 β i t l l1 l2 l3) := rfl
theorem w5 (β : Bufs) (i : grid0.Coords) (t : Fin k0_t1_loop.trips) (l l1 l2 l3 l4 : BitVec 1) (j : BitVec 32) (b : BitVec 1) :
    cc0_while5 (F := F) i t l l1 l2 l3 l4 β.q β.hq β.k β.hk β.v β.hv lane0 β.car β.hcar β.u β.hu β.acc β.hacc lane1 j b =
    walk β 4 (rows4 t).q j b (call5 β i t l l1 l2 l3 l4) := rfl

/-! ## The body -/

theorem op_congr {E : Type → Type _} {α X : Type} {e : E X} {k k' : X → Prog E α} (h : ∀ x, k x = k' x) : Prog.op e k = Prog.op e k' := by
  rw [funext h]
theorem bind_congr' {E : Type → Type _} {α γ : Type} {p p' : Prog E α} {k k' : α → Prog E γ} (h : p = p') (h' : ∀ x, k x = k' x) :
    Prog.bind p k = Prog.bind p' k' := by
  rw [h, funext h']
theorem bind_bind {E : Type → Type _} {α γ δ : Type} (p : Prog E α) (k : α → Prog E γ) (k' : γ → Prog E δ) :
    Prog.bind (Prog.bind p k) k' = Prog.bind p fun x => Prog.bind (k x) k' := bind_assoc p k k'
theorem ite_bind {E : Type → Type _} {α γ : Type} (c : Prop) [Decidable c] (p p' : Prog E α) (k : α → Prog E γ) :
    Prog.bind (if c then p else p') k = if c then Prog.bind p k else Prog.bind p' k := by
  split <;> rfl
theorem for_congr {E : Type → Type _} {b b' : Fin k0_t1_loop.trips → PUnit → Prog E PUnit} {k k' : PUnit → Prog E PUnit} (h : ∀ t, b t ⟨⟩ = b' t ⟨⟩) (h' : ∀ x, k x = k' x) :
    Prog.bind (Scf.Loop.for k0_t1_loop k0_t1_ok ⟨⟩ b) k = Prog.bind (Scf.Loop.for k0_t1_loop k0_t1_ok ⟨⟩ b') k' := by
  rw [show b = b' from funext fun t => funext fun _ => h t, funext h']

section
variable {α γ : Type}
theorem accIn_bind (β : Bufs) (x : Fin 4 → FVec F S256x128 .f32) (n : K F α) (k : α → K F γ) :
    Prog.bind (accIn β x n) k = accIn β x (Prog.bind n k) := rfl
theorem accOut_bind (β : Bufs) {qr : Nat} (hq : okR 1 qr) (n : K F α) (k : α → K F γ) :
    Prog.bind (accOut β hq n) k = accOut β hq (Prog.bind n k) := rfl
theorem before_bind (β : Bufs) (f : BitVec 32) (l : BitVec 1) (x : Fin 4 → FVec F S256x128 .f32) (n : K F α) (k : α → K F γ) :
    Prog.bind (before β f l x n) k = before β f l x (Prog.bind n k) := by
  unfold before; rw [ite_bind, accIn_bind]
theorem after_bind (β : Bufs) {qr : Nat} (hq : okR 1 qr) (f : BitVec 32) (l : BitVec 1) (n : K F α) (k : α → K F γ) :
    Prog.bind (after β hq f l n) k = after β hq f l (Prog.bind n k) := by
  unfold after; rw [ite_bind, accOut_bind]
theorem finish_bind (β : Bufs) {qr : Nat} (hq : okR 1 qr) (f : BitVec 32) (l : BitVec 1) (x : Fin 4 → FVec F S256x128 .f32)
    (call : BitVec 32 → BitVec 1 → K F (BitVec 32 × BitVec 1)) (n : K F α) (k : α → K F γ) :
    Prog.bind (finish β hq f l x call n) k = finish β hq f l x call (Prog.bind n k) := by
  unfold finish; rw [before_bind, bind_bind]; simp only [after_bind]
end

/-- The five walks as the printed text groups them. -/
def walks (β : Bufs) (i : grid0.Coords) {t : Fin k0_t1_loop.trips} (r0 : Rows t 0#32) (r1 : Rows t 1#32) (r2 : Rows t 2#32) (r3 : Rows t 3#32) (r4 : Rows t 4#32)
    (l0 l1 l2 l3 l4 : BitVec 1) (x0 x1 x2 x3 x4 : Fin 4 → FVec F S256x128 .f32) : K F PUnit :=
  Prog.bind (finish β r0.q (fst t 0#32) l0 x0 (call1 β i t l0) (.ret (⟨x4 3, Scalar.subi (qi t 1#32) 2#32, 1#32⟩ : Σ' (_ : FVec F S256x128 .f32) (_ : BitVec 32), BitVec 32))) fun y =>
  Prog.bind (finish β r1.q (Scalar.subi y.2.1 y.2.2) l1 x1 (call2 β i t l0 l1) <| finish β r2.q (fst t 2#32) l2 x2 (call3 β i t l0 l1 l2) <| finish β r3.q (fst t 3#32) l3 x3 (call4 β i t l0 l1 l2 l3) <|
    before β (fst t 4#32) l4 ![x4 0, x4 1, x4 2, y.1] <| Prog.bind (call5 β i t l0 l1 l2 l3 l4 (fst t 4#32) l4) fun _ => .ret (goes (fst t 4#32) l4)) fun g =>
  if g = 1#1 then accOut β r4.q (.ret ⟨⟩) else .ret ⟨⟩

theorem walks_eq (β : Bufs) (i : grid0.Coords) {t : Fin k0_t1_loop.trips} (r0 : Rows t 0#32) (r1 : Rows t 1#32) (r2 : Rows t 2#32) (r3 : Rows t 3#32) (r4 : Rows t 4#32)
    (l0 l1 l2 l3 l4 : BitVec 1) (x0 x1 x2 x3 x4 : Fin 4 → FVec F S256x128 .f32) :
    walks β i r0 r1 r2 r3 r4 l0 l1 l2 l3 l4 x0 x1 x2 x3 x4 = finish5 β i r0 r1 r2 r3 r4 l0 l1 l2 l3 l4 x0 x1 x2 x3 x4 := by
  have hx : (![x4 0, x4 1, x4 2, x4 3] : Fin 4 → FVec F S256x128 .f32) = x4 := by funext a; fin_cases a <;> rfl
  unfold walks finish5
  simp only [finish_bind, before_bind, bind_bind, Prog.bind_ret, hx]
  rfl

theorem main_same (β : Bufs) (i : grid0.Coords) :
    cc0_stickbreak_attn (F := F) i β.q β.hq β.k β.hk β.v β.hv β.u β.hu β.o β.ho β.acc β.hacc β.car β.hcar β.sp β.hsp β.z β.hz β.a β.ha = attn β i := by
  iterate 286 (refine op_congr fun _ => ?_)
  refine for_congr (fun t => ?_) fun _ => rfl
  repeat (refine op_congr fun _ => ?_)
  exact .trans (by
    refine bind_congr' rfl ?_
    rintro ⟨a, b, c⟩
    exact bind_congr' rfl fun _ => rfl) (walks_eq β i (rows0 t) (rows1 t) (rows2 t) (rows3 t) (rows4 t) _ _ _ _ _ _ _ _ _ _)
end
end Cert.KernelIdeal.M
-- ==== Proof.Walk.lean ====
module

public import proofs.«01_k».proof.Proof.Phase
public import proofs.«01_k».proof.Proof.Same

@[expose] public section

set_option maxRecDepth 16384

/-!
# The walk over the older blocks, and the kernel's result

`walkW` runs the older blocks from the latest on, as long as a weight may be left. `tileOf` is the tile the kernel
writes; `sat_attn` says that the kernel, run from any contents of its buffers, leaves every tile at it.
-/

namespace Cert.KernelIdeal.M
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
variable {F : FTy → Type} [FloatOps F] [Named F]
variable [Facts]
noncomputable section

/-! ## One turn -/

/-- The accumulators and the carries of the eight heads. -/
abbrev W (F : FTy → Type) [FloatOps F] := (Fin 8 → T F) × (Fin 8 → T F)

def oldAcc (q k v : B F) (u : B F) (hh : Fin 2) (a x : T F) : T F :=
  addf a (mm (round (exp2 (addf (addf (scores (lane (laneOf hh) q) k) (mm (round (softplus2 (scores (lane (laneOf hh) q) k))) u)) x))) v)
def oldCar (q k : B F) (hh : Fin 2) (x : T F) : T F := subf x (wide (rowSum (softplus2 (scores (lane (laneOf hh) q) k))))

/-- One older block for all heads. -/
def oldW (q k v : Fin 4 → B F) (u : B F) (w : W F) : W F :=
  (fun h => oldAcc (q (pOf h)) (k (pOf h)) (v (pOf h)) u (hOf h.1) (w.1 h) (w.2 h), fun h => oldCar (q (pOf h)) (k (pOf h)) (hOf h.1) (w.2 h))

/-- The largest carry of the eight heads. -/
def maxT (f : Fin 8 → T F) : T F :=
  maximumf (maximumf (maximumf (maximumf (maximumf (maximumf (maximumf (f 0) (f 1)) (f 2)) (f 3)) (f 4)) (f 5)) (f 6)) (f 7)

/-- The walk with `n` blocks to go. -/
def walkW (q : Fin 4 → B F) (k v : Nat → Fin 4 → B F) (u : B F) : Nat → BitVec 1 → W F → W F
  | 0, _, w => w
  | n + 1, b, w => if b = 1#1 then walkW q k v u n (alive (maxT (oldW q (k n) (v n) u w).2)) (oldW q (k n) (v n) u w) else w

/-- A state with other accumulators and other carries in one slot. -/
def St.put (σ : St F) (s : Fin 5) (w : W F) : St F := { σ with acc := w.1, slot := Function.update σ.slot s { σ.slot s with car := w.2 } }
def St.get (σ : St F) (s : Fin 5) : W F := (σ.acc, (σ.slot s).car)

theorem St.put_get (σ : St F) (s : Fin 5) : σ.put s (σ.get s) = σ := by unfold St.put St.get; simp
theorem St.get_put (σ : St F) (s : Fin 5) (w : W F) : (σ.put s w).get s = w := by unfold St.put St.get; simp
theorem St.put_put (σ : St F) (s : Fin 5) (w w' : W F) : (σ.put s w).put s w' = σ.put s w' := by unfold St.put; simp

/-- One head moved on. -/
def St.head (σ : St F) (s : Fin 5) (h : Fin 8) (a x : T F) : St F := (σ.setAcc h a).on s (·.setCar h x)

theorem St.head_eq (σ : St F) (s : Fin 5) (h : Fin 8) (a x : T F) :
    σ.head s h a x = σ.put s (Function.update (σ.get s).1 h a, Function.update (σ.get s).2 h x) := rfl

variable {c : Dev nD} {β : Bufs} {bd : Option ℕ}
variable {α : Type} {σ : St F} {Φ : α → sProp (MT nD τ sig Unit (Elt F) ℕ (UR nD τ) ℕ)}

theorem sat_oldHead {s : Fin 5} {p : Fin 4} {hh : Fin 2} {q k v : B F} {w : W F} {next : T F → K F α}
    (h : Sat c β bd (σ.put s (Function.update w.1 (hd p hh) (oldAcc q k v (quarter σ.u) hh (w.1 (hd p hh)) (w.2 (hd p hh))), Function.update w.2 (hd p hh) (oldCar q k hh (w.2 (hd p hh)))))
      (next (oldCar q k hh (w.2 (hd p hh)))) Φ) : Sat c β bd (σ.put s w) (oldHead β s p hh q k v next) Φ := by
  unfold oldHead
  refine sat_ldCar <| sat_ldU1 <| sat_ldAcc <| sat_stAcc <| sat_stCar ?_
  have e : ((σ.put s w).slot s).car = w.2 := congrArg Prod.snd (St.get_put σ s w)
  rw [e]
  refine Sat.to ?_ h
  refine (St.head_eq (σ.put s w) s (hd p hh) _ _).trans ?_
  rw [St.put_put, St.get_put]
  rfl

theorem sat_oldBody {s : Fin 5} {qr kr : Nat} {hq : okR 1 qr} {hk : okR 1 kr} {w : W F} {next : BitVec 1 → K F α}
    (h : let w' := oldW (σ.q (qr / 128)) (σ.k (kr / 128)) (σ.v (kr / 128)) (quarter σ.u) w
      Sat c β bd (σ.put s w') (next (alive (maxT w'.2))) Φ) : Sat c β bd (σ.put s w) (oldBody β s hq hk next) Φ := by
  unfold oldBody oldPair
  refine sat_ldQ <| sat_ldK <| sat_ldV <| sat_oldHead <| sat_oldHead ?_
  refine sat_ldQ <| sat_ldK <| sat_ldV <| sat_oldHead <| sat_oldHead ?_
  refine sat_ldQ <| sat_ldK <| sat_ldV <| sat_oldHead <| sat_oldHead ?_
  refine sat_ldQ <| sat_ldK <| sat_ldV <| sat_oldHead <| sat_oldHead ?_
  refine Sat.to (σ' := σ.put s (oldW (σ.q (qr / 128)) (σ.k (kr / 128)) (σ.v (kr / 128)) (quarter σ.u) w)) (congrArg (σ.put s) (Prod.ext ?_ ?_)) h
  · funext x; fin_cases x <;> rfl
  · funext x; fin_cases x <;> rfl

/-! ## The walk -/

/-- The word of the last of `n` blocks. -/
abbrev jw (n : Nat) : BitVec 32 := Scalar.subi (BitVec.ofNat 32 n) 1#32

theorem jw_facts : ∀ n : Fin 32, Scalar.cmpi .sge (jw (n.1 + 1)) 0#32 = 1#1 ∧ rowOf (jw (n.1 + 1)) / 128 = n.1 ∧ Scalar.subi (jw (n.1 + 1)) 1#32 = jw n.1 := by decide +kernel
theorem jw_chk : ∀ n : Fin 32, k0_chk1 (jw (n.1 + 1)) := by decide +kernel
theorem jw_zero : Scalar.cmpi .sge (jw 0) 0#32 = 0#1 := by decide +kernel
theorem bit_cases (b : BitVec 1) : b = 0#1 ∨ b = 1#1 := by revert b; decide

theorem sat_call {ℓ : (Λ₀ F).Label} {a : (Λ₀ F).Args ℓ} {next : (Λ₀ F).Result ℓ → K F α} (σ' : St F) (k : ℕ) (hk : ∀ u ∈ bd, k < u)
    (hbody : Sat c β (some k) σ (defs₀ (F := F) .tc ℓ a) fun _ => H c β σ') (h : ∀ r, Sat c β bd σ' (next r) Φ) :
    Sat c β bd σ (.op (.call ℓ a) next) Φ := by
  unfold Sat at hbody h ⊢
  let S : sWPT (MT nD τ sig Unit (Elt F) ℕ (UR nD τ) ℕ) ((Λ₀ F).Result ℓ) := do
    sWPT.consume (H c β σ)
    let r ← sWPT.arbitrary
    sWPT.produce (H c β σ')
    pure r
  have hS : S ≤ wp frame (wpE (defs₀ (F := F)) 𝒱₀ (c : Thread nD τ) (some k)) Set.univ (defs₀ (F := F) .tc ℓ a) := by
    intro Q
    show iprop(H c β σ ∗ ∀ r : (Λ₀ F).Result ℓ, H c β σ' -∗ Q r) ⊢ _
    exact (sep_mono_left hbody).trans (wp_wand_r frame _ Set.univ)
  refine BI.Entails.trans ?_ (wp_call_spec 𝒱₀ (c : Thread nD τ) bd Set.univ S k hk hS)
  show _ ⊢ iprop(H c β σ ∗ ∀ r : (Λ₀ F).Result ℓ, H c β σ' -∗ _)
  iintro Hσ
  isplitl [Hσ]; · iexact Hσ
  iintro %r Hσ
  have hr := h r
  iapply hr
  iexact Hσ

theorem sat_assume {P : Prop} {d : Decidable P} {next : PLift P → K F α} (hP : P) (h : Sat c β bd σ (next ⟨hP⟩) Φ) :
    Sat c β bd σ (.op (.assume P d) next) Φ := by
  unfold Sat at h ⊢
  exact h.trans (wp_assume 𝒱₀ (c : Thread nD τ) bd Set.univ hP)

/-- What a call of the walk's label needs: that the walk does it. -/
def Calls (c : Dev nD) (β : Bufs) (s : Fin 5) {qr : Nat} (hq : okR 1 qr) (call : BitVec 32 → BitVec 1 → K F (BitVec 32 × BitVec 1)) : Prop :=
  ∀ {α : Type} (bd : Option ℕ) (k : ℕ) (σ σ' : St F) (j : BitVec 32) (b : BitVec 1) (next : BitVec 32 × BitVec 1 → K F α) (Φ : α → sProp (MT nD τ sig Unit (Elt F) ℕ (UR nD τ) ℕ)),
    (∀ u ∈ bd, k < u) → Sat c β (some k) σ (walk β s hq j b call) (fun _ => H c β σ') → (∀ r, Sat c β bd σ' (next r) Φ) →
    Sat c β bd σ (Prog.bind (call j b) next) Φ

theorem calls1 (i : grid0.Coords) (t : Fin k0_t1_loop.trips) (l : BitVec 1) : Calls (F := F) c β 0 (rows0 t).q (call1 β i t l) := by
  intro α bd k σ σ' j b next Φ hk hw hn
  rw [← w1 β i t l j b] at hw
  exact sat_call (ℓ := (1 : (Λ₀ F).Label)) σ' k hk hw hn
theorem calls2 (i : grid0.Coords) (t : Fin k0_t1_loop.trips) (l l1 : BitVec 1) : Calls (F := F) c β 1 (rows1 t).q (call2 β i t l l1) := by
  intro α bd k σ σ' j b next Φ hk hw hn
  rw [← w2 β i t l l1 j b] at hw
  exact sat_call (ℓ := (2 : (Λ₀ F).Label)) σ' k hk hw hn
theorem calls3 (i : grid0.Coords) (t : Fin k0_t1_loop.trips) (l l1 l2 : BitVec 1) : Calls (F := F) c β 2 (rows2 t).q (call3 β i t l l1 l2) := by
  intro α bd k σ σ' j b next Φ hk hw hn
  rw [← w3 β i t l l1 l2 j b] at hw
  exact sat_call (ℓ := (3 : (Λ₀ F).Label)) σ' k hk hw hn
theorem calls4 (i : grid0.Coords) (t : Fin k0_t1_loop.trips) (l l1 l2 l3 : BitVec 1) : Calls (F := F) c β 3 (rows3 t).q (call4 β i t l l1 l2 l3) := by
  intro α bd k σ σ' j b next Φ hk hw hn
  rw [← w4 β i t l l1 l2 l3 j b] at hw
  exact sat_call (ℓ := (4 : (Λ₀ F).Label)) σ' k hk hw hn
theorem calls5 (i : grid0.Coords) (t : Fin k0_t1_loop.trips) (l l1 l2 l3 l4 : BitVec 1) : Calls (F := F) c β 4 (rows4 t).q (call5 β i t l l1 l2 l3 l4) := by
  intro α bd k σ σ' j b next Φ hk hw hn
  rw [← w5 β i t l l1 l2 l3 l4 j b] at hw
  exact sat_call (ℓ := (5 : (Λ₀ F).Label)) σ' k hk hw hn

theorem bind_ret' {γ : Type} (p : K F γ) : Prog.bind p .ret = p := by
  induction p with
  | ret a => rfl
  | op e k ih => exact congrArg (Prog.op e) (funext ih)

theorem walk_spec {s : Fin 5} {qr : Nat} {hq : okR 1 qr} {call : BitVec 32 → BitVec 1 → K F (BitVec 32 × BitVec 1)} (hc : Calls c β s hq call) (σ : St F) :
    ∀ (n : Nat), n ≤ 32 → ∀ (b : BitVec 1) (w : W F), Sat c β (some n) (σ.put s w) (walk β s hq (jw n) b call)
      (fun _ => H c β (σ.put s (walkW (σ.q (qr / 128)) σ.k σ.v (quarter σ.u) n b w))) := by
  intro n
  induction n with
  | zero =>
    intro _ b w
    unfold walk
    rw [jw_zero, if_neg (by revert b; decide)]
    exact sat_ret .rfl
  | succ n ih =>
    intro hn b w
    obtain ⟨h1, h2, h3⟩ := jw_facts ⟨n, by omega⟩
    dsimp only at h1 h2 h3
    unfold walk
    rw [h1]
    rcases bit_cases b with rfl | rfl
    · rw [if_neg (by decide)]
      exact sat_ret .rfl
    · rw [if_pos (by decide)]
      refine sat_assume (jw_chk ⟨n, by omega⟩) <| sat_oldBody ?_
      dsimp only
      rw [h2, h3, ← bind_ret' (call _ _)]
      refine hc (some (n + 1)) n _ _ _ _ _ _ ?_ (ih (by omega) _ _) fun r => sat_ret ?_
      · intro u hu; cases hu; exact Nat.lt_succ_self n
      · rw [walkW, if_pos rfl]

/-! ## The tile after the walk -/

/-- The accumulators before the walk. -/
def accs (x : Fin 4 → FVec F S256x128 .f32) (h : Fin 8) : T F := if h.1 % 2 = 0 then top (x (pOf h)) else bot (x (pOf h))
/-- The tile written after the walk. -/
def outO (a : Fin 8 → T F) (p : Fin 4) : B F := both (a (hd p 0)) (a (hd p 1))

/-- A tile with `n` older blocks, from what its near blocks gave. -/
def doneO (q : Fin 4 → B F) (k v : Nat → Fin 4 → B F) (u : B F) (n : Nat) (live : BitVec 1) (x : Fin 4 → FVec F S256x128 .f32) (car : Fin 8 → T F) : Fin 4 → B F :=
  if goes (jw n) live = 1#1 then outO (walkW q k v u n live (accs x, car)).1 else nearO x

theorem sat_accIn {x : Fin 4 → FVec F S256x128 .f32} {next : K F α} (h : Sat c β bd { σ with acc := accs x } next Φ) : Sat c β bd σ (accIn β x next) Φ := by
  unfold accIn
  refine sat_stAcc <| sat_stAcc <| sat_stAcc <| sat_stAcc <| sat_stAcc <| sat_stAcc <| sat_stAcc <| sat_stAcc <| Sat.to (σ' := { σ with acc := accs x }) ?_ h
  unfold St.setAcc
  refine congrArg (fun a => ({ σ with acc := a } : St F)) (funext fun i => ?_)
  fin_cases i <;> rfl

theorem sat_accOut {qr : Nat} {hq : okR 1 qr} {next : K F α} (h : Sat c β bd (σ.tile (qr / 128) (outO σ.acc)) next Φ) : Sat c β bd σ (accOut β hq next) Φ := by
  unfold accOut pairs
  refine sat_ldAcc <| sat_ldAcc <| sat_stO <| sat_ldAcc <| sat_ldAcc <| sat_stO <| sat_ldAcc <| sat_ldAcc <| sat_stO <| sat_ldAcc <| sat_ldAcc <| sat_stO ?_
  exact Sat.to (set4 σ (qr / 128) (outO σ.acc)) h

/-- What a tile's walk leaves as it was, and what it makes of the result. -/
structure Aft (σ σ' : St F) (s : Fin 5) (o : Nat → Fin 4 → B F) : Prop where
  q : σ'.q = σ.q
  k : σ'.k = σ.k
  v : σ'.v = σ.v
  u : σ'.u = σ.u
  o : σ'.o = o
  slot : ∀ s', s' ≠ s → σ'.slot s' = σ.slot s'

theorem sat_finish {s : Fin 5} {qr n : Nat} {hq : okR 1 qr} {call : BitVec 32 → BitVec 1 → K F (BitVec 32 × BitVec 1)} (hc : Calls c β s hq call) (hn : n ≤ 32)
    {live : BitVec 1} {x : Fin 4 → FVec F S256x128 .f32} {f : BitVec 32} (hf : f = jw n) (ho : σ.o (qr / 128) = nearO x) {next : K F α}
    (h : ∀ σ', Aft σ σ' s (Function.update σ.o (qr / 128) (doneO (σ.q (qr / 128)) σ.k σ.v (quarter σ.u) n live x (σ.slot s).car)) → Sat c β none σ' next Φ) :
    Sat c β none σ (finish β hq f live x call next) Φ := by
  subst hf
  unfold finish before after
  by_cases e : goes (jw n) live = 1#1
  · rw [if_pos e]
    refine sat_accIn ?_
    have e2 : ({ σ with acc := accs x } : St F) = σ.put s (accs x, (σ.slot s).car) := by unfold St.put; simp
    refine Sat.to e2 ?_
    refine hc none n _ _ _ _ _ _ (fun u hu => nomatch hu) (walk_spec hc σ n hn live _) fun r => ?_
    rw [if_pos e]
    refine sat_accOut <| h _ ⟨rfl, rfl, rfl, rfl, ?_, fun s' hs => ?_⟩
    · unfold doneO; rw [if_pos e]; rfl
    · exact Function.update_of_ne hs _ _
  · rw [if_neg e]
    refine Sat.to (σ.put_get s).symm ?_
    refine hc none n _ _ _ _ _ _ (fun u hu => nomatch hu) (walk_spec hc σ n hn live _) fun r => ?_
    rw [if_neg e]
    refine h _ ⟨rfl, rfl, rfl, rfl, ?_, fun s' hs => ?_⟩
    · unfold doneO; rw [if_neg e, ← ho, Function.update_eq_self]; rfl
    · exact Function.update_of_ne hs _ _

/-! ## The kernel -/

/-- The weights against the near blocks. -/
def nearA (d : Fin 3) (q : Fin 4 → B F) (k : Nat → Fin 4 → B F) (u : FVec F S256x256 .bf16) (b : Fin 3) (c : Fin 2) : FVec F S256x256 .bf16 :=
  truncf .bf16 (exp2 (addf (quad (fun x p => zf (raw d (q p) (fun i => k i p) (hOf x.1)) d (x.1 / 2)) b c)
    (matmul dot_S256x256_S256x256_S256x256_1_0_0_1_n_n none (quad (fun x p => spf (raw d (q p) (fun i => k i p) (hOf x.1)) d (x.1 / 2)) b c) u (constant S256x256 .f32 0x00000000#32)))) bitsLt_bf16_f32
/-- The carries after the near blocks. -/
def nearCar (d : Fin 3) (q : Fin 4 → B F) (k : Nat → Fin 4 → B F) (h : Fin 8) : T F :=
  wide (shapeCast S128x1 (col (raw d (q (pOf h)) (fun i => k i (pOf h)) (hOf h.1)) d d) shapeCasts_S128x1_S128x1)

/-- A tile with `n` older blocks and three near ones. -/
def farTile (q : Fin 4 → B F) (k v : Nat → Fin 4 → B F) (u : FVec F S256x256 .bf16) (n : Nat) : Fin 4 → B F :=
  doneO q k v (quarter u) n (aliveCol (maxOf (lastCols 2 q fun m => k (n + m)))) (xs 2 (nearA 2 q (fun m => k (n + m)) u) ![v n, v (n + 1), v (n + 2)]) (nearCar 2 q fun m => k (n + m))

/-- The tile the kernel writes. -/
def tileOf (q k v : Nat → Fin 4 → B F) (u : FVec F S256x256 .bf16) : Nat → Fin 4 → B F
  | 0 => nearO (xs 0 (nearA 0 (q 0) (fun m => k (0 + m)) u) ![v 0, v 0, v 0])
  | 1 => nearO (xs 1 (nearA 1 (q 1) (fun m => k (0 + m)) u) ![v 0, v 1, v 0])
  | i + 2 => farTile (q (i + 2)) k v u i

theorem quad_congr {φ : FTy} {X Y : Fin 6 → Fin 4 → FVec F S128x128 φ} {b : Fin 3} (c : Fin 2) (h : ∀ x : Fin 6, x.1 / 2 = b.1 → X x = Y x) : quad X b c = quad Y b c := by
  funext y
  unfold quad
  have hb := lt1 (y 0) 2 (Nat.le_refl _)
  rw [h _ (by show (2 * b.1 + (y 0).1 / 128) / 2 = b.1; omega)]

theorem near_a (d : Fin 3) (q : Fin 4 → B F) (k : Nat → Fin 4 → B F) (u : FVec F S256x256 .bf16) (l : Slot F) (b : Fin 3) (c : Fin 2) (hb : b.1 ≤ d.1) :
    (weightS d u (scoreS d q k l)).a b c = nearA d q k u b c := by
  unfold weightS nearA wt
  dsimp only
  rw [if_pos hb, quad_congr c (X := (scoreS d q k l).z) fun x hx => ?_, quad_congr c (X := (scoreS d q k l).sp) fun x hx => ?_]
  · funext p; unfold scoreS; dsimp only; rw [if_pos (by omega)]
  · funext p; unfold scoreS; dsimp only; rw [if_pos (by omega)]

theorem half_congr {a a' : Fin 2 → FVec F S256x256 .bf16} (p : Fin 4) (h : ∀ c, a c = a' c) : half a p = half a' p := by rw [funext h]

theorem near_x0 (q : Fin 4 → B F) (k : Nat → Fin 4 → B F) (u : FVec F S256x256 .bf16) (l : Slot F) (v : Fin 3 → Fin 4 → B F) :
    xs 0 (weightS 0 u (scoreS 0 q k l)).a v = xs 0 (nearA 0 q k u) v := by
  funext p
  unfold xs
  dsimp only
  rw [half_congr p fun c => near_a 0 q k u l 0 c (by decide)]
theorem near_x1 (q : Fin 4 → B F) (k : Nat → Fin 4 → B F) (u : FVec F S256x256 .bf16) (l : Slot F) (v : Fin 3 → Fin 4 → B F) :
    xs 1 (weightS 1 u (scoreS 1 q k l)).a v = xs 1 (nearA 1 q k u) v := by
  funext p
  unfold xs
  dsimp only
  rw [half_congr p fun c => near_a 1 q k u l 0 c (by decide), half_congr p fun c => near_a 1 q k u l 1 c (by decide)]

/-- A slot made ready for a tile with three near blocks. -/
def slot3 (q : Fin 4 → B F) (k : Nat → Fin 4 → B F) (u : FVec F S256x256 .bf16) (l : Slot F) : Slot F := weightS 2 u (scoreS 2 q k l)
theorem slot3_a (q : Fin 4 → B F) (k : Nat → Fin 4 → B F) (u : FVec F S256x256 .bf16) (l : Slot F) : (slot3 q k u l).a = nearA 2 q k u := by
  funext b c
  exact near_a 2 q k u l b c (by omega)
theorem slot3_car (q : Fin 4 → B F) (k : Nat → Fin 4 → B F) (u : FVec F S256x256 .bf16) (l : Slot F) : (slot3 q k u l).car = nearCar 2 q k := rfl

/-- The rows of a tile with `m` older blocks. -/
structure At (t : Fin k0_t1_loop.trips) (s : BitVec 32) (m : Nat) : Prop where
  q : rowOf (qi t s) / 128 = m + 2
  k : kRow t s / 128 = m
  v0 : vRow t s 0#32 / 128 = m
  v1 : vRow t s 128#32 / 128 = m + 1
  v2 : vRow t s 256#32 / 128 = m + 2
  f : fst t s = jw m
  le : m ≤ 32
instance (t : Fin k0_t1_loop.trips) (s : BitVec 32) (m : Nat) : Decidable (At t s m) :=
  decidable_of_iff (_ ∧ _ ∧ _ ∧ _ ∧ _ ∧ _ ∧ _) ⟨fun ⟨a, b, c, d, e, f, g⟩ => ⟨a, b, c, d, e, f, g⟩, fun ⟨a, b, c, d, e, f, g⟩ => ⟨a, b, c, d, e, f, g⟩⟩
theorem at_all : ∀ (t : Fin k0_t1_loop.trips) (s : Fin 5), At t (BitVec.ofNat 32 s.1) (5 * t.1 + s.1) := by decide +kernel

theorem sat_scoreAt {s : Fin 5} {t : Fin k0_t1_loop.trips} {w : BitVec 32} {m : Nat} (a : At t w m) {hq : okR 1 (rowOf (qi t w))} {hk : okR 3 (kRow t w)} {next : BitVec 1 → K F α}
    (h : Sat c β bd (σ.on s (scoreS 2 (σ.q (m + 2)) fun n => σ.k (m + n))) (next (aliveCol (maxOf (lastCols 2 (σ.q (m + 2)) fun n => σ.k (m + n))))) Φ) :
    Sat c β bd σ (score3 β s hq hk next) Φ := by
  have h' := sat_score3 (hq := hq) (hk := hk) (c := c) (β := β) (bd := bd) (σ := σ) (s := s) (next := next) (Φ := Φ)
  rw [a.q, a.k] at h'
  exact h' h

/-- What the near blocks give of a tile with `m` older blocks. -/
def nearX (q k v : Nat → Fin 4 → B F) (u : FVec F S256x256 .bf16) (m : Nat) : Fin 4 → FVec F S256x128 .f32 :=
  xs 2 (nearA 2 (q (m + 2)) (fun n => k (m + n)) u) ![v m, v (m + 1), v (m + 2)]

theorem sat_valueAt {s : Fin 5} {t : Fin k0_t1_loop.trips} {w : BitVec 32} {m : Nat} (a : At t w m) {hq : okR 1 (rowOf (qi t w))} {h0 : okR 1 (vRow t w 0#32)} {h1 : okR 1 (vRow t w 128#32)} {h2 : okR 1 (vRow t w 256#32)}
    {next : (Fin 4 → FVec F S256x128 .f32) → K F α} (ha : (σ.slot s).a = nearA 2 (σ.q (m + 2)) (fun n => σ.k (m + n)) σ.u)
    (h : Sat c β bd (σ.tile (m + 2) (nearO (nearX σ.q σ.k σ.v σ.u m))) (next (nearX σ.q σ.k σ.v σ.u m)) Φ) : Sat c β bd σ (value3 β s hq h0 h1 h2 next) Φ := by
  refine sat_value3 ?_
  dsimp only
  rw [a.q, a.v0, a.v1, a.v2, ha]
  exact h

/-- The tiles from slot `n` on still to be finished, the ones before as the kernel leaves them. -/
structure Ready (q k v : Nat → Fin 4 → B F) (u : FVec F S256x256 .bf16) (m n : Nat) (σ : St F) : Prop where
  eq : σ.q = q
  ek : σ.k = k
  ev : σ.v = v
  eu : σ.u = u
  car : ∀ s : Fin 5, n ≤ s.1 → (σ.slot s).car = nearCar 2 (q (m + s.1 + 2)) fun i => k (m + s.1 + i)
  near : ∀ s, n ≤ s → s < 5 → σ.o (m + s + 2) = nearO (nearX q k v u (m + s))
  done : ∀ j, j < m + 2 + n → σ.o j = tileOf q k v u j

theorem sat_finishAt {q k v : Nat → Fin 4 → B F} {u : FVec F S256x256 .bf16} {m : Nat} (s : Fin 5) {t : Fin k0_t1_loop.trips} {w : BitVec 32} (a : At t w (m + s.1)) (r : Ready q k v u m s.1 σ)
    {hq : okR 1 (rowOf (qi t w))} {call : BitVec 32 → BitVec 1 → K F (BitVec 32 × BitVec 1)} (hc : Calls c β s hq call) {next : K F α}
    (h : ∀ σ', Ready q k v u m (s.1 + 1) σ' → Sat c β none σ' next Φ) :
    Sat c β none σ (finish β hq (fst t w) (aliveCol (maxOf (lastCols 2 (q (m + s.1 + 2)) fun i => k (m + s.1 + i)))) (nearX q k v u (m + s.1)) call next) Φ := by
  refine sat_finish hc a.le a.f (by rw [a.q]; exact r.near s.1 (Nat.le_refl _) s.2) fun σ' f => h σ' ?_
  have e := f.o
  rw [a.q, r.eq, r.ek, r.ev, r.eu, r.car s (Nat.le_refl _)] at e
  refine ⟨f.q.trans r.eq, f.k.trans r.ek, f.v.trans r.ev, f.u.trans r.eu, fun s' hs => ?_, fun s' hs h5 => ?_, fun j hj => ?_⟩
  · rw [f.slot s' (by rintro rfl; omega)]; exact r.car s' (by omega)
  · rw [e, Function.update_of_ne (by omega)]; exact r.near s' (by omega) h5
  · rw [e]
    by_cases hj' : j = m + s.1 + 2
    · subst hj'; rw [Function.update_self]; rfl
    · rw [Function.update_of_ne hj']; exact r.done j (by omega)

/-- Any contents of the buffers with these inputs and the tiles below `n` done. -/
def Upto (c : Dev nD) (β : Bufs) (q k v : Nat → Fin 4 → B F) (u : FVec F S256x256 .bf16) (n : Nat) : sProp (MT nD τ sig Unit (Elt F) ℕ (UR nD τ) ℕ) :=
  iprop(∃ σ : St F, ⌜σ.q = q ∧ σ.k = k ∧ σ.v = v ∧ σ.u = u ∧ ∀ j, j < n → σ.o j = tileOf q k v u j⌝ ∗ H c β σ)

end
end Cert.KernelIdeal.M
-- ==== Proof.Trip.lean ====
module

public import proofs.«01_k».proof.Proof.Walk

@[expose] public section

set_option maxRecDepth 16384

/-!
# The whole kernel

A trip of the loop does five tiles, the kernel all of them.
-/

namespace Cert.KernelIdeal.M
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
variable {F : FTy → Type} [FloatOps F] [Named F]
variable [Facts]
noncomputable section

variable {c : Dev nD} {β : Bufs} {bd : Option ℕ}
variable {α : Type} {σ : St F} {Φ : α → sProp (MT nD τ sig Unit (Elt F) ℕ (UR nD τ) ℕ)}

/-- The five slots, each changed twice. -/
theorem on5 (σ : St F) (g : Fin 5 → Slot F → Slot F) (f : Slot F → Slot F) :
    (((((((((σ.on 0 (g 0)).on 1 (g 1)).on 2 (g 2)).on 3 (g 3)).on 4 (g 4)).on 0 f).on 1 f).on 2 f).on 3 f).on 4 f = { σ with slot := fun s => f (g s (σ.slot s)) } := by
  unfold St.on
  refine congrArg (fun l => ({ σ with slot := l } : St F)) (funext fun s => ?_)
  fin_cases s <;> simp [Function.update]

theorem sat_scoreAt' {q k : Nat → Fin 4 → B F} (hσq : σ.q = q) (hσk : σ.k = k) {s : Fin 5} {t : Fin k0_t1_loop.trips} {w : BitVec 32} {m : Nat} (a : At t w m)
    {hq : okR 1 (rowOf (qi t w))} {hk : okR 3 (kRow t w)} {next : BitVec 1 → K F α}
    (h : Sat c β bd (σ.on s (scoreS 2 (q (m + 2)) fun n => k (m + n))) (next (aliveCol (maxOf (lastCols 2 (q (m + 2)) fun n => k (m + n))))) Φ) :
    Sat c β bd σ (score3 β s hq hk next) Φ := by
  subst hσq hσk; exact sat_scoreAt a h
theorem sat_weights' {u : FVec F S256x256 .bf16} (hu : σ.u = u) {s : Fin 5} {next : K F α} (h : Sat c β bd (σ.on s (weightS 2 u)) next Φ) : Sat c β bd σ (weights3 β s next) Φ := by
  subst hu; exact sat_weights3 h
theorem sat_valueAt' {q k v : Nat → Fin 4 → B F} {u : FVec F S256x256 .bf16} (hσq : σ.q = q) (hσk : σ.k = k) (hσv : σ.v = v) (hσu : σ.u = u)
    {s : Fin 5} {t : Fin k0_t1_loop.trips} {w : BitVec 32} {m : Nat} (a : At t w m) {hq : okR 1 (rowOf (qi t w))} {h0 : okR 1 (vRow t w 0#32)} {h1 : okR 1 (vRow t w 128#32)} {h2 : okR 1 (vRow t w 256#32)}
    {next : (Fin 4 → FVec F S256x128 .f32) → K F α} (ha : (σ.slot s).a = nearA 2 (q (m + 2)) (fun n => k (m + n)) u)
    (h : Sat c β bd (σ.tile (m + 2) (nearO (nearX q k v u m))) (next (nearX q k v u m)) Φ) : Sat c β bd σ (value3 β s hq h0 h1 h2 next) Φ := by
  subst hσq hσk hσv hσu; exact sat_valueAt a ha h

theorem sat_trip (i : grid0.Coords) (t : Fin k0_t1_loop.trips) (hd : ∀ j, j < 5 * t.1 + 2 → σ.o j = tileOf σ.q σ.k σ.v σ.u j) :
    Sat c β none σ (trip β i (rows0 t) (rows1 t) (rows2 t) (rows3 t) (rows4 t)) fun _ => Upto c β σ.q σ.k σ.v σ.u (5 * t.1 + 2 + 5) := by
  have a0 : At t 0#32 (5 * t.1 + 0) := at_all t 0
  have a1 : At t 1#32 (5 * t.1 + 1) := at_all t 1
  have a2 : At t 2#32 (5 * t.1 + 2) := at_all t 2
  have a3 : At t 3#32 (5 * t.1 + 3) := at_all t 3
  have a4 : At t 4#32 (5 * t.1 + 4) := at_all t 4
  generalize 5 * t.1 = m at a0 a1 a2 a3 a4 hd ⊢
  obtain ⟨q, k, v, u, o, acc, slot⟩ := σ
  dsimp only at hd ⊢
  unfold trip scores5 weights5
  refine sat_scoreAt' (q := q) (k := k) rfl rfl a0 <| sat_scoreAt' (q := q) (k := k) rfl rfl a1 <| sat_scoreAt' (q := q) (k := k) rfl rfl a2 <| sat_scoreAt' (q := q) (k := k) rfl rfl a3 <|
    sat_scoreAt' (q := q) (k := k) rfl rfl a4 ?_
  refine sat_weights' (u := u) rfl <| sat_weights' (u := u) rfl <| sat_weights' (u := u) rfl <| sat_weights' (u := u) rfl <| sat_weights' (u := u) rfl ?_
  refine Sat.to (on5 _ (fun s => scoreS 2 (q (m + s.1 + 2)) fun n => k (m + s.1 + n)) (weightS 2 u)) ?_
  dsimp only
  unfold values5
  refine sat_valueAt' (q := q) (k := k) (v := v) (u := u) rfl rfl rfl rfl a0 (slot3_a ..) <| sat_valueAt' (q := q) (k := k) (v := v) (u := u) rfl rfl rfl rfl a1 (slot3_a ..) <|
    sat_valueAt' (q := q) (k := k) (v := v) (u := u) rfl rfl rfl rfl a2 (slot3_a ..) <| sat_valueAt' (q := q) (k := k) (v := v) (u := u) rfl rfl rfl rfl a3 (slot3_a ..) <|
    sat_valueAt' (q := q) (k := k) (v := v) (u := u) rfl rfl rfl rfl a4 (slot3_a ..) ?_
  unfold finish5
  refine sat_finishAt (0 : Fin 5) a0 (q := q) (k := k) (v := v) (u := u) (m := m) ?_ (calls1 i t _) fun σ0 r0 => ?_
  · refine ⟨rfl, rfl, rfl, rfl, fun s _ => rfl, fun s _ hs => ?_, fun j hj => ?_⟩
    · interval_cases s <;> simp [St.tile, Function.update]
    · simp only [Fin.val_zero] at hj
      simp only [St.tile]
      rw [Function.update_of_ne (by omega), Function.update_of_ne (by omega), Function.update_of_ne (by omega), Function.update_of_ne (by omega), Function.update_of_ne (by omega)]
      exact hd j (by omega)
  refine sat_finishAt (1 : Fin 5) a1 r0 (calls2 i t _ _) fun σ1 r1 => ?_
  refine sat_finishAt (2 : Fin 5) a2 r1 (calls3 i t _ _ _) fun σ2 r2 => ?_
  refine sat_finishAt (3 : Fin 5) a3 r2 (calls4 i t _ _ _ _) fun σ3 r3 => ?_
  refine sat_finishAt (4 : Fin 5) a4 r3 (calls5 i t _ _ _ _ _) fun σ4 r4 => ?_
  refine sat_ret ?_
  unfold Upto
  iintro Hσ
  iexists σ4
  isplitr
  · ipureintro; exact ⟨r4.eq, r4.ek, r4.ev, r4.eu, r4.done⟩
  · iexact Hσ

theorem sat_upto {q k v : Nat → Fin 4 → B F} {u : FVec F S256x256 .bf16} {n : Nat} {p : K F α}
    (h : ∀ σ : St F, σ.q = q → σ.k = k → σ.v = v → σ.u = u → (∀ j, j < n → σ.o j = tileOf q k v u j) → Sat c β bd σ p Φ) :
    Upto c β q k v u n ⊢ wp frame (wpE (defs₀ (F := F)) 𝒱₀ (c : Thread nD τ) bd) Set.univ p Φ := by
  unfold Upto
  iintro ⟨%σ, %hs, Hσ⟩
  obtain ⟨h1, h2, h3, h4, h5⟩ := hs
  have h' := h σ h1 h2 h3 h4 h5
  unfold Sat at h'
  iapply h'
  iexact Hσ

theorem upto_intro {q k v : Nat → Fin 4 → B F} {u : FVec F S256x256 .bf16} {n : Nat} (σ : St F) (h : σ.q = q ∧ σ.k = k ∧ σ.v = v ∧ σ.u = u ∧ ∀ j, j < n → σ.o j = tileOf q k v u j) :
    H c β σ ⊢ Upto c β q k v u n := by
  unfold Upto
  iintro Hσ
  iexists σ
  isplitr
  · ipureintro; exact h
  · iexact Hσ

/-- The loop. -/
theorem sat_loop (i : grid0.Coords) (q k v : Nat → Fin 4 → B F) (u : FVec F S256x256 .bf16) : Upto c β q k v u (5 * 0 + 2) ⊢ wp frame (wpE (defs₀ (F := F)) 𝒱₀ (c : Thread nD τ) none) Set.univ
    (Prog.bind (Scf.Loop.for k0_t1_loop k0_t1_ok PUnit.unit.{1} fun t _ => trip (F := F) β i (rows0 t) (rows1 t) (rows2 t) (rows3 t) (rows4 t)) fun _ => .ret PUnit.unit.{1}) (fun _ => Upto c β q k v u 32) := by
  have this := Scf.wp_for_bind (M := MT nD τ sig Unit (Elt F) ℕ (UR nD τ) ℕ) frame (wpE (defs₀ (F := F)) 𝒱₀ (c : Thread nD τ) none) Set.univ k0_t1_loop.lb k0_t1_loop.ub k0_t1_loop.st k0_t1_ok PUnit.unit.{1}
      (fun (t : Fin k0_t1_loop.trips) (_ : PUnit.{1}) => trip (F := F) β i (rows0 t) (rows1 t) (rows2 t) (rows3 t) (rows4 t)) (fun n _ => Upto c β q k v u (5 * n + 2)) (fun t _ => by
        refine sat_upto fun σ' h1 h2 h3 h4 h5 => ?_
        rw [← h1, ← h2, ← h3, ← h4] at h5 ⊢
        exact sat_trip i t h5) (kk := fun _ => (.ret PUnit.unit : K F PUnit.{1})) (Q := fun _ => Upto c β q k v u 32)
  iintro Hσ
  iapply this $$ Hσ
  iintro %r Hσ
  rw [wp_ret]
  imodintro
  iexact Hσ

/-- The kernel from any contents of its buffers. -/
theorem sat_attn (i : grid0.Coords) : Sat c β none σ (attn β i) fun _ => Upto c β σ.q σ.k σ.v σ.u 32 := by
  unfold attn
  refine sat_tile1 <| sat_tile2 ?_
  dsimp only
  rw [near_x0, near_x1]
  unfold Sat
  refine BI.Entails.trans (Q := Upto c β σ.q σ.k σ.v σ.u (5 * 0 + 2)) ?_ ?_
  · refine upto_intro _ ⟨rfl, rfl, rfl, rfl, fun j hj => ?_⟩
    interval_cases j <;> rfl
  · exact sat_loop i _ _ _ _
end
end Cert.KernelIdeal.M
-- ==== Proof.Run.lean ====
module

public import proofs.«01_k».proof.Proof.Trip
public import proofs.«01_k».proof.Proof.Same
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame

@[expose] public section

set_option maxRecDepth 16384

/-!
# The run of the call

Any contents of a buffer are given by tiles, so the kernel's body can be run from whatever the buffers hold. `run_main`
is the run of the whole call: the three inputs stay as they are, and the result's blocks hold the tiles `tileOf`.
-/

namespace Cert.KernelIdeal.M
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen
open Facts₀ Facts
variable {F : FTy → Type} [FloatOps F] [Named F]
variable [Facts]
noncomputable section

/-! ## The tiles of any contents -/

theorem lt_tile {m n : Nat} {i j : Nat} (hi : i < n) (hj : j < m) : m * i + j < m * n :=
  Nat.lt_of_lt_of_le (Nat.add_lt_add_left hj _) (by rw [← Nat.mul_succ]; exact Nat.mul_le_mul_left m hi)

def tilesB (X : Vec F S1x4096x512 .bf16) (i : Nat) (p : Fin 4) : B F := fun y =>
  X (ix3 0 ⟨128 * (i % 32) + (y 0).1, lt_tile (n := 32) (Nat.mod_lt _ (by decide)) (y 0).2⟩ ⟨128 * p.1 + (y 1).1, lt_tile p.2 (y 1).2⟩)
def tilesAcc (X : Vec F S8x128x128 .f32) (h : Fin 8) : T F := fun y => X (ix3 h (y 0) (y 1))
def tilesSlot (C : Vec F S5x8x128x128 .f32) (P : Vec F S5x768x512 .bf16) (Z : Vec F S5x768x512 .f32) (A : Vec F S5x768x512 .bf16) (s : Fin 5) : Slot F where
  z b p := fun y => Z (ix3 s ⟨128 * b.1 + (y 0).1, lt_tile b.2 (y 0).2⟩ ⟨128 * p.1 + (y 1).1, lt_tile p.2 (y 1).2⟩)
  sp b p := fun y => P (ix3 s ⟨128 * b.1 + (y 0).1, lt_tile b.2 (y 0).2⟩ ⟨128 * p.1 + (y 1).1, lt_tile p.2 (y 1).2⟩)
  a b p := fun y => A (ix3 s ⟨256 * b.1 + (y 0).1, lt_tile b.2 (y 0).2⟩ ⟨256 * p.1 + (y 1).1, lt_tile p.2 (y 1).2⟩)
  car h := fun y => C (ix4 s h (y 0) (y 1))

theorem arrB_tilesB (X : Vec F S1x4096x512 .bf16) : arrB (tilesB X) = X := by
  funext y
  refine congrArg X (funext fun a => Fin.ext ?_)
  have h0 : (y 0).1 < 1 := (y 0).2
  have h1 : (y 1).1 < 4096 := (y 1).2
  have h2 : (y 2).1 < 512 := (y 2).2
  fin_cases a
  · show 0 = (y 0).1; omega
  · show 128 * ((y 1).1 / 128 % 32) + (y 1).1 % 128 = (y 1).1; omega
  · show 128 * ((y 2).1 / 128) + (y 2).1 % 128 = (y 2).1; omega
theorem arrAcc_tiles (X : Vec F S8x128x128 .f32) : arrAcc (tilesAcc X) = X := by
  funext y
  refine congrArg X (funext fun a => Fin.ext ?_)
  fin_cases a <;> rfl
theorem arrCar_tiles (C : Vec F S5x8x128x128 .f32) (P Z A) : arrCar (F := F) (tilesSlot C P Z A) = C := by
  funext y
  refine congrArg C (funext fun a => Fin.ext ?_)
  fin_cases a <;> rfl
theorem arrZ_tiles (C : Vec F S5x8x128x128 .f32) (P Z A) : arrZ (F := F) (tilesSlot C P Z A) = Z := by
  funext y
  refine congrArg Z (funext fun a => Fin.ext ?_)
  fin_cases a
  · rfl
  · show 128 * ((y 1).1 / 128) + (y 1).1 % 128 = (y 1).1; omega
  · show 128 * ((y 2).1 / 128) + (y 2).1 % 128 = (y 2).1; omega
theorem arrSp_tiles (C : Vec F S5x8x128x128 .f32) (P Z A) : arrSp (F := F) (tilesSlot C P Z A) = P := by
  funext y
  refine congrArg P (funext fun a => Fin.ext ?_)
  fin_cases a
  · rfl
  · show 128 * ((y 1).1 / 128) + (y 1).1 % 128 = (y 1).1; omega
  · show 128 * ((y 2).1 / 128) + (y 2).1 % 128 = (y 2).1; omega
theorem arrA_tiles (C : Vec F S5x8x128x128 .f32) (P Z A) : arrA (F := F) (tilesSlot C P Z A) = A := by
  funext y
  refine congrArg A (funext fun a => Fin.ext ?_)
  fin_cases a
  · rfl
  · show 256 * ((y 1).1 / 256) + (y 1).1 % 256 = (y 1).1; omega
  · show 256 * ((y 2).1 / 256) + (y 2).1 % 256 = (y 2).1; omega

theorem arrB_congr {X Y : Nat → Fin 4 → B F} (h : ∀ j, j < 32 → X j = Y j) : arrB X = arrB Y := by
  funext y
  have h1 : (y 1).1 < 4096 := (y 1).2
  unfold arrB
  rw [h _ (by omega)]

/-! ## The body's run -/

local notation "𝕄" => MT nD τ sig Unit (Elt F) ℕ (UR nD τ) ℕ

/-- Owning a whole buffer's view and owning the buffer are the same. -/
theorem owns_eq_own (c : Dev nD) {S : Shape} {e : EltTy} {m : Memref sig .tc .vmem S e} (hm : m.IsWhole) (X : S.Idx → Elt F e) :
    (owns (c : Thread nD τ) m fullShare X : sProp 𝕄) = own c m X := by
  unfold owns own
  rw [hm.set_eq_univ]

/-- What the ten buffers hold, as contents. -/
def H' (c : Dev nD) (β : Bufs) (q k v o : Vec F S1x4096x512 .bf16) (u : Vec F S256x256 .bf16) (rest : sProp 𝕄) : sProp 𝕄 :=
  iprop(own c β.q q ∗ own c β.k k ∗ own c β.v v ∗ own c β.u u ∗ own c β.o o ∗ rest)
/-- The scratch at some contents. -/
def R' (c : Dev nD) (β : Bufs) : sProp 𝕄 :=
  iprop((∃ X, own c β.acc X) ∗ (∃ X, own c β.car X) ∗ (∃ X, own c β.sp X) ∗ (∃ X, own c β.z X) ∗ (∃ X, own c β.a X))

/-- The block the kernel writes. -/
def blockOut (q k v : Vec F S1x4096x512 .bf16) (u : Vec F S256x256 .bf16) : Vec F S1x4096x512 .bf16 :=
  arrB (tileOf (tilesB q) (tilesB k) (tilesB v) u)

theorem enter (c : Dev nD) (β : Bufs) (q k v o : Vec F S1x4096x512 .bf16) (u : Vec F S256x256 .bf16) (acc : Vec F S8x128x128 .f32) (car : Vec F S5x8x128x128 .f32)
    (sp : Vec F S5x768x512 .bf16) (z : Vec F S5x768x512 .f32) (a : Vec F S5x768x512 .bf16) :
    H' c β q k v o u iprop(own c β.acc acc ∗ own c β.car car ∗ own c β.sp sp ∗ own c β.z z ∗ own c β.a a)
      ⊢ H c β (F := F) ⟨tilesB q, tilesB k, tilesB v, u, tilesB o, tilesAcc acc, tilesSlot car sp z a⟩ := by
  unfold H H'
  simp only [arrB_tilesB, arrAcc_tiles, arrCar_tiles, arrZ_tiles, arrSp_tiles, arrA_tiles]
  exact .rfl

theorem leave (c : Dev nD) (β : Bufs) (q k v : Vec F S1x4096x512 .bf16) (u : Vec F S256x256 .bf16) :
    Upto c β (tilesB q) (tilesB k) (tilesB v) u 32 ⊢ H' c β q k v (blockOut q k v u) u (R' c β) := by
  unfold Upto H' R' H
  iintro ⟨%σ, %h, Hq, Hk, Hv, Hu, Ho, Hacc, Hcar, Hsp, Hz, Ha⟩
  obtain ⟨h1, h2, h3, h4, h5⟩ := h
  rw [h1, h2, h3, h4, arrB_congr h5]
  simp only [arrB_tilesB]
  isplitl [Hq]; · iexact Hq
  isplitl [Hk]; · iexact Hk
  isplitl [Hv]; · iexact Hv
  isplitl [Hu]; · iexact Hu
  isplitl [Ho]; · unfold blockOut; iexact Ho
  isplitl [Hacc]; · iexists _; iexact Hacc
  isplitl [Hcar]; · iexists _; iexact Hcar
  isplitl [Hsp]; · iexists _; iexact Hsp
  isplitl [Hz]; · iexists _; iexact Hz
  iexists _; iexact Ha

/-- The body from any contents, the rest of the machine kept. -/
theorem body_run (c : Dev nD) (β : Bufs) (i : grid0.Coords) (q k v o : Vec F S1x4096x512 .bf16) (u : Vec F S256x256 .bf16) :
    H' c β q k v o u (R' c β) ⊢ wp frame (wpE (defs₀ (F := F)) 𝒱₀ (c : Thread nD τ) none) Set.univ (attn β i)
      fun _ => H' c β q k v (blockOut q k v u) u (R' c β) := by
  have key : ∀ acc car sp z a, H' c β q k v o u iprop(own c β.acc acc ∗ own c β.car car ∗ own c β.sp sp ∗ own c β.z z ∗ own c β.a a)
      ⊢ wp frame (wpE (defs₀ (F := F)) 𝒱₀ (c : Thread nD τ) none) Set.univ (attn β i) fun _ => H' c β q k v (blockOut q k v u) u (R' c β) := by
    intro acc car sp z a
    have h := sat_attn (c := c) (β := β) (F := F) (σ := ⟨tilesB q, tilesB k, tilesB v, u, tilesB o, tilesAcc acc, tilesSlot car sp z a⟩) i
    unfold Sat at h
    exact (enter c β q k v o u acc car sp z a).trans (h.trans (wp_mono (M := MT nD τ sig Unit (Elt F) ℕ (UR nD τ) ℕ) _ _ _ fun _ => leave c β q k v u))
  unfold H' at key ⊢
  unfold R' at key ⊢
  iintro ⟨Hq, Hk, Hv, Hu, Ho, ⟨%acc, Hacc⟩, ⟨%car, Hcar⟩, ⟨%sp, Hsp⟩, ⟨%z, Hz⟩, ⟨%a, Ha⟩⟩
  have hk := key acc car sp z a
  iapply hk
  isplitl [Hq]; · iexact Hq
  isplitl [Hk]; · iexact Hk
  isplitl [Hv]; · iexact Hv
  isplitl [Hu]; · iexact Hu
  isplitl [Ho]; · iexact Ho
  isplitl [Hacc]; · iexact Hacc
  isplitl [Hcar]; · iexact Hcar
  isplitl [Hsp]; · iexact Hsp
  isplitl [Hz]; · iexact Hz
  iexact Ha

end
end Cert.KernelIdeal.M
-- ==== Proof.Call.lean ====
module

public import proofs.«01_k».proof.Proof.Run
public import Idealize.ShloMosaic.Lib.Pipeline.ValueKit
public import Idealize.ShloMosaic.Lib.Claim

@[expose] public section

set_option maxRecDepth 16384

/-!
# The run of the call

The proof data of the pipeline: each input window holds its block, the result's window the block the kernel writes.
-/

namespace Cert.KernelIdeal.M
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen
variable {F : FTy → Type} [FloatOps F] [Named F]
noncomputable section

local notation "𝕄" => MT nD τ sig Unit (Elt F) ℕ (UR nD τ) ℕ

variable (m : (ℓ : Loc nD τ sig) → Buf (Elt F) ℓ) (ρ : Dev nD → PrngReg)

/-- The host operations before the call. -/
abbrev hostOps : List (List (HloOp τ sig (Elt F))) := [hostOps0, hostOps0_1, hostOps0_2, hostOps0_3, hostOps0_4, hostOps0_5, hostOps0_6]

/-- What a buffer holds when the call begins. -/
def V (c : Dev nD) (b : Ref sig .tc) : Buf (Elt F) ((c.tc : Thread nD τ).loc b) :=
  StableHlo.after (hostOps (F := F)).flatten (fun b => m (c, b)) b

/-- The block of an input at a point. -/
def blkQ (c : Dev nD) (t : Fin (cfg0 (F := F)).N) : Vec F S1x4096x512 .bf16 := (((cfg0 (F := F)).win 0).blk t).view.read (Elt F) (V m c main_arg0)
def blkK (c : Dev nD) (t : Fin (cfg0 (F := F)).N) : Vec F S1x4096x512 .bf16 := (((cfg0 (F := F)).win 1).blk t).view.read (Elt F) (V m c main_arg1)
def blkV (c : Dev nD) (t : Fin (cfg0 (F := F)).N) : Vec F S1x4096x512 .bf16 := (((cfg0 (F := F)).win 2).blk t).view.read (Elt F) (V m c main_arg2)
def blkU (c : Dev nD) (t : Fin (cfg0 (F := F)).N) : Vec F S256x256 .bf16 := (((cfg0 (F := F)).win 3).blk t).view.read (Elt F) (V m c main_v8)

def dats (_ : Fin 1) (c : Dev nD) : Dat τ (Elt F) Unit ℕ (UR nD τ) ℕ (cfg0 (F := F)) c where
  A w := V m c (Pipeline.arrRef spec0 w)
  after w t := match w with
    | 0 => blkQ m c t
    | 1 => blkK m c t
    | 2 => blkV m c t
    | 3 => blkU m c t
    | 4 => blockOut (blkQ m c t) (blkK m c t) (blkV m c t) (blkU m c t)
  Φ _ := Pipeline.ΦA spec0 c
  q _ := fullShare
  owed _ := 0

theorem A_eq (c : Dev nD) (w : Fin (cfg0 (F := F)).W) : (dats m 0 c).A w = V m c (Pipeline.arrRef spec0 w) := by dsimp only [dats]

theorem before0 (c : Dev nD) (t : Fin (cfg0 (F := F)).N) (d) : (dats m 0 c).before 0 t d = blkQ m c t :=
  ((dats m 0 c).before_fetched 0 t (fetch0_0 t) d).trans rfl
theorem before1 (c : Dev nD) (t : Fin (cfg0 (F := F)).N) (d) : (dats m 0 c).before 1 t d = blkK m c t :=
  ((dats m 0 c).before_fetched 1 t (fetch0_1 t) d).trans rfl
theorem before2 (c : Dev nD) (t : Fin (cfg0 (F := F)).N) (d) : (dats m 0 c).before 2 t d = blkV m c t :=
  ((dats m 0 c).before_fetched 2 t (fetch0_2 t) d).trans rfl
theorem before3 (c : Dev nD) (t : Fin (cfg0 (F := F)).N) (d) : (dats m 0 c).before 3 t d = blkU m c t :=
  ((dats m 0 c).before_in_eq_fetched 3 rfl (fun _ => rfl) (fun _ _ _ => rfl) (fun _ => rfl) t d).trans rfl

/-- The buffers the body is called with. -/
abbrev bufsAt (t : Fin (cfg0 (F := F)).N) : Bufs where
  q := st0_0 (F := F) t
  k := st0_1 (F := F) t
  v := st0_2 (F := F) t
  u := st0_3 (F := F) t
  o := st0_4 (F := F) t
  acc := Memref.whole cc0_scratch0
  car := Memref.whole cc0_scratch1
  sp := Memref.whole cc0_scratch2
  z := Memref.whole cc0_scratch3
  a := Memref.whole cc0_scratch4
  hq := hstage0_0 (((cfg0 (F := F)).slots t 0).cast nbuf0_0)
  hk := hstage0_1 (((cfg0 (F := F)).slots t 1).cast nbuf0_1)
  hv := hstage0_2 (((cfg0 (F := F)).slots t 2).cast nbuf0_2)
  hu := hstage0_3 (((cfg0 (F := F)).slots t 3).cast nbuf0_3)
  ho := hstage0_4 (((cfg0 (F := F)).slots t 4).cast nbuf0_4)
  hacc := Memref.isWhole_whole _
  hcar := Memref.isWhole_whole _
  hsp := Memref.isWhole_whole _
  hz := Memref.isWhole_whole _
  ha := Memref.isWhole_whole _

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d))
    ∗ (∃ d, owns (c : Thread nD τ) (st0_4 (F := F) t) fullShare ((dats m 0 c).before 4 t d)))
def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare (blkQ m c t)
    ∗ owns (c : Thread nD τ) (st0_1 (F := F) t) fullShare (blkK m c t)
    ∗ owns (c : Thread nD τ) (st0_2 (F := F) t) fullShare (blkV m c t)
    ∗ owns (c : Thread nD τ) (st0_3 (F := F) t) fullShare (blkU m c t)
    ∗ owns (c : Thread nD τ) (st0_4 (F := F) t) fullShare (blockOut (blkQ m c t) (blkK m c t) (blkV m c t) (blkU m c t)))

theorem some_own (c : Dev nD) {S : Shape} {e : EltTy} {m : Memref sig .tc .vmem S e} (hm : m.IsWhole) :
    (iprop(∃ X, own c m X) : sProp 𝕄) = iprop(∃ f : Buf (Elt F) (m.view.loc (c : Thread nD τ)), (m.view.loc (c : Thread nD τ)) ↦{fullShare} f) := by
  rw [← hm.exists_owns_eq (c := (c : Thread nD τ)) fullShare]
  simp only [owns_eq_own c hm]

theorem scratch_own (c : Dev nD) (t : Fin (cfg0 (F := F)).N) :
    (Pipeline.scopedRest (Ix := Unit) (Name := ℕ) (U := UR nD τ) (Lvl := ℕ) (Val := Elt F) spec0 c : sProp 𝕄) = R' c (bufsAt (F := F) t) := by
  rw [scopedRest0_eq]
  unfold R'
  rw [some_own c (bufsAt (F := F) t).hacc, some_own c (bufsAt (F := F) t).hcar, some_own c (bufsAt (F := F) t).hsp, some_own c (bufsAt (F := F) t).hz,
    some_own c (bufsAt (F := F) t).ha]

theorem body_eq (t : Fin (cfg0 (F := F)).N) : bodyAt0 (F := F) t = attn (bufsAt (F := F) t) (grid0.coords t) :=
  main_same (bufsAt (F := F) t) (grid0.coords t)

theorem sound_body (c : Dev nD) (t : Fin (cfg0 (F := F)).N) :
    bodyPre m c t ⊢ wp frame (wpE (defs₀ (F := F)) 𝒱₀ c none) Set.univ (bodyAt0 t) (fun _ => bodyPost m c t) := by
  rw [body_eq]
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scratch_own c t]
  simp only [before0, before1, before2, before3]
  generalize (dats m 0 c).owesAt () t.castSucc = O
  iintro ⟨⟨HR, Hg⟩, HO, ⟨%d0, Hq⟩, ⟨%d1, Hk⟩, ⟨%d2, Hv⟩, ⟨%d3, Hu⟩, ⟨%d4, Ho⟩⟩
  have h := fun o : Vec F S1x4096x512 .bf16 => body_run c (bufsAt (F := F) t) (grid0.coords t) (blkQ m c t) (blkK m c t) (blkV m c t) o (blkU m c t)
  unfold H' at h
  simp only [← owns_eq_own c (bufsAt (F := F) t).hq, ← owns_eq_own c (bufsAt (F := F) t).hk, ← owns_eq_own c (bufsAt (F := F) t).hv,
    ← owns_eq_own c (bufsAt (F := F) t).hu, ← owns_eq_own c (bufsAt (F := F) t).ho] at h
  iapply (wp_wand_r (M := 𝕄) frame (wpE (defs₀ (F := F)) 𝒱₀ c none) Set.univ)
  isplitl [HR Hq Hk Hv Hu Ho]
  · iapply (h ((dats m 0 c).before 4 t d4))
    isplitl [Hq]; · iexact Hq
    isplitl [Hk]; · iexact Hk
    isplitl [Hv]; · iexact Hv
    isplitl [Hu]; · iexact Hu
    isplitl [Ho]; · iexact Ho
    iexact HR
  iintro %a ⟨Hq, Hk, Hv, Hu, Ho, HR⟩
  isplitl [HR Hg]
  · isplitl [HR]; · iexact HR
    iexact Hg
  isplitl [HO]; · iexact HO
  isplitl [Hq]; · iexact Hq
  isplitl [Hk]; · iexact Hk
  isplitl [Hv]; · iexact Hv
  isplitl [Hu]; · iexact Hu
  iexact Ho

/-- The body table's row at the point is the body as `bodyAt0` spells it. -/
theorem defs₀_row (t : Fin (cfg0 (F := F)).N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact Idealize.ShloMosaic.triple_restated (sound_body m c t) rfl .rfl fun _ => .rfl

theorem hmain : Pipeline.HMain (Ix := Unit) (Name := ℕ) (U := UR nD τ) (Lvl := ℕ) cfgs 0 defs₀ 𝒱₀ m (main (F := F)) (V m) :=
  Pipeline.hmain_prefixes cfgs 0 defs₀ 𝒱₀ m main hostOps
    ⟨hostOps0_sub, hostOps0_1_sub, hostOps0_2_sub, hostOps0_3_sub, hostOps0_4_sub, hostOps0_5_sub, hostOps0_6_sub⟩
    (by simp only [List.Forall]; repeat (first | exact trivial | exact rfl | constructor)) main_chain

-- the library's run is found by unifying its conclusion with this statement, which may need a metavariable's type unfolded
set_option backward.isDefEq.respectTransparency.types false in
theorem run_main :
    θ_run defs (onTc (τ := τ) (main (F := F))) ⟨m, fun _ => 0, ρ⟩
      (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

end
end Cert.KernelIdeal.M
-- ==== Proof.Frame.lean ====
module

public import proofs.«01_k».proof.Proof.Call
public import Idealize.ShloMosaic.Lib.StableHlo.RunHlo

@[expose] public section

set_option maxRecDepth 16384

/-!
# The frame of the attention

The call ends, its arguments hold what they held, and every semaphore is at zero.
-/

namespace Cert.KernelIdeal.M
open Idealize.ShloMosaic Idealize.SL.Sem
open Idealize.ShloMosaic.TcCoe
variable {F : FTy → Type} [FloatOps F] [Named F]
noncomputable section

/-- No host operation before the call writes an argument. -/
theorem main_same_buf (m : (ℓ : Loc nD τ sig) → Buf (Elt F) ℓ) (c : Dev nD) (b : Ref sig .tc)
  (hb : b = main_arg0 ∨ b = main_arg1 ∨ b = main_arg2) : V m c b = m ((c.tc : Thread nD τ).loc b) := by
  unfold V
  refine (StableHlo.after_of_forall_not_mem (b := Proc.devRef .tc b) _ _ ?_)
  intro op hop hin
  simp only [hostOps, List.flatten_cons, List.flatten_nil, List.cons_append, List.nil_append, List.mem_cons, List.not_mem_nil, or_false] at hop
  rcases hb with rfl | rfl | rfl <;>
  · rcases hop with rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl <;>
    exact absurd (Finset.mem_singleton.mp hin) (StableHlo.devRef_ne_of_ne (by decide))

/-- The frame of the call, at any values. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (run_main m ρ).mono fun r (h : _ ∧ _) => ⟨fun c => ?_, h.2⟩
  have h0 := ((h.1 c).1 0).trans ((dats m 0 c).arrAt_in 0 rfl _)
  have h1 := ((h.1 c).1 1).trans ((dats m 0 c).arrAt_in 1 rfl _)
  have h2 := ((h.1 c).1 2).trans ((dats m 0 c).arrAt_in 2 rfl _)
  rw [A_eq] at h0 h1 h2
  exact ⟨h0.trans (main_same_buf m c _ (.inl rfl)), h1.trans (main_same_buf m c _ (.inr (.inl rfl))), h2.trans (main_same_buf m c _ (.inr (.inr rfl)))⟩
end
end Cert.KernelIdeal.M
-- ==== Proof.Reference.lean ====
module

public import proofs.«01_k».proof.Proof.Gen.ReferenceIdeal
public import proofs.«01_k».proof.Defs
public import Idealize.ShloMosaic.Lib.StableHlo.RunHlo
public import Idealize.ShloMosaic.Lib.Claim
public import Idealize.ShloMosaic.Adequacy
public import Idealize.ShloMosaic.Init

@[expose] public section

set_option maxRecDepth 16384

/-!
# The frame of the reference
-/

namespace Cert.ReferenceIdeal.M
open Idealize.ShloMosaic Idealize.SL.Sem
open Idealize.ShloMosaic.TcCoe
noncomputable section

/-- The reference ends, with its arguments as they were and no semaphore to speak of. -/
theorem frame_referenceIdeal : Cert.quiescent_ReferenceIdeal := by
  intro m g _
  hlo_run
  · exact fun _ => ⟨trivial, trivial, trivial⟩
  · exact Idealize.ShloMosaic.sem_eq_zero_of_no_sems (by decide) _
end
end Cert.ReferenceIdeal.M
-- ==== Proof.Stick.lean ====
module

public import Idealize.ShloMosaic.PureOps.Ideal
public import Mathlib.Data.EReal.Operations

@[expose] public section

/-!
# One row of stick-breaking attention, over the extended reals

A row of scores `z`, in units of a base-2 logarithm, gives key `a` the weight
`2 ^ (z a - sp2 (z a) - (the softplus of the scores after a))`. Here are the sums a tiled pass makes of
such a row, block by block from the last key back, and the same weight in natural units.
-/

namespace Cert.Stick
open Idealize.ShloMosaic
noncomputable section

/-- log₂ (1 + 2 ^ z). -/
def sp2 (z : EReal) : EReal := max z 0 + Ideal.log (1 + Ideal.exp2 (0 - max z (-z))) * (((Real.log 2)⁻¹ : ℝ) : EReal)
/-- log (1 + e ^ x). -/
def spe (x : EReal) : EReal := max x 0 + Ideal.log (1 + Ideal.exp (-max x (-x)))

theorem log2_pos : 0 < Real.log 2 := Real.log_pos (by norm_num)

theorem sp2_coe (r : ℝ) : sp2 r = ((max r 0 + Real.log (1 + (2:ℝ) ^ (-|r|)) * (Real.log 2)⁻¹ : ℝ) : EReal) := by
  unfold sp2
  have e1 : (0 : EReal) - max (r : EReal) (-(r : EReal)) = ((-|r| : ℝ) : EReal) := by
    rw [zero_sub, ← EReal.coe_neg, ← EReal.coe_strictMono.monotone.map_max, ← EReal.coe_neg, abs_eq_max_neg]
  have hp : (0:ℝ) < (2:ℝ) ^ (-|r|) := Real.rpow_pos_of_pos (by norm_num) _
  rw [e1, Ideal.exp2_coe, ← EReal.coe_one, ← EReal.coe_add, Ideal.log_coe, if_neg (by show ¬ (1 + (2:ℝ) ^ (-|r|) ≤ 0); linarith), ← EReal.coe_mul,
    ← EReal.coe_zero, ← EReal.coe_strictMono.monotone.map_max, ← EReal.coe_add]
  rfl

theorem spe_coe (r : ℝ) : spe r = ((max r 0 + Real.log (1 + Real.exp (-|r|)) : ℝ) : EReal) := by
  unfold spe
  have e1 : -max (r : EReal) (-(r : EReal)) = ((-|r| : ℝ) : EReal) := by
    rw [← EReal.coe_neg, ← EReal.coe_strictMono.monotone.map_max, ← EReal.coe_neg, abs_eq_max_neg]
  have hp : (0:ℝ) < Real.exp (-|r|) := Real.exp_pos _
  rw [e1, Ideal.exp_coe, ← EReal.coe_one, ← EReal.coe_add, Ideal.log_coe, if_neg (by linarith),
    ← EReal.coe_zero, ← EReal.coe_strictMono.monotone.map_max, ← EReal.coe_add]

theorem log_one : Ideal.log 1 = 0 := by
  rw [← EReal.coe_one, Ideal.log_coe, if_neg (by norm_num), Real.log_one, EReal.coe_zero]

theorem sp2_bot : sp2 ⊥ = 0 := by
  unfold sp2
  have e : (0 : EReal) - max ⊥ (-⊥) = ⊥ := by simp
  rw [e, Ideal.exp2_bot, add_zero, log_one]; simp
theorem sp2_top : sp2 ⊤ = ⊤ := by
  unfold sp2
  have e : (0 : EReal) - max ⊤ (-⊤) = ⊥ := by simp
  rw [e, Ideal.exp2_bot, add_zero, log_one]; simp
theorem spe_bot : spe ⊥ = 0 := by
  unfold spe
  have e : -max (⊥ : EReal) (-⊥) = ⊥ := by simp
  rw [e, Ideal.exp_bot, add_zero, log_one]; simp
theorem spe_top : spe ⊤ = ⊤ := by
  unfold spe
  have e : -max (⊤ : EReal) (-⊤) = ⊥ := by simp
  rw [e, Ideal.exp_bot, add_zero, log_one]; simp

theorem sp2_real_nonneg (r : ℝ) : 0 ≤ max r 0 + Real.log (1 + (2:ℝ) ^ (-|r|)) * (Real.log 2)⁻¹ := by
  have hp : (0:ℝ) < (2:ℝ) ^ (-|r|) := Real.rpow_pos_of_pos (by norm_num) _
  exact add_nonneg (le_max_right _ _) (mul_nonneg (Real.log_nonneg (by linarith)) (inv_nonneg.mpr log2_pos.le))

theorem sp2_nonneg (z : EReal) : 0 ≤ sp2 z := by
  induction z with
  | bot => rw [sp2_bot]
  | top => rw [sp2_top]; exact le_top
  | coe r => rw [sp2_coe]; exact_mod_cast sp2_real_nonneg r

/-- The softplus in natural units is log 2 times the one in base-2 units. -/
theorem spe_scale (z : EReal) : spe ((Real.log 2 : ℝ) * z) = (Real.log 2 : ℝ) * sp2 z := by
  induction z with
  | bot => rw [EReal.coe_mul_bot_of_pos log2_pos, spe_bot, sp2_bot, mul_zero]
  | top => rw [EReal.coe_mul_top_of_pos log2_pos, spe_top, sp2_top, EReal.coe_mul_top_of_pos log2_pos]
  | coe r =>
    rw [← EReal.coe_mul, spe_coe, sp2_coe, ← EReal.coe_mul]
    congr 1
    have e1 : max (Real.log 2 * r) 0 = Real.log 2 * max r 0 := by
      rw [mul_max_of_nonneg _ _ log2_pos.le, mul_zero]
    have e2 : Real.exp (-|Real.log 2 * r|) = (2:ℝ) ^ (-|r|) := by
      rw [Real.rpow_def_of_pos (by norm_num), abs_mul, abs_of_pos log2_pos]; congr 1; ring
    rw [e1, e2, mul_add, mul_comm (Real.log (1 + _)), ← mul_assoc, mul_inv_cancel₀ log2_pos.ne', one_mul]

/-- What a score takes from the scores before it. -/
def N (z : EReal) : EReal := -sp2 z
theorem N_nonpos (z : EReal) : N z ≤ 0 := by
  unfold N; exact EReal.neg_le_zero.mpr (sp2_nonneg z)
theorem N_bot : N ⊥ = 0 := by unfold N; rw [sp2_bot, neg_zero]

theorem log2_mul_add (x y : EReal) : ((Real.log 2 : ℝ) : EReal) * (x + y) = (Real.log 2 : ℝ) * x + (Real.log 2 : ℝ) * y :=
  EReal.left_distrib_of_nonneg_of_ne_top (by exact_mod_cast log2_pos.le) (EReal.coe_ne_top _) x y

theorem log2_mul_sum {ι : Type} (s : Finset ι) (f : ι → EReal) : ((Real.log 2 : ℝ) : EReal) * ∑ i ∈ s, f i = ∑ i ∈ s, (Real.log 2 : ℝ) * f i := by
  classical
  induction s using Finset.induction with
  | empty => simp
  | insert a s ha ih => rw [Finset.sum_insert ha, Finset.sum_insert ha, log2_mul_add, ih]

theorem neg_spe_scale (z : EReal) : -spe ((Real.log 2 : ℝ) * z) = (Real.log 2 : ℝ) * N z := by
  rw [spe_scale]; unfold N; rw [mul_neg]

/-- The weight of a key, in base-2 units and in natural ones. -/
theorem weight_eq (z n : EReal) (hn : n ≤ 0) :
    Ideal.exp2 (z + (N z + n)) = Ideal.exp (-spe (-((Real.log 2 : ℝ) * z)) + ((-spe ((Real.log 2 : ℝ) * z) + (Real.log 2 : ℝ) * n) - -spe ((Real.log 2 : ℝ) * z))) := by
  induction n with
  | top => exact absurd hn (by simp)
  | bot => rw [EReal.coe_mul_bot_of_pos log2_pos]; simp [EReal.add_bot, EReal.bot_add, EReal.bot_sub]
  | coe n =>
    induction z with
    | bot => rw [EReal.bot_add, Ideal.exp2_bot, EReal.coe_mul_bot_of_pos log2_pos, EReal.neg_bot, spe_top, EReal.neg_top, EReal.bot_add, Ideal.exp_bot]
    | top =>
      unfold N
      rw [sp2_top, EReal.neg_top, EReal.bot_add, EReal.add_bot, Ideal.exp2_bot, EReal.coe_mul_top_of_pos log2_pos, spe_top, EReal.neg_top, EReal.bot_add, EReal.bot_sub, EReal.add_bot, Ideal.exp_bot]
    | coe r =>
      unfold N
      rw [sp2_coe, ← EReal.coe_mul, ← EReal.coe_neg, ← EReal.coe_neg, spe_coe, spe_coe, ← EReal.coe_mul, ← EReal.coe_add, ← EReal.coe_add, ← EReal.coe_neg, ← EReal.coe_neg,
        ← EReal.coe_add, ← EReal.coe_sub, ← EReal.coe_add, Ideal.exp2_coe, Ideal.exp_coe]
      congr 1
      refine (Real.rpow_def_of_pos (by norm_num) _).trans (congrArg Real.exp ?_)
      have e1 : max (-(Real.log 2 * r)) 0 = Real.log 2 * max r 0 - Real.log 2 * r := by
        have h := log2_pos
        rcases le_total r 0 with hr | hr
        · rw [max_eq_right hr, max_eq_left (by nlinarith)]; ring
        · rw [max_eq_left hr, max_eq_right (by nlinarith)]; ring
      have e2 : Real.exp (-|-(Real.log 2 * r)|) = (2:ℝ) ^ (-|r|) := by
        rw [Real.rpow_def_of_pos (by norm_num), abs_neg, abs_mul, abs_of_pos log2_pos]; congr 1; ring
      rw [e1, e2]
      have h := log2_pos.ne'
      field_simp
      ring

/-! ## A row, block by block -/

/-- What the keys of `[a, b)` take together. -/
def tail (z : ℕ → EReal) (a b : ℕ) : EReal := ∑ j ∈ Finset.Ico a b, N (z j)

/-- The weighted values of the keys before `n`, of which the keys after have taken `c`. -/
def wsum (z v : ℕ → EReal) (n : ℕ) (c : EReal) : EReal := ∑ a ∈ Finset.range n, Ideal.exp2 (z a + (tail z a n + c)) * v a

/-- The same of a block of 128 keys from `b` on. -/
def blk (z v : ℕ → EReal) (b : ℕ) (c : EReal) : EReal := ∑ s ∈ Finset.range 128, Ideal.exp2 (z (b + s) + (tail (fun j => z (b + j)) s 128 + c)) * v (b + s)
/-- What the block takes. -/
def took (z : ℕ → EReal) (b : ℕ) : EReal := ∑ s ∈ Finset.range 128, N (z (b + s))

theorem tail_nonpos (z : ℕ → EReal) (a b : ℕ) : tail z a b ≤ 0 := Finset.sum_nonpos fun _ _ => N_nonpos _

theorem tail_shift (z : ℕ → EReal) (b a n : ℕ) : tail z (b + a) (b + n) = tail (fun j => z (b + j)) a n := by
  unfold tail
  rw [Nat.add_comm b a, Nat.add_comm b n]
  exact (Finset.sum_Ico_add (fun j => N (z j)) a n b).symm

theorem tail_append (z : ℕ → EReal) {a b c : ℕ} (h : a ≤ b) (h' : b ≤ c) : tail z a c = tail z a b + tail z b c :=
  (Finset.sum_Ico_consecutive _ h h').symm

theorem took_eq (z : ℕ → EReal) (b : ℕ) : took z b = tail z b (b + 128) := by
  have := tail_shift z b 0 128
  rw [Nat.add_zero] at this
  rw [this]
  unfold took tail
  rw [Finset.range_eq_Ico]

theorem wsum_step (z v : ℕ → EReal) (b : ℕ) (c : EReal) : wsum z v (b + 128) c = blk z v b c + wsum z v b (took z b + c) := by
  unfold wsum
  rw [Finset.sum_range_add, add_comm]
  congr 1
  · unfold blk
    exact Finset.sum_congr rfl fun s _ => by rw [tail_shift]
  · refine Finset.sum_congr rfl fun a ha => ?_
    have ha := Finset.mem_range.mp ha
    rw [tail_append z ha.le (Nat.le_add_right b 128), took_eq, add_assoc]

theorem wsum_bot (z v : ℕ → EReal) (n : ℕ) : wsum z v n ⊥ = 0 :=
  Finset.sum_eq_zero fun a _ => by rw [EReal.add_bot, EReal.add_bot, Ideal.exp2_bot, zero_mul]

theorem wsum_zero (z v : ℕ → EReal) (c : EReal) : wsum z v 0 c = 0 := Finset.sum_range_zero _

/-- The scores before key `t`, the others at no weight. -/
def before (z : ℕ → EReal) (t a : ℕ) : EReal := if a < t then z a else ⊥

theorem tail_before (z : ℕ → EReal) {a t n : ℕ} (h : a ≤ t) (h' : t ≤ n) : tail (before z t) a n = tail z a t := by
  rw [tail_append _ h h']
  have e1 : tail (before z t) t n = 0 := Finset.sum_eq_zero fun j hj => by
    have hj := Finset.mem_Ico.mp hj
    unfold before; rw [if_neg (by omega), N_bot]
  rw [e1, add_zero]
  exact Finset.sum_congr rfl fun j hj => by
    have hj := Finset.mem_Ico.mp hj
    unfold before; rw [if_pos (by omega)]

/-- A row of the result, key by key, in natural units: `x` the scores. -/
theorem wsum_before (z v : ℕ → EReal) {t n : ℕ} (h : t ≤ n) :
    wsum (before z t) v n 0 = ∑ a ∈ Finset.range n, (if a < t then
      Ideal.exp (-spe (-((Real.log 2 : ℝ) * z a)) + (((∑ j ∈ Finset.Ico a n, if j < t then -spe ((Real.log 2 : ℝ) * z j) else 0) - -spe ((Real.log 2 : ℝ) * z a)))) else 0) * v a := by
  unfold wsum
  refine Finset.sum_congr rfl fun a ha => congrArg (· * v a) ?_
  have ha := Finset.mem_range.mp ha
  by_cases hat : a < t
  · rw [if_pos hat, add_zero, tail_before z hat.le h]
    have e : before z t a = z a := if_pos hat
    have e2 : tail z a t = N (z a) + tail z (a + 1) t := by
      unfold tail; rw [Finset.sum_eq_sum_Ico_succ_bot hat]
    have e3 : (∑ j ∈ Finset.Ico a n, if j < t then -spe ((Real.log 2 : ℝ) * z j) else 0) = -spe ((Real.log 2 : ℝ) * z a) + (Real.log 2 : ℝ) * tail z (a + 1) t := by
      rw [Finset.sum_eq_sum_Ico_succ_bot ha, if_pos hat]
      congr 1
      rw [← Finset.sum_Ico_consecutive _ (Nat.succ_le_of_lt hat) h]
      have e4 : (∑ j ∈ Finset.Ico t n, if j < t then -spe ((Real.log 2 : ℝ) * z j) else 0) = 0 := Finset.sum_eq_zero fun j hj => by
        have hj := Finset.mem_Ico.mp hj
        rw [if_neg (by omega)]
      rw [e4, add_zero]
      unfold tail
      rw [log2_mul_sum]
      refine Finset.sum_congr rfl fun j hj => ?_
      have hj := Finset.mem_Ico.mp hj
      rw [if_pos (by omega), neg_spe_scale]
    rw [e, e2, e3]
    exact weight_eq (z a) _ (tail_nonpos _ _ _)
  · rw [if_neg hat]
    have e : before z t a = ⊥ := if_neg hat
    rw [e, EReal.bot_add, Ideal.exp2_bot]

theorem neg_sum_sp2 {ι : Type} (s : Finset ι) (f : ι → EReal) : -(∑ i ∈ s, sp2 (f i)) = ∑ i ∈ s, N (f i) := by
  classical
  induction s using Finset.induction with
  | empty => simp
  | insert a s ha ih =>
    have h1 : ∀ x : EReal, 0 ≤ x → x ≠ ⊥ := fun x hx hb => absurd (hb ▸ hx) (by simp)
    rw [Finset.sum_insert ha, Finset.sum_insert ha, EReal.neg_add (.inl (h1 _ (sp2_nonneg _))) (.inr (h1 _ (Finset.sum_nonneg fun _ _ => sp2_nonneg _))), sub_eq_add_neg, ih]
    rfl

/-- A triangle of −1 makes the sums that end a block. -/
theorem tri_sum (z : ℕ → EReal) (s : Fin 128) : (∑ x : Fin 128, sp2 (z x.1) * if s.1 ≤ x.1 then (-1 : EReal) else 0) = tail z s.1 128 := by
  have e : (Finset.range 128).filter (fun x => s.1 ≤ x) = Finset.Ico s.1 128 := by
    ext x; simp only [Finset.mem_filter, Finset.mem_range, Finset.mem_Ico]; omega
  unfold tail
  rw [← e, Finset.sum_filter, Finset.sum_range]
  refine Finset.sum_congr rfl fun x _ => ?_
  split
  · unfold N; rw [mul_neg, mul_one]
  · exact mul_zero _

theorem took_sum (z : ℕ → EReal) (b : ℕ) : ∑ s : Fin 128, N (z (b + s.1)) = took z b := (Finset.sum_range fun s => N (z (b + s))).symm

theorem blk_sum (z v : ℕ → EReal) (b : ℕ) (c : EReal) :
    ∑ s : Fin 128, Ideal.exp2 (z (b + s.1) + (tail (fun j => z (b + j)) s.1 128 + c)) * v (b + s.1) = blk z v b c :=
  (Finset.sum_range fun s => Ideal.exp2 (z (b + s) + (tail (fun j => z (b + j)) s 128 + c)) * v (b + s)).symm

theorem wsum_blocks (z v : ℕ → EReal) (n E m : ℕ) (h : 128 * (n + m) ≤ E) :
    wsum z v (128 * (n + m)) (tail z (128 * (n + m)) E) =
      (∑ b ∈ Finset.range m, blk z v (128 * (n + b)) (tail z (128 * (n + b + 1)) E)) + wsum z v (128 * n) (tail z (128 * n) E) := by
  induction m with
  | zero => simp
  | succ m ih =>
    rw [Finset.sum_range_succ]
    have e : 128 * (n + (m + 1)) = 128 * (n + m) + 128 := by ring
    rw [e, wsum_step, took_eq, ← tail_append z (Nat.le_add_right _ _) (e ▸ h), ih (by omega)]
    have e2 : 128 * (n + m + 1) = 128 * (n + m) + 128 := by ring
    rw [e2]
    ac_rfl

theorem tail_self (z : ℕ → EReal) (a : ℕ) : tail z a a = 0 := by unfold tail; simp

theorem tail_congr {z z' : ℕ → EReal} {a n : ℕ} (h : ∀ j, j < n → z j = z' j) : tail z a n = tail z' a n :=
  Finset.sum_congr rfl fun j hj => by rw [h j (Finset.mem_Ico.mp hj).2]

theorem wsum_congr {z z' v : ℕ → EReal} {n : ℕ} {c : EReal} (h : ∀ j, j < n → z j = z' j) : wsum z v n c = wsum z' v n c :=
  Finset.sum_congr rfl fun j hj => by rw [h j (Finset.mem_range.mp hj), tail_congr h]

/-- Keys from a row's own on give nothing. -/
theorem wsum_cut (z v : ℕ → EReal) {t n : ℕ} (h : t ≤ n) : wsum (before z t) v n 0 = wsum z v t 0 := by
  obtain ⟨m, rfl⟩ := Nat.exists_eq_add_of_le h
  induction m with
  | zero => exact wsum_congr fun j hj => if_pos hj
  | succ m ih =>
    refine Eq.trans ?_ (ih (Nat.le_add_right _ _))
    have hb : before z t (t + m) = ⊥ := if_neg (by omega)
    unfold wsum
    rw [← Nat.add_assoc, Finset.sum_range_succ, hb, EReal.bot_add, Ideal.exp2_bot, zero_mul, add_zero]
    refine Finset.sum_congr rfl fun a ha => ?_
    have e : tail (before z t) a (t + m + 1) = tail (before z t) a (t + m) := by
      unfold tail
      rw [Finset.sum_Ico_succ_top (Finset.mem_range.mp ha).le, hb, N_bot, add_zero]
    rw [e]

end
end Cert.Stick
-- ==== Proof.Tile.lean ====
module

public import proofs.«01_k».proof.Proof.Walk
public import proofs.«01_k».proof.Proof.Stick
public import Idealize.ShloMosaic.Lib.IdealHost

@[expose] public section

set_option maxRecDepth 16384

/-!
# A tile of the result, row by row, over the extended reals
-/

namespace Cert.KernelIdeal.M
open Idealize.ShloMosaic Idealize.SL.Sem
open Facts₀ Facts
open Cert.Stick
variable [Facts]
noncomputable section

/-- Lane `d` of a head of a pair. -/
abbrev ln (hh : Fin 2) (d : Fin 64) : Fin 128 := ⟨64 * hh.1 + d.1, by omega⟩

/-- The score of row `r` of a query tile against row `s` of a block of keys. -/
def sc (q k : B Ideal) (hh : Fin 2) (r s : Fin 128) : EReal := ∑ d : Fin 64, q (ix2 r (ln hh d)) * k (ix2 s (ln hh d))

theorem laneOf_apply : ∀ (hh : Fin 2) (r d : Fin 128), laneOf hh (ix2 r d) = if d.1 / 64 = hh.1 then 1#1 else 0#1 := by
  intro hh r d
  fin_cases hh
  · show lane0 _ = _
    unfold lane0
    pointwise []
    revert d; decide +kernel
  · show lane1 _ = _
    unfold lane1
    pointwise []
    revert d; decide +kernel

theorem lane_apply (hh : Fin 2) (q : B Ideal) (r d : Fin 128) : lane (laneOf hh) q (ix2 r d) = if d.1 / 64 = hh.1 then q (ix2 r d) else (0 : EReal) := by
  unfold lane
  pointwise []
  rw [laneOf_apply]
  by_cases h : d.1 / 64 = hh.1
  · rw [if_pos h, if_pos h]; rfl
  · rw [if_neg h, if_neg h]; rfl

theorem log2e_eq : (Named.named κ "log2e" 0x3FB8AA3B#32 : Ideal .f32) = (((Real.log 2)⁻¹ : ℝ) : EReal) := rfl
theorem mask_eq : (Named.named κ "mask" 0xF149F2CA#32 : Ideal .f32) = (⊥ : EReal) := rfl
theorem dead_eq : (Named.named κ "dead" 0xC3160000#32 : Ideal .f32) = (⊥ : EReal) := rfl

theorem softplus2_apply (z : T Ideal) (y : S128x128.Idx) : softplus2 z y = sp2 (z y) := by
  pointwise [softplus2, sp2]
  rw [log2e_eq]
  rfl

theorem sum_lanes (hh : Fin 2) (f : Fin 128 → EReal) : (∑ x : Fin 128, if x.1 / 64 = hh.1 then f x else 0) = ∑ d : Fin 64, f (ln hh d) := by
  rw [Fin.sum_univ_two_halves 64 64 rfl]
  have hd : ∀ d : Fin 64, d.1 / 64 = 0 := fun d => by omega
  have hd' : ∀ d : Fin 64, (64 + d.1) / 64 = 1 := fun d => by omega
  fin_cases hh
  · simp [hd, hd', ln]
  · simp [hd, hd', ln]

theorem head_sum (hh : Fin 2) (q : B Ideal) (r : Fin 128) (k : Fin 128 → EReal) :
    ∑ x : Fin 128, (lane (laneOf hh) q (ix2 r x) : EReal) * k x = ∑ d : Fin 64, (q (ix2 r (ln hh d)) : EReal) * k (ln hh d) := by
  rw [← sum_lanes hh fun x => (q (ix2 r x) : EReal) * k x]
  refine Finset.sum_congr rfl fun x _ => ?_
  rw [lane_apply]
  split
  · rfl
  · exact zero_mul _

theorem scores_apply (hh : Fin 2) (q k : B Ideal) (r s : Fin 128) : scores (lane (laneOf hh) q) k (ix2 r s) = sc q k hh r s := by
  unfold scores
  pointwise []
  exact head_sum hh q r fun x => k (ix2 s x)

theorem rowSum_apply (s : T Ideal) (r : Fin 128) : rowSum s (ix2 r 0) = ∑ j : Fin 128, (s (ix2 r j) : EReal) := by
  pointwise [rowSum]

theorem wide_apply (c : FVec Ideal S128x1 .f32) (r s : Fin 128) : wide c (ix2 r s) = c (ix2 r 0) := by
  pointwise [wide]

theorem mm_apply (x y : B Ideal) (r l : Fin 128) : mm x y (ix2 r l) = ∑ s : Fin 128, (x (ix2 r s) * y (ix2 s l) : EReal) := by
  pointwise [mm]

theorem round_apply (x : T Ideal) (y : S128x128.Idx) : round x y = x y := rfl

theorem masked_apply (z : T Ideal) (r s : Fin 128) : masked z (ix2 r s) = if s.1 < r.1 then z (ix2 r s) else (⊥ : EReal) := by
  pointwise [masked, causal]
  rw [mask_eq]
  have h : ∀ r s : Fin 128, IntOp.cmpi CmpIPredicate.slt (BitVec.ofNat 32 s.1) (BitVec.ofNat 32 r.1) = if s.1 < r.1 then 1#1 else 0#1 := by decide +kernel
  rw [h]
  by_cases h : s.1 < r.1
  · rw [if_pos h, if_pos h]; rfl
  · rw [if_neg h, if_neg h]; rfl

theorem above_bot {ι : Type} [Fintype ι] (b : EReal) (f : ι → EReal) :
    BitVec.ofBool (decide ((⊥ : EReal) < Finset.fold max b f Finset.univ)) = 1#1 ∨ ∀ x, f x = ⊥ := by
  by_cases h : (⊥ : EReal) < Finset.fold max b f Finset.univ
  · exact .inl (by rw [decide_eq_true h]; rfl)
  · refine .inr fun x => ?_
    have h := not_bot_lt_iff.mp h
    exact le_bot_iff.mp (((Finset.fold_max_le ⊥).mp h.le).2 x (Finset.mem_univ x))

theorem aliveCol_apply (x : FVec Ideal S128x1 .f32) : aliveCol x = 1#1 ∨ ∀ r, x (ix2 r 0) = (⊥ : EReal) := by
  unfold aliveCol above
  pointwise []
  rw [dead_eq]
  rcases above_bot (Ideal.ofBits FTy.f32 0xFF800000#32) (fun y : Fin 128 × Fin 1 => (x (ix2 y.1 0) : EReal)) with h | h
  · exact .inl h
  · exact .inr fun r => h (r, 0)
theorem alive_apply (x : T Ideal) : alive x = 1#1 ∨ ∀ r s, x (ix2 r s) = (⊥ : EReal) := by
  unfold alive above
  pointwise []
  rw [dead_eq]
  rcases above_bot (Ideal.ofBits FTy.f32 0xFF800000#32) (fun y : Fin 128 × Fin 128 => (x (ix2 y.1 y.2) : EReal)) with h | h
  · exact .inl h
  · exact .inr fun r s => h (r, s)

theorem maxT_bot (f : Fin 8 → T Ideal) {y : S128x128.Idx} (h : maxT f y = (⊥ : EReal)) (x : Fin 8) : f x y = (⊥ : EReal) := by
  pointwise [maxT] at h
  simp only [max_eq_bot] at h
  fin_cases x <;> tauto
theorem maxOf_bot (f : Fin 4 → Fin 2 → C Ideal) {y : S128x1.Idx} (h : maxOf f y = (⊥ : EReal)) (p : Fin 4) (hh : Fin 2) : f p hh y = (⊥ : EReal) := by
  pointwise [maxOf] at h
  simp only [max_eq_bot] at h
  fin_cases p <;> fin_cases hh <;> tauto

end
end Cert.KernelIdeal.M
-- ==== Proof.Rows.lean ====
module

public import proofs.«01_k».proof.Proof.Tile

@[expose] public section

set_option maxRecDepth 16384

/-!
# The tile the kernel writes, as weighted sums of its rows
-/

namespace Cert.KernelIdeal.M
open Idealize.ShloMosaic Idealize.SL.Sem
open Facts₀ Facts
open Cert.Stick
variable [Facts]
noncomputable section

/-- The scores of a query row against all keys. -/
def zrow (q : B Ideal) (k : ℕ → B Ideal) (hh : Fin 2) (r : Fin 128) (a : ℕ) : EReal := sc q (k (a / 128)) hh r ⟨a % 128, Nat.mod_lt _ (by decide)⟩
/-- A lane of all values. -/
def vcol (v : ℕ → B Ideal) (l : Fin 128) (a : ℕ) : EReal := v (a / 128) (ix2 ⟨a % 128, Nat.mod_lt _ (by decide)⟩ l)

theorem zrow_at (q : B Ideal) (k : ℕ → B Ideal) (hh : Fin 2) (r : Fin 128) (n : ℕ) (s : Fin 128) : zrow q k hh r (128 * n + s.1) = sc q (k n) hh r s := by
  unfold zrow
  have e1 : (128 * n + s.1) / 128 = n := by omega
  have e2 : (⟨(128 * n + s.1) % 128, Nat.mod_lt _ (by decide)⟩ : Fin 128) = s := Fin.ext (by show (128 * n + s.1) % 128 = s.1; omega)
  rw [e1, e2]
theorem vcol_at (v : ℕ → B Ideal) (l : Fin 128) (n : ℕ) (s : Fin 128) : vcol v l (128 * n + s.1) = v n (ix2 s l) := by
  unfold vcol
  have e1 : (128 * n + s.1) / 128 = n := by omega
  have e2 : (⟨(128 * n + s.1) % 128, Nat.mod_lt _ (by decide)⟩ : Fin 128) = s := Fin.ext (by show (128 * n + s.1) % 128 = s.1; omega)
  rw [e1, e2]

/-- The matrix whose product makes the sums that end a block, two blocks at a time. -/
def IsTri (u : FVec Ideal S256x256 .bf16) : Prop :=
  ∀ x y : Fin 256, u (ix2 x y) = if x.1 / 128 = y.1 / 128 ∧ y.1 % 128 ≤ x.1 % 128 then (-1 : EReal) else 0

theorem quarter_apply {u : FVec Ideal S256x256 .bf16} (hu : IsTri u) (x s : Fin 128) : quarter u (ix2 x s) = if s.1 ≤ x.1 then (-1 : EReal) else 0 := by
  unfold quarter
  refine (hu ⟨x.1, by omega⟩ ⟨s.1, by omega⟩).trans ?_
  dsimp only
  have e1 : x.1 / 128 = s.1 / 128 := by omega
  have e2 : x.1 % 128 = x.1 := by omega
  have e3 : s.1 % 128 = s.1 := by omega
  rw [e2, e3]
  simp only [e1, true_and]

/-! ## The older blocks -/

theorem oldCar_apply (q k : B Ideal) (hh : Fin 2) (x : T Ideal) (r s : Fin 128) (c : EReal) (hx : x (ix2 r s) = c) (z : ℕ → EReal) (b : ℕ)
    (hz : ∀ s : Fin 128, z (b + s.1) = sc q k hh r s) : oldCar q k hh x (ix2 r s) = took z b + c := by
  have e : oldCar q k hh x (ix2 r s) = (x (ix2 r s) - ∑ j : Fin 128, sp2 (sc q k hh r j) : EReal) := by
    unfold oldCar
    refine (subf_apply _ _ _).trans ?_
    rw [wide_apply, rowSum_apply]
    simp only [softplus2_apply, scores_apply]
    rfl
  rw [e, hx, sub_eq_add_neg, neg_sum_sp2, add_comm, ← took_sum]
  simp only [hz]

theorem oldAcc_apply {u : FVec Ideal S256x256 .bf16} (hu : IsTri u) (q k v : B Ideal) (hh : Fin 2) (a x : T Ideal) (r l : Fin 128) (c : EReal)
    (hx : ∀ s, x (ix2 r s) = c) (z V : ℕ → EReal) (b : ℕ) (hz : ∀ s : Fin 128, z (b + s.1) = sc q k hh r s) (hv : ∀ s : Fin 128, V (b + s.1) = v (ix2 s l)) :
    oldAcc q k v (quarter u) hh a x (ix2 r l) = (a (ix2 r l) + blk z V b c : EReal) := by
  unfold oldAcc
  refine (addf_apply _ _ _).trans (congrArg (fun t : EReal => (a (ix2 r l) : EReal) + t) ?_)
  rw [mm_apply, ← blk_sum]
  refine Finset.sum_congr rfl fun s _ => ?_
  rw [← hv s]
  refine congrArg (· * V (b + s.1)) (congrArg Ideal.exp2 ?_)
  refine (addf_apply _ _ _).trans ?_
  rw [addf_apply, hx, scores_apply, mm_apply]
  simp only [round_apply, softplus2_apply, scores_apply, quarter_apply hu]
  rw [← hz s, ← tri_sum (fun j => z (b + j))]
  simp only [hz]
  exact add_assoc _ _ _

theorem walk_apply {u : FVec Ideal S256x256 .bf16} (hu : IsTri u) (q : Fin 4 → B Ideal) (k v : ℕ → Fin 4 → B Ideal) : ∀ (n : ℕ) (b : BitVec 1) (w : W Ideal) (c : Fin 8 → Fin 128 → EReal),
    (∀ h r s, w.2 h (ix2 r s) = c h r) → (b = 1#1 ∨ ∀ h r, c h r = ⊥) → ∀ (h : Fin 8) (r l : Fin 128),
    (walkW q k v (quarter u) n b w).1 h (ix2 r l) = (w.1 h (ix2 r l) + wsum (zrow (q (pOf h)) (fun j => k j (pOf h)) (hOf h.1) r) (vcol (fun j => v j (pOf h)) l) (128 * n) (c h r) : EReal) := by
  intro n
  induction n with
  | zero =>
    intro b w c hw hb h r l
    rw [Nat.mul_zero, wsum_zero]
    exact (add_zero _).symm
  | succ n ih =>
    intro b w c hw hb h r l
    unfold walkW
    rcases hb with rfl | hc
    · rw [if_pos rfl]
      have hz := fun (h : Fin 8) (r : Fin 128) => zrow_at (q (pOf h)) (fun j => k j (pOf h)) (hOf h.1) r n
      have hcar : ∀ (h : Fin 8) (r s : Fin 128), (oldW q (k n) (v n) (quarter u) w).2 h (ix2 r s) = took (zrow (q (pOf h)) (fun j => k j (pOf h)) (hOf h.1) r) (128 * n) + c h r :=
        fun h r s => oldCar_apply (q (pOf h)) (k n (pOf h)) (hOf h.1) (w.2 h) r s (c h r) (hw h r s) _ (128 * n) (hz h r)
      rw [ih _ _ (fun h r => took (zrow (q (pOf h)) (fun j => k j (pOf h)) (hOf h.1) r) (128 * n) + c h r) hcar ?_ h r l]
      · have e : 128 * (n + 1) = 128 * n + 128 := by ring
        rw [e, wsum_step, ← add_assoc]
        refine congrArg (· + _) ?_
        exact oldAcc_apply hu (q (pOf h)) (k n (pOf h)) (v n (pOf h)) (hOf h.1) (w.1 h) (w.2 h) r l (c h r) (hw h r) _ _ (128 * n) (hz h r) (vcol_at (fun j => v j (pOf h)) l n)
      · rcases alive_apply (maxT (oldW q (k n) (v n) (quarter u) w).2) with ha | ha
        · exact .inl ha
        · exact .inr fun h r => (hcar h r 0).symm.trans (maxT_bot _ (ha r 0) h)
    · by_cases hb : b = 1#1
      · rw [if_pos hb]
        have hz := fun (h : Fin 8) (r : Fin 128) => zrow_at (q (pOf h)) (fun j => k j (pOf h)) (hOf h.1) r n
        have hcar : ∀ (h : Fin 8) (r s : Fin 128), (oldW q (k n) (v n) (quarter u) w).2 h (ix2 r s) = (⊥ : EReal) :=
          fun h r s => (oldCar_apply (q (pOf h)) (k n (pOf h)) (hOf h.1) (w.2 h) r s ⊥ ((hw h r s).trans (hc h r)) _ (128 * n) (hz h r)).trans (EReal.add_bot _)
        rw [ih _ _ (fun _ _ => ⊥) hcar (.inr fun _ _ => rfl) h r l, wsum_bot, hc h r, wsum_bot]
        refine congrArg (· + (0 : EReal)) ?_
        refine (oldAcc_apply hu (q (pOf h)) (k n (pOf h)) (v n (pOf h)) (hOf h.1) (w.1 h) (w.2 h) r l ⊥ (fun s => (hw h r s).trans (hc h r)) _ _ (128 * n) (hz h r) (vcol_at (fun j => v j (pOf h)) l n)).trans ?_
        have e : ∀ z V : ℕ → EReal, blk z V (128 * n) ⊥ = 0 := fun z V => Finset.sum_eq_zero fun a _ => by rw [EReal.add_bot, EReal.add_bot, Ideal.exp2_bot, zero_mul]
        rw [e]
        exact add_zero _
      · rw [if_neg hb, hc h r, wsum_bot]
        exact (add_zero _).symm

end
end Cert.KernelIdeal.M
-- ==== Proof.Near.lean ====
module

public import proofs.«01_k».proof.Proof.Rows

@[expose] public section

set_option maxRecDepth 16384

/-!
# The near blocks of a tile, and the whole tile
-/

namespace Cert.KernelIdeal.M
open Idealize.ShloMosaic Idealize.SL.Sem
open Facts₀ Facts
open Cert.Stick
variable [Facts]
noncomputable section

theorem raw_apply (d : Fin 3) (q : B Ideal) (k : ℕ → B Ideal) (hh : Fin 2) (b : ℕ) (hb : b ≤ d.1) (r s : Fin 128) : raw d q k hh b (ix2 r s) = sc q (k b) hh r s := by
  fin_cases d
  · have e : b = 0 := Nat.le_zero.mp hb
    subst e
    exact scores_apply hh q (k 0) r s
  · have e : b = 0 ∨ b = 1 := by have : b ≤ 1 := hb; omega
    rcases e with rfl | rfl
    · show raw 1 q k hh 0 (ix2 r s) = _
      simp only [raw, if_true]
      pointwise [stack2]
      refine (head_sum hh q r _).trans ?_
      have e1 : s.1 / 128 = 0 := by omega
      have e2 : ∀ h, (⟨s.1 % 128, h⟩ : Fin 128) = s := fun h => Fin.ext (by show s.1 % 128 = s.1; omega)
      simp only [e1, e2]; rfl
    · show raw 1 q k hh 1 (ix2 r s) = _
      simp only [raw, one_ne_zero, if_false, if_true]
      pointwise [stack2]
      refine (head_sum hh q r _).trans ?_
      have e1 : (128 + s.1) / 128 = 1 := by omega
      have e2 : ∀ h, (⟨(128 + s.1) % 128, h⟩ : Fin 128) = s := fun h => Fin.ext (by show (128 + s.1) % 128 = s.1; omega)
      simp only [e1, e2]; rfl
  · have e : b = 0 ∨ b = 1 ∨ b = 2 := by have : b ≤ 2 := hb; omega
    rcases e with rfl | rfl | rfl
    · show raw 2 q k hh 0 (ix2 r s) = _
      simp only [raw, if_true]
      pointwise [stack3]
      refine (head_sum hh q r _).trans ?_
      have e1 : s.1 / 128 = 0 := by omega
      have e2 : ∀ h, (⟨s.1 % 128, h⟩ : Fin 128) = s := fun h => Fin.ext (by show s.1 % 128 = s.1; omega)
      simp only [e1, e2]; rfl
    · show raw 2 q k hh 1 (ix2 r s) = _
      simp only [raw, one_ne_zero, if_false, if_true]
      pointwise [stack3]
      refine (head_sum hh q r _).trans ?_
      have e1 : (128 + s.1) / 128 = 1 := by omega
      have e2 : ∀ h, (⟨(128 + s.1) % 128, h⟩ : Fin 128) = s := fun h => Fin.ext (by show (128 + s.1) % 128 = s.1; omega)
      simp only [e1, e2]; rfl
    · show raw 2 q k hh 2 (ix2 r s) = _
      simp only [raw, OfNat.ofNat_ne_zero, OfNat.ofNat_ne_one, if_false]
      pointwise [stack3]
      refine (head_sum hh q r _).trans ?_
      have e1 : (256 + s.1) / 128 = 2 := by omega
      have e2 : ∀ h, (⟨(256 + s.1) % 128, h⟩ : Fin 128) = s := fun h => Fin.ext (by show (256 + s.1) % 128 = s.1; omega)
      simp only [e1, e2]; rfl

/-- `Z` holds row `r` of the scores of `d + 1` near blocks, the last one masked, from block `n` on. -/
def Holds (ζ : ℕ → T Ideal) (d n : ℕ) (r : Fin 128) (Z : ℕ → EReal) : Prop :=
  ∀ b, b ≤ d → ∀ s : Fin 128, (if b = d then masked (ζ d) else ζ b) (ix2 r s) = Z (128 * (n + b) + s.1)

theorem col_apply {ζ : ℕ → T Ideal} {d n : ℕ} {r : Fin 128} {Z : ℕ → EReal} (h : Holds ζ d n r Z) :
    ∀ m, m ≤ d → col ζ d m (ix2 r 0) = tail Z (128 * (n + (d - m))) (128 * (n + d + 1)) := by
  intro m
  induction m with
  | zero =>
    intro _
    have e : col ζ d 0 (ix2 r 0) = (0 - ∑ j : Fin 128, sp2 (masked (ζ d) (ix2 r j)) : EReal) := by
      unfold col
      refine (subf_apply _ _ _).trans ?_
      rw [rowSum_apply]
      simp only [softplus2_apply]
      refine congrArg (fun t : EReal => t - _) ?_
      exact Ideal.ofBits_zero_f32
    have hd := h d (Nat.le_refl _)
    simp only [if_true] at hd
    rw [e, sub_eq_add_neg, neg_sum_sp2, zero_add]
    simp only [hd]
    rw [took_sum, Nat.sub_zero, took_eq]
    rfl
  | succ m ih =>
    intro hm
    have e : col ζ d (m + 1) (ix2 r 0) = (col ζ d m (ix2 r 0) - ∑ j : Fin 128, sp2 (ζ (d - 1 - m) (ix2 r j)) : EReal) := by
      conv_lhs => unfold col
      refine (subf_apply _ _ _).trans ?_
      rw [rowSum_apply]
      simp only [softplus2_apply]
      rfl
    have hd := h (d - 1 - m) (by omega)
    have hne : ¬ d - 1 - m = d := by omega
    simp only [if_neg hne] at hd
    rw [e, ih (by omega), sub_eq_add_neg, neg_sum_sp2]
    simp only [hd]
    have e1 : d - (m + 1) = d - 1 - m := by omega
    have e2 : 128 * (n + (d - m)) = 128 * (n + (d - 1 - m)) + 128 := by omega
    rw [took_sum, e1, e2, took_eq, add_comm, ← tail_append Z (Nat.le_add_right _ _) (by omega)]

theorem zf_apply {ζ : ℕ → T Ideal} {d n : ℕ} {r : Fin 128} {Z : ℕ → EReal} (h : Holds ζ d n r Z) (b : ℕ) (hb : b ≤ d) (s : Fin 128) :
    zf ζ d b (ix2 r s) = (Z (128 * (n + b) + s.1) + tail Z (128 * (n + b + 1)) (128 * (n + d + 1)) : EReal) := by
  have hs := h b hb s
  unfold zf
  by_cases e : b = d
  · subst e
    rw [if_pos rfl] at hs ⊢
    rw [tail_self, hs]
    exact (add_zero _).symm
  · rw [if_neg e] at hs ⊢
    refine (addf_apply _ _ _).trans ?_
    rw [hs, wide_apply, col_apply h _ (by omega)]
    have e1 : n + (d - (d - 1 - b)) = n + b + 1 := by omega
    rw [e1]
    rfl

theorem spf_apply {ζ : ℕ → T Ideal} {d n : ℕ} {r : Fin 128} {Z : ℕ → EReal} (h : Holds ζ d n r Z) (b : ℕ) (hb : b ≤ d) (s : Fin 128) :
    spf ζ d b (ix2 r s) = sp2 (Z (128 * (n + b) + s.1)) := by
  unfold spf
  rw [round_apply, softplus2_apply, h b hb s]

theorem quad_apply {φ : FTy} (X : Fin 6 → Fin 4 → FVec Ideal S128x128 φ) (b : Fin 3) (c : Fin 2) (hh e : Fin 2) (r s : Fin 128) :
    quad X b c (ix2 ⟨128 * hh.1 + r.1, by omega⟩ ⟨128 * e.1 + s.1, by omega⟩) = X ⟨2 * b.1 + hh.1, by omega⟩ ⟨2 * c.1 + e.1, by omega⟩ (ix2 r s) := by
  have e1 : (128 * hh.1 + r.1) / 128 = hh.1 := by omega
  have e2 : (128 * e.1 + s.1) / 128 = e.1 := by omega
  have e3 : (128 * hh.1 + r.1) % 128 = r.1 := by omega
  have e4 : (128 * e.1 + s.1) % 128 = s.1 := by omega
  show X ⟨2 * b.1 + (128 * hh.1 + r.1) / 128, _⟩ ⟨2 * c.1 + (128 * e.1 + s.1) / 128, _⟩ (ix2 ⟨(128 * hh.1 + r.1) % 128, _⟩ ⟨(128 * e.1 + s.1) % 128, _⟩) = _
  simp only [e1, e2, e3, e4]

theorem tri_two {u : FVec Ideal S256x256 .bf16} (hu : IsTri u) (e : Fin 2) (s : Fin 128) (f : Fin 256 → EReal) :
    ∑ x : Fin 256, f x * (u (ix2 x ⟨128 * e.1 + s.1, by omega⟩) : EReal) = ∑ x : Fin 128, f ⟨128 * e.1 + x.1, by omega⟩ * if s.1 ≤ x.1 then (-1 : EReal) else 0 := by
  rw [Fin.sum_univ_two_halves 128 128 rfl]
  have h1 : ∀ x : Fin 128, (u (ix2 ⟨x.1, by omega⟩ ⟨128 * e.1 + s.1, by omega⟩) : EReal) = if e.1 = 0 ∧ s.1 ≤ x.1 then (-1 : EReal) else 0 := fun x => by
    refine (hu _ _).trans (if_congr ?_ rfl rfl)
    dsimp only
    omega
  have h2 : ∀ x : Fin 128, (u (ix2 ⟨128 + x.1, by omega⟩ ⟨128 * e.1 + s.1, by omega⟩) : EReal) = if e.1 = 1 ∧ s.1 ≤ x.1 then (-1 : EReal) else 0 := fun x => by
    refine (hu _ _).trans (if_congr ?_ rfl rfl)
    dsimp only
    omega
  simp only [h1, h2]
  fin_cases e
  · simp
  · simp

theorem half_near {u : FVec Ideal S256x256 .bf16} (hu : IsTri u) (d : Fin 3) (q : Fin 4 → B Ideal) (k : ℕ → Fin 4 → B Ideal) (b : Fin 3) (hb : b.1 ≤ d.1) (p : Fin 4) (hh : Fin 2) (r s : Fin 128)
    {n : ℕ} {Z : ℕ → EReal} (h : Holds (raw d (q p) (fun i => k i p) hh) d.1 n r Z) :
    half (nearA d q k u b) p (ix2 ⟨128 * hh.1 + r.1, by omega⟩ s) =
      Ideal.exp2 (Z (128 * (n + b.1) + s.1) + (tail (fun j => Z (128 * (n + b.1) + j)) s.1 128 + tail Z (128 * (n + b.1 + 1)) (128 * (n + d.1 + 1)))) := by
  have hx : (⟨2 * b.1 + hh.1, by omega⟩ : Fin 6).1 / 2 = b.1 := by show (2 * b.1 + hh.1) / 2 = b.1; omega
  have hho : hOf (⟨2 * b.1 + hh.1, by omega⟩ : Fin 6).1 = hh := Fin.ext (by show (2 * b.1 + hh.1) % 2 = hh.1; omega)
  have hp : (⟨2 * (⟨p.1 / 2, by omega⟩ : Fin 2).1 + (⟨p.1 % 2, by omega⟩ : Fin 2).1, by dsimp only; omega⟩ : Fin 4) = p := Fin.ext (by show 2 * (p.1 / 2) + p.1 % 2 = p.1; omega)
  have hz := fun s : Fin 128 => quad_apply (fun x p => zf (raw d (q p) (fun i => k i p) (hOf x.1)) d (x.1 / 2)) b ⟨p.1 / 2, by omega⟩ hh ⟨p.1 % 2, by omega⟩ r s
  have hs := fun s : Fin 128 => quad_apply (fun x p => spf (raw d (q p) (fun i => k i p) (hOf x.1)) d (x.1 / 2)) b ⟨p.1 / 2, by omega⟩ hh ⟨p.1 % 2, by omega⟩ r s
  simp only [hx, hho, hp, zf_apply h b.1 hb, spf_apply h b.1 hb] at hz hs
  show nearA d q k u b ⟨p.1 / 2, by omega⟩ (ix2 ⟨128 * hh.1 + r.1, by omega⟩ ⟨128 * (⟨p.1 % 2, by omega⟩ : Fin 2).1 + s.1, by dsimp only; omega⟩) = _
  unfold nearA
  pointwise []
  rw [tri_two hu ⟨p.1 % 2, by omega⟩ s]
  refine congrArg Ideal.exp2 ?_
  refine (congrArg₂ (fun x y : EReal => x + y) (hz s) (Finset.sum_congr rfl fun x _ => congrArg (· * _) (hs x))).trans ?_
  rw [tri_sum fun j => Z (128 * (n + b.1) + j)]
  ac_rfl

theorem part_near {u : FVec Ideal S256x256 .bf16} (hu : IsTri u) (d : Fin 3) (q : Fin 4 → B Ideal) (k : ℕ → Fin 4 → B Ideal) (b : Fin 3) (hb : b.1 ≤ d.1) (p : Fin 4) (hh : Fin 2) (r l : Fin 128)
    {n : ℕ} {Z V : ℕ → EReal} (h : Holds (raw d (q p) (fun i => k i p) hh) d.1 n r Z) (v : B Ideal) (hv : ∀ s : Fin 128, V (128 * (n + b.1) + s.1) = v (ix2 s l)) :
    part (half (nearA d q k u b) p) v (ix2 ⟨128 * hh.1 + r.1, by omega⟩ l) = blk Z V (128 * (n + b.1)) (tail Z (128 * (n + b.1 + 1)) (128 * (n + d.1 + 1))) := by
  have e : part (half (nearA d q k u b) p) v (ix2 ⟨128 * hh.1 + r.1, by omega⟩ l) = ∑ s : Fin 128, (half (nearA d q k u b) p (ix2 ⟨128 * hh.1 + r.1, by omega⟩ s) : EReal) * v (ix2 s l) := by
    generalize half (nearA d q k u b) p = a
    pointwise [part]
  rw [e, ← blk_sum]
  exact Finset.sum_congr rfl fun s _ => by rw [half_near hu d q k b hb p hh r s h, hv s]

/-- What the near blocks give. -/
theorem xs_apply {u : FVec Ideal S256x256 .bf16} (hu : IsTri u) (d : Fin 3) (q : Fin 4 → B Ideal) (k : ℕ → Fin 4 → B Ideal) (p : Fin 4) (hh : Fin 2) (r l : Fin 128)
    {n : ℕ} {Z V : ℕ → EReal} (h : Holds (raw d (q p) (fun i => k i p) hh) d.1 n r Z) (v : Fin 3 → Fin 4 → B Ideal) (hv : ∀ b : Fin 3, b.1 ≤ d.1 → ∀ s : Fin 128, V (128 * (n + b.1) + s.1) = v b p (ix2 s l)) :
    (xs d (nearA d q k u) v p (ix2 ⟨128 * hh.1 + r.1, by omega⟩ l) + wsum Z V (128 * n) (tail Z (128 * n) (128 * (n + d.1 + 1))) : EReal) = wsum Z V (128 * (n + d.1 + 1)) 0 := by
  have hw := wsum_blocks Z V n (128 * (n + d.1 + 1)) (d.1 + 1) (Nat.le_refl _)
  have e : n + (d.1 + 1) = n + d.1 + 1 := rfl
  rw [e, tail_self] at hw
  rw [hw]
  refine congrArg (· + _) ?_
  have hp := fun (b : Fin 3) (hb : b.1 ≤ d.1) => part_near hu d q k b hb p hh r l h (v b p) (hv b hb)
  fin_cases d
  · refine (hp 0 (Nat.le_refl _)).trans ?_
    rw [Finset.sum_range_one]; rfl
  · refine (addf_apply _ _ _).trans ((congrArg₂ (fun x y : EReal => x + y) (hp 0 (Nat.zero_le _)) (hp 1 (Nat.le_refl _))).trans ?_)
    show _ = ∑ b ∈ Finset.range 2, _
    rw [Finset.sum_range_succ, Finset.sum_range_one]; rfl
  · refine (addf_apply _ _ _).trans ((congrArg₂ (fun x y : EReal => x + y) ((addf_apply _ _ _).trans (congrArg₂ (fun x y : EReal => x + y) (hp 0 (Nat.zero_le _)) (hp 1 (by decide)))) (hp 2 (Nat.le_refl _))).trans ?_)
    show _ = ∑ b ∈ Finset.range 3, _
    rw [Finset.sum_range_succ, Finset.sum_range_succ, Finset.sum_range_one]; rfl

theorem top_apply (x : FVec Ideal S256x128 .f32) (r l : Fin 128) : top x (ix2 r l) = x (ix2 ⟨r.1, by omega⟩ l) := by
  pointwise [top]
theorem bot_apply (x : FVec Ideal S256x128 .f32) (r l : Fin 128) : bot x (ix2 r l) = x (ix2 ⟨128 + r.1, by omega⟩ l) := by
  pointwise [bot]

theorem both_apply (x y : T Ideal) (r l : Fin 128) : both x y (ix2 r l) = if l.1 / 64 = 0 then x (ix2 r l) else y (ix2 r l) := by
  have h := laneOf_apply 0 r l
  show Scalar.select (laneOf 0 (ix2 r l)) (x (ix2 r l)) (y (ix2 r l)) = _
  rw [h]
  by_cases e : l.1 / 64 = 0
  · rw [if_pos e]; exact (if_pos e).symm ▸ rfl
  · rw [if_neg e]; exact (if_neg e).symm ▸ rfl

/-- The scores of a tile's row, the keys from its own on taken out. -/
abbrev zcut (q : B Ideal) (k : ℕ → B Ideal) (hh : Fin 2) (r : Fin 128) (t : ℕ) : ℕ → EReal := Stick.before (zrow q k hh r) t

theorem holds_raw (d : Fin 3) (q : B Ideal) (k : ℕ → B Ideal) (hh : Fin 2) (n : ℕ) (r : Fin 128) :
    Holds (raw d q (fun m => k (n + m)) hh) d.1 n r (zcut q k hh r (128 * (n + d.1) + r.1)) := by
  intro b hb s
  have hr := raw_apply d q (fun m => k (n + m)) hh b hb r s
  have hz := zrow_at q k hh r (n + b) s
  unfold zcut Stick.before
  by_cases e : b = d.1
  · rw [if_pos e, masked_apply]
    subst e
    by_cases hs : s.1 < r.1
    · rw [if_pos hs, if_pos (by omega), hz, hr]
    · rw [if_neg hs, if_neg (by omega)]
  · rw [if_neg e, if_pos (by omega), hz, hr]

/-- The head of a lane. -/
abbrev hL (l : Fin 128) : Fin 2 := ⟨l.1 / 64, by omega⟩

theorem both_rows (x : FVec Ideal S256x128 .f32) (r l : Fin 128) : both (top x) (bot x) (ix2 r l) = x (ix2 ⟨128 * (hL l).1 + r.1, by omega⟩ l) := by
  rw [both_apply, top_apply, bot_apply]
  by_cases e : l.1 / 64 = 0
  · rw [if_pos e]
    have h : (⟨r.1, by omega⟩ : Fin 256) = ⟨128 * (hL l).1 + r.1, by omega⟩ := Fin.ext (by show r.1 = 128 * (l.1 / 64) + r.1; omega)
    rw [h]
  · rw [if_neg e]
    have h : (⟨128 + r.1, by omega⟩ : Fin 256) = ⟨128 * (hL l).1 + r.1, by omega⟩ := Fin.ext (by show 128 + r.1 = 128 * (l.1 / 64) + r.1; omega)
    rw [h]

theorem accs_apply (x : Fin 4 → FVec Ideal S256x128 .f32) (p : Fin 4) (hh : Fin 2) (r l : Fin 128) : accs x (hd p hh) (ix2 r l) = x p (ix2 ⟨128 * hh.1 + r.1, by omega⟩ l) := by
  have hp : pOf (hd p hh) = p := Fin.ext (by show (2 * p.1 + hh.1) / 2 = p.1; omega)
  unfold accs
  rw [hp]
  fin_cases hh
  · rw [if_pos (by show (2 * p.1 + 0) % 2 = 0; omega), top_apply]
    refine congrArg (fun y => x p (ix2 y l)) (Fin.ext ?_)
    show r.1 = 128 * 0 + r.1
    omega
  · rw [if_neg (by show ¬ (2 * p.1 + 1) % 2 = 0; omega), bot_apply]
    rfl

theorem outO_apply (a : Fin 8 → T Ideal) (p : Fin 4) (r l : Fin 128) : outO a p (ix2 r l) = a (hd p (hL l)) (ix2 r l) := by
  unfold outO
  rw [both_apply]
  by_cases e : l.1 / 64 = 0
  · rw [if_pos e, show hL l = 0 from Fin.ext e]
  · rw [if_neg e, show hL l = 1 from Fin.ext (by show l.1 / 64 = 1; omega)]

theorem goes_of {n : ℕ} (h0 : 0 < n) (hn : n ≤ 32) : goes (jw n) 1#1 = 1#1 := by
  have h : ∀ m : Fin 33, 0 < m.1 → goes (jw m.1) 1#1 = 1#1 := by decide +kernel
  exact h ⟨n, by omega⟩ h0

theorem doneO_apply {u : FVec Ideal S256x256 .bf16} (hu : IsTri u) (q : Fin 4 → B Ideal) (k v : ℕ → Fin 4 → B Ideal) (n : ℕ) (hn : n ≤ 32) (live : BitVec 1) (x : Fin 4 → FVec Ideal S256x128 .f32)
    (car : Fin 8 → T Ideal) (c : Fin 8 → Fin 128 → EReal) (hc : ∀ h r s, car h (ix2 r s) = c h r) (hb : live = 1#1 ∨ ∀ h r, c h r = ⊥) (p : Fin 4) (r l : Fin 128) :
    doneO q k v (quarter u) n live x car p (ix2 r l) =
      (x p (ix2 ⟨128 * (hL l).1 + r.1, by omega⟩ l) + wsum (zrow (q p) (fun j => k j p) (hL l) r) (vcol (fun j => v j p) l) (128 * n) (c (hd p (hL l)) r) : EReal) := by
  have hp : pOf (hd p (hL l)) = p := Fin.ext (by show (2 * p.1 + l.1 / 64) / 2 = p.1; omega)
  have hh : hOf (hd p (hL l)).1 = hL l := Fin.ext (by show (2 * p.1 + l.1 / 64) % 2 = l.1 / 64; omega)
  unfold doneO
  by_cases g : goes (jw n) live = 1#1
  · rw [if_pos g, outO_apply, walk_apply hu q k v n live (accs x, car) c hc hb, hp, hh]
    refine congrArg (· + _) ?_
    exact accs_apply x p (hL l) r l
  · rw [if_neg g]
    unfold nearO
    rw [both_rows]
    refine (add_zero _).symm.trans (congrArg (fun t : EReal => (x p (ix2 _ l) : EReal) + t) ?_)
    by_cases h0 : n = 0
    · subst h0
      rw [Nat.mul_zero, wsum_zero]
    · rcases hb with rfl | hb
      · exact absurd (goes_of (Nat.pos_of_ne_zero h0) hn) g
      · rw [hb, wsum_bot]

/-- **A row of a tile of the result**, as the weighted sum of the values before it. -/
theorem tile_apply {u : FVec Ideal S256x256 .bf16} (hu : IsTri u) (q k v : ℕ → Fin 4 → B Ideal) (i : ℕ) (hi : i < 32) (p : Fin 4) (r l : Fin 128) :
    tileOf q k v u i p (ix2 r l) = wsum (zcut (q i p) (fun j => k j p) (hL l) r (128 * i + r.1)) (vcol (fun j => v j p) l) (128 * (i + 1)) 0 := by
  have hv := vcol_at (fun j => v j p) l
  match i, hi with
  | 0, _ =>
    have h := xs_apply hu 0 (q 0) (fun m => k (0 + m)) p (hL l) r l (holds_raw 0 (q 0 p) (fun j => k j p) (hL l) 0 r) ![v 0, v 0, v 0] (V := vcol (fun j => v j p) l)
      (fun b hb s => by have e : b = 0 := Fin.ext (Nat.le_zero.mp hb); subst e; exact hv 0 s)
    rw [Nat.mul_zero, wsum_zero, add_zero] at h
    exact (both_rows _ r l).trans h
  | 1, _ =>
    have h := xs_apply hu 1 (q 1) (fun m => k (0 + m)) p (hL l) r l (holds_raw 1 (q 1 p) (fun j => k j p) (hL l) 0 r) ![v 0, v 1, v 0] (V := vcol (fun j => v j p) l)
      (fun b hb s => by
        have e : b.1 ≤ 1 := hb
        fin_cases b
        · exact hv 0 s
        · exact hv 1 s
        · exact absurd e (by decide))
    rw [Nat.mul_zero, wsum_zero, add_zero] at h
    exact (both_rows _ r l).trans h
  | n + 2, hn =>
    have hh := fun (p : Fin 4) (hh : Fin 2) (r : Fin 128) => holds_raw 2 (q (n + 2) p) (fun j => k j p) hh n r
    have h := xs_apply hu 2 (q (n + 2)) (fun m => k (n + m)) p (hL l) r l (hh p (hL l) r) ![v n, v (n + 1), v (n + 2)] (V := vcol (fun j => v j p) l)
      (fun b _ s => by fin_cases b <;> exact hv _ s)
    have hcol := fun (p : Fin 4) (f : Fin 2) (r : Fin 128) => col_apply (hh p f r) 2 (Nat.le_refl _)
    show doneO _ _ _ _ n _ _ _ p (ix2 r l) = _
    rw [doneO_apply hu (q (n + 2)) k v n (by omega) _ _ _
      (fun h r => tail (zcut (q (n + 2) (pOf h)) (fun j => k j (pOf h)) (hOf h.1) r (128 * (n + 2) + r.1)) (128 * n) (128 * (n + 2 + 1))) ?_ ?_ p r l]
    · refine Eq.trans (congrArg (fun t : EReal => (xs 2 (nearA 2 (q (n + 2)) (fun m => k (n + m)) u) ![v n, v (n + 1), v (n + 2)] p (ix2 ⟨128 * (hL l).1 + r.1, by omega⟩ l) : EReal) + t) ?_) h
      have hp : pOf (hd p (hL l)) = p := Fin.ext (by show (2 * p.1 + l.1 / 64) / 2 = p.1; omega)
      have hf : hOf (hd p (hL l)).1 = hL l := Fin.ext (by show (2 * p.1 + l.1 / 64) % 2 = l.1 / 64; omega)
      rw [hp, hf]
      refine wsum_congr fun j hj => ?_
      unfold zcut Stick.before
      rw [if_pos (by show j < 128 * (n + 2) + r.1; omega)]
    · intro h r s
      unfold nearCar
      rw [wide_apply]
      refine Eq.trans ?_ (hcol (pOf h) (hOf h.1) r)
      pointwise []
    · rcases aliveCol_apply (maxOf (lastCols 2 (q (n + 2)) fun m => k (n + m))) with ha | ha
      · exact .inl ha
      · refine .inr fun h r => ?_
        refine (hcol (pOf h) (hOf h.1) r).symm.trans ?_
        exact maxOf_bot _ (ha r) (pOf h) (hOf h.1)

end
end Cert.KernelIdeal.M
-- ==== Proof.Host.lean ====
module

public import proofs.«01_k».proof.Proof.Frame
public import proofs.«01_k».proof.Proof.Near
public import Idealize.ShloMosaic.Lib.WordCmp

@[expose] public section

set_option maxRecDepth 16384

/-!
# The matrix the host prepares
-/

namespace Cert.KernelIdeal.M
open Idealize.ShloMosaic Idealize.SL.Sem
open Idealize.ShloMosaic.TcCoe
noncomputable section

/-- Division by 128, as the host computes it. -/
def div128 (x : IVec S256x256 32) : IVec S256x256 32 :=
  let d : IVec S256x256 32 := broadcastInDim S256x256 ![] Gen.bcast_S_S256x256 (constantI S_ 32 128#32)
  select (andi (cmpi .ne (signi x) (broadcastInDim S256x256 ![] Gen.bcast_S_S256x256 (signi (constantI S_ 32 128#32))))
      (cmpi .ne (Host.remsi x d) (broadcastInDim S256x256 ![] Gen.bcast_S_S256x256 (constantI S_ 32 0#32))))
    (subi (Host.divsi x d) (broadcastInDim S256x256 ![] Gen.bcast_S_S256x256 (constantI S_ 32 1#32))) (Host.divsi x d)

/-- Where the matrix is −1. -/
def ones : IVec S256x256 1 :=
  andi (cmpi .sge (iotaInDim S256x256 32 0) (iotaInDim S256x256 32 1)) (cmpi .eq (div128 (iotaInDim S256x256 32 0)) (div128 (iotaInDim S256x256 32 1)))

/-- The matrix. -/
def triU : FVec Ideal S256x256 .bf16 :=
  truncf .bf16 (select ones (broadcastInDim S256x256 ![] Gen.bcast_S_S256x256 (constant S_ .f32 0xBF800000#32))
    (broadcastInDim S256x256 ![] Gen.bcast_S_S256x256 (constant S_ .f32 0x00000000#32))) Gen.bitsLt_bf16_f32

theorem word_div : ∀ x : Fin 256, Scalar.select
      (IntOp.andi (IntOp.cmpi CmpIPredicate.ne (if BitVec.ofNat 32 x.1 = 0 then 0 else if (BitVec.ofNat 32 x.1).msb = true then -1 else 1 : BitVec 32) (if 128#32 = 0 then 0 else if (128#32).msb = true then -1 else 1))
        (IntOp.cmpi CmpIPredicate.ne (IntOp.remsi ArithUnit.host (BitVec.ofNat 32 x.1) 128#32) 0#32))
      (IntOp.subi (IntOp.divsi ArithUnit.host (BitVec.ofNat 32 x.1) 128#32) 1#32) (IntOp.divsi ArithUnit.host (BitVec.ofNat 32 x.1) 128#32) = BitVec.ofNat 32 (x.1 / 128) := by
  decide +kernel

theorem div128_row (x y : Fin 256) : div128 (iotaInDim S256x256 32 0) (ix2 x y) = BitVec.ofNat 32 (x.1 / 128) := word_div x
theorem div128_col (x y : Fin 256) : div128 (iotaInDim S256x256 32 1) (ix2 x y) = BitVec.ofNat 32 (y.1 / 128) := word_div y

theorem ones_apply (x y : Fin 256) : ones (ix2 x y) = BitVec.ofBool (decide (x.1 / 128 = y.1 / 128 ∧ y.1 % 128 ≤ x.1 % 128)) := by
  have h : ones (ix2 x y) = IntOp.andi (IntOp.cmpi .sge (BitVec.ofNat 32 x.1) (BitVec.ofNat 32 y.1)) (IntOp.cmpi .eq (div128 (iotaInDim S256x256 32 0) (ix2 x y)) (div128 (iotaInDim S256x256 32 1) (ix2 x y))) := rfl
  have he : ∀ x y : Fin 2, IntOp.cmpi CmpIPredicate.eq (BitVec.ofNat 32 x.1) (BitVec.ofNat 32 y.1) = BitVec.ofBool (decide (x.1 = y.1)) := by decide +kernel
  have hb : ∀ a b : Bool, IntOp.andi (BitVec.ofBool a) (BitVec.ofBool b) = BitVec.ofBool (a && b) := by decide
  have he := he ⟨x.1 / 128, by omega⟩ ⟨y.1 / 128, by omega⟩
  dsimp only at he
  rw [h, div128_row, div128_col, he, WordCmp.cmpi_sge_ofNat (by omega) (by omega), hb, ← Bool.decide_and]
  refine congrArg BitVec.ofBool (decide_eq_decide.mpr ?_)
  omega

theorem ofBits_neg_one : Ideal.ofBits .f32 0xBF800000#32 = (-1 : EReal) := by
  rw [show (-1 : EReal) = ((-(1 : ℝ) : ℝ) : EReal) from (EReal.coe_neg 1).symm]
  simp [Ideal.ofBits, Ideal.ieee, -EReal.coe_mul, -EReal.coe_neg]; norm_num

theorem triU_tri : IsTri triU := by
  intro x y
  have h : triU (ix2 x y) = Scalar.select (ones (ix2 x y)) (Ideal.ofBits .f32 0xBF800000#32) (Ideal.ofBits .f32 0x00000000#32) := rfl
  rw [h, ones_apply, ofBits_neg_one, Ideal.ofBits_zero_f32]
  by_cases e : x.1 / 128 = y.1 / 128 ∧ y.1 % 128 ≤ x.1 % 128
  · rw [decide_eq_true e, if_pos e]; rfl
  · rw [decide_eq_false e, if_neg e]; rfl

set_option maxHeartbeats 1600000 in
theorem host_tri (m : (ℓ : Loc nD τ sig) → Buf (Elt Ideal) ℓ) (c : Dev nD) : IsTri (V m c main_v8) := by
  refine (?_ : V m c main_v8 = triU) ▸ triU_tri
  unfold V
  simp only [hostOps, List.flatten_cons, List.flatten_nil, List.cons_append, List.nil_append]
  after_results
  rfl

end
end Cert.KernelIdeal.M
-- ==== Proof.Value.lean ====
module

public import proofs.«01_k».proof.Proof.Host

@[expose] public section

set_option maxRecDepth 16384

/-!
# The array the call leaves
-/

namespace Cert.KernelIdeal.M
open Idealize.ShloMosaic Idealize.SL.Sem
open Idealize.ShloMosaic.TcCoe
open Idealize.ShloMosaic.Pipeline (Dat)
open Cert.KernelIdeal.Gen
open Cert.Stick
noncomputable section

/-- The scores of query row `s` of head `h` in batch row `b`. -/
def zAt (q k : FVec Ideal S8x4096x1024 .bf16) (b : Fin 8) (h : Fin 16) (s : Fin 4096) (a : ℕ) : EReal :=
  ∑ d : Fin 64, q (ix3 b s ⟨64 * h.1 + d.1, by omega⟩) * k (ix3 b ⟨a % 4096, Nat.mod_lt _ (by decide)⟩ ⟨64 * h.1 + d.1, by omega⟩)
/-- A lane of the values of batch row `b`. -/
def vAt (v : FVec Ideal S8x4096x1024 .bf16) (b : Fin 8) (e : Fin 1024) (a : ℕ) : EReal := v (ix3 b ⟨a % 4096, Nat.mod_lt _ (by decide)⟩ e)

/-- The array the call leaves. -/
def attnAt (q k v : FVec Ideal S8x4096x1024 .bf16) : FVec Ideal S8x4096x1024 .bf16 := fun y =>
  wsum (zAt q k (y 0) ⟨(y 2).1 / 64, by have : (y 2).1 < 1024 := (y 2).2; omega⟩ (y 1)) (vAt v (y 0) (y 2)) (y 1).1 0

theorem idx : ∀ t : Fin (cfg0 (F := Ideal)).N, win0_0.index t = ![t.val / 2, 0, t.val % 2] ∧ win0_1.index t = ![t.val / 2, 0, t.val % 2] ∧ win0_2.index t = ![t.val / 2, 0, t.val % 2]
    ∧ win0_3.index t = ![0, 0] ∧ win0_4.index t = ![t.val / 2, 0, t.val % 2] := (by decide +kernel : ∀ t : Fin grid0.N, _)

variable (m : (ℓ : Loc nD τ sig) → Buf (Elt Ideal) ℓ) (c : Dev nD)

theorem blkQ_apply (t : Fin (cfg0 (F := Ideal)).N) (ht : t.1 < 16) (s : Fin 4096) (e : Fin 512) :
    blkQ m c t (ix3 0 s e) = (m ((c.tc : Thread nD τ).loc main_arg0) : FVec Ideal S8x4096x1024 .bf16) (ix3 ⟨t.1 / 2, by omega⟩ s ⟨512 * (t.1 % 2) + e.1, by omega⟩) := by
  unfold blkQ
  rw [main_same_buf m c main_arg0 (.inl rfl)]
  blk_ext [idx t]
theorem blkK_apply (t : Fin (cfg0 (F := Ideal)).N) (ht : t.1 < 16) (s : Fin 4096) (e : Fin 512) :
    blkK m c t (ix3 0 s e) = (m ((c.tc : Thread nD τ).loc main_arg1) : FVec Ideal S8x4096x1024 .bf16) (ix3 ⟨t.1 / 2, by omega⟩ s ⟨512 * (t.1 % 2) + e.1, by omega⟩) := by
  unfold blkK
  rw [main_same_buf m c main_arg1 (.inr (.inl rfl))]
  blk_ext [idx t]
theorem blkV_apply (t : Fin (cfg0 (F := Ideal)).N) (ht : t.1 < 16) (s : Fin 4096) (e : Fin 512) :
    blkV m c t (ix3 0 s e) = (m ((c.tc : Thread nD τ).loc main_arg2) : FVec Ideal S8x4096x1024 .bf16) (ix3 ⟨t.1 / 2, by omega⟩ s ⟨512 * (t.1 % 2) + e.1, by omega⟩) := by
  unfold blkV
  rw [main_same_buf m c main_arg2 (.inr (.inr rfl))]
  blk_ext [idx t]
theorem blkU_apply (t : Fin (cfg0 (F := Ideal)).N) : blkU m c t = V m c main_v8 := by
  funext y
  unfold blkU
  blk_ext [idx t]

/-- The arguments, as numbers. -/
abbrev argQ : FVec Ideal S8x4096x1024 .bf16 := m ((c.tc : Thread nD τ).loc main_arg0)
abbrev argK : FVec Ideal S8x4096x1024 .bf16 := m ((c.tc : Thread nD τ).loc main_arg1)
abbrev argV : FVec Ideal S8x4096x1024 .bf16 := m ((c.tc : Thread nD τ).loc main_arg2)

theorem tileQ_apply (t : Fin (cfg0 (F := Ideal)).N) (ht : t.1 < 16) (i : ℕ) (hi : i < 32) (p : Fin 4) (r l : Fin 128) :
    tilesB (blkQ m c t) i p (ix2 r l) = argQ m c (ix3 ⟨t.1 / 2, by omega⟩ ⟨128 * i + r.1, by omega⟩ ⟨512 * (t.1 % 2) + (128 * p.1 + l.1), by omega⟩) := by
  refine (blkQ_apply m c t ht ⟨128 * (i % 32) + r.1, by omega⟩ ⟨128 * p.1 + l.1, by omega⟩).trans ?_
  have e : i % 32 = i := Nat.mod_eq_of_lt hi
  simp only [e]
theorem tileK_apply (t : Fin (cfg0 (F := Ideal)).N) (ht : t.1 < 16) (i : ℕ) (hi : i < 32) (p : Fin 4) (r l : Fin 128) :
    tilesB (blkK m c t) i p (ix2 r l) = argK m c (ix3 ⟨t.1 / 2, by omega⟩ ⟨128 * i + r.1, by omega⟩ ⟨512 * (t.1 % 2) + (128 * p.1 + l.1), by omega⟩) := by
  refine (blkK_apply m c t ht ⟨128 * (i % 32) + r.1, by omega⟩ ⟨128 * p.1 + l.1, by omega⟩).trans ?_
  have e : i % 32 = i := Nat.mod_eq_of_lt hi
  simp only [e]
theorem tileV_apply (t : Fin (cfg0 (F := Ideal)).N) (ht : t.1 < 16) (i : ℕ) (hi : i < 32) (p : Fin 4) (r l : Fin 128) :
    tilesB (blkV m c t) i p (ix2 r l) = argV m c (ix3 ⟨t.1 / 2, by omega⟩ ⟨128 * i + r.1, by omega⟩ ⟨512 * (t.1 % 2) + (128 * p.1 + l.1), by omega⟩) := by
  refine (blkV_apply m c t ht ⟨128 * (i % 32) + r.1, by omega⟩ ⟨128 * p.1 + l.1, by omega⟩).trans ?_
  have e : i % 32 = i := Nat.mod_eq_of_lt hi
  simp only [e]

theorem row_at (t : Fin (cfg0 (F := Ideal)).N) (ht : t.1 < 16) (i : ℕ) (hi : i < 32) (p : Fin 4) (hh : Fin 2) (r : Fin 128) (a : ℕ) (ha : a < 4096) :
    zrow (tilesB (blkQ m c t) i p) (fun j => tilesB (blkK m c t) j p) hh r a
      = zAt (argQ m c) (argK m c) ⟨t.1 / 2, by omega⟩ ⟨8 * (t.1 % 2) + (2 * p.1 + hh.1), by omega⟩ ⟨128 * i + r.1, by omega⟩ a := by
  unfold zrow sc zAt
  refine Finset.sum_congr rfl fun d _ => ?_
  beta_reduce
  rw [tileQ_apply m c t ht i hi, tileK_apply m c t ht (a / 128) (by omega)]
  have e1 : 512 * (t.1 % 2) + (128 * p.1 + (64 * hh.1 + d.1)) = 64 * (8 * (t.1 % 2) + (2 * p.1 + hh.1)) + d.1 := by ring
  have e2 : 128 * (a / 128) + a % 128 = a % 4096 := by omega
  simp only [ln, e1, e2]

theorem col_at (t : Fin (cfg0 (F := Ideal)).N) (ht : t.1 < 16) (p : Fin 4) (l : Fin 128) (a : ℕ) (ha : a < 4096) :
    vcol (fun j => tilesB (blkV m c t) j p) l a = vAt (argV m c) ⟨t.1 / 2, by omega⟩ ⟨512 * (t.1 % 2) + (128 * p.1 + l.1), by omega⟩ a := by
  unfold vcol vAt
  beta_reduce
  rw [tileV_apply m c t ht (a / 128) (by omega)]
  have e2 : 128 * (a / 128) + a % 128 = a % 4096 := by omega
  simp only [e2]

theorem tile_value (t : Fin (cfg0 (F := Ideal)).N) (ht : t.1 < 16) (i : ℕ) (hi : i < 32) (p : Fin 4) (r l : Fin 128) :
    tileOf (tilesB (blkQ m c t)) (tilesB (blkK m c t)) (tilesB (blkV m c t)) (blkU m c t) i p (ix2 r l)
      = attnAt (argQ m c) (argK m c) (argV m c) (ix3 ⟨t.1 / 2, by omega⟩ ⟨128 * i + r.1, by omega⟩ ⟨512 * (t.1 % 2) + (128 * p.1 + l.1), by omega⟩) := by
  have hu : IsTri (blkU m c t) := blkU_apply m c t ▸ host_tri m c
  rw [tile_apply hu _ _ _ i hi, zcut, wsum_cut _ _ (by omega : 128 * i + r.1 ≤ 128 * (i + 1))]
  unfold attnAt
  have e : (⟨(512 * (t.1 % 2) + (128 * p.1 + l.1)) / 64, by omega⟩ : Fin 16) = ⟨8 * (t.1 % 2) + (2 * p.1 + (hL l).1), by omega⟩ :=
    Fin.ext (by show (512 * (t.1 % 2) + (128 * p.1 + l.1)) / 64 = 8 * (t.1 % 2) + (2 * p.1 + l.1 / 64); omega)
  show _ = wsum (zAt _ _ _ ⟨(512 * (t.1 % 2) + (128 * p.1 + l.1)) / 64, _⟩ _) _ (128 * i + r.1) 0
  rw [e]
  refine (wsum_congr fun a ha => row_at m c t ht i hi p (hL l) r a (by omega)).trans ?_
  exact Finset.sum_congr rfl fun a ha => congrArg _ (col_at m c t ht p l a (by have := Finset.mem_range.mp ha; omega))

theorem point (t : Fin (cfg0 (F := Ideal)).N) (ht : t.1 < 16) (s : Fin 4096) (e : Fin 512) :
    blockOut (blkQ m c t) (blkK m c t) (blkV m c t) (blkU m c t) (ix3 0 s e)
      = attnAt (argQ m c) (argK m c) (argV m c) (ix3 ⟨t.1 / 2, by omega⟩ s ⟨512 * (t.1 % 2) + e.1, by omega⟩) := by
  refine (tile_value m c t ht (s.1 / 128) (by omega) ⟨e.1 / 128, by omega⟩ ⟨s.1 % 128, by omega⟩ ⟨e.1 % 128, by omega⟩).trans ?_
  have e1 : 128 * (s.1 / 128) + s.1 % 128 = s.1 := by omega
  have e2 : 128 * (e.1 / 128) + e.1 % 128 = e.1 := by omega
  simp only [e1, e2]

/-- **The array the call leaves.** -/
theorem final : (dats m 0 c).arrAt 4 (cfg0 (F := Ideal)).N = attnAt (argQ m c) (argK m c) (argV m c) := by
  refine (dats m 0 c).arrAt_eq_of_covers 4 _ (by decide +kernel) fun t hf y => ?_
  have ht : t.1 < 16 := t.2
  blk_simp [idx t]
  idx_vars y
  refine (point m c t ht _ _).trans ?_
  blk_ext [idx t]

end
end Cert.KernelIdeal.M
-- ==== Proof.RefValue.lean ====
module

public import proofs.«01_k».proof.Proof.Reference
public import proofs.«01_k».proof.Proof.Value
public import Idealize.ShloMosaic.Lib.WordCmp

@[expose] public section

set_option maxRecDepth 16384

/-!
# The array the reference computes, element by element
-/

namespace Cert.ReferenceIdeal.M
open Idealize.ShloMosaic Idealize.SL.Sem
open Cert.Stick
open Cert.KernelIdeal.M (zAt vAt attnAt)
noncomputable section

/-! ## The running sum of a row -/

theorem foldl_add {ι : Type} (g : ι → EReal) : ∀ (l : List ι) (v : EReal), l.foldl (fun r n => r + g n) v = v + (l.map g).sum
  | [], v => (add_zero v).symm
  | a :: l, v => by rw [List.foldl_cons, foldl_add g l, List.map_cons, List.sum_cons, add_assoc]

/-- A sum over a row's window, which ends with the row. -/
theorem sum_window (X : ℕ → EReal) (a : ℕ) : ∑ e : Fin 4096, (if a + e.1 < 4096 then X (a + e.1) else 0) = ∑ j ∈ Finset.Ico a 4096, X j := by
  rw [Finset.sum_Ico_eq_sum_range, Fin.sum_univ_eq_sum_range (fun e => if a + e < 4096 then X (a + e) else 0)]
  rw [← Finset.sum_subset (Finset.range_subset_range.mpr (Nat.sub_le 4096 a))
    (fun e _ he => if_neg (by rw [Finset.mem_range] at he; omega))]
  exact Finset.sum_congr rfl fun e he => if_pos (by rw [Finset.mem_range] at he; omega)

/-- The sums of a row from each place to its end. -/
def cum (x : FVec Ideal S8x16x4096x4096 .f32) : FVec Ideal S8x16x4096x4096 .f32 :=
  Host.reduceWindowAdd ![1, 1, 1, 4096] ![1, 1, 1, 1] ![0, 0, 0, 0] ![0, 0, 0, 4095] x (broadcastInDim S_ ![] Gen.bcast_S_S_ (constant S_ .f32 0x00000000#32))
    Gen.reduceWindows_S8x16x4096x4096_S8x16x4096x4096_w1s1p0_0_w1s1p0_0_w1s1p0_0_w4096s1p0_4095 Gen.h_S_

/-- A window's sum: the initial value, once, and the window's elements. -/
theorem windowAdd_apply {s t u : Shape} {φ : FTy} (window strides lo hi : Fin s.rank → ℕ) (x : FVec Ideal s φ) (init : FVec Ideal u φ)
    (h : s.ReduceWindows window strides lo hi t) (hu : 0 < u.numel) (j : t.Idx) :
    Host.reduceWindowAdd window strides lo hi x init h hu j = (init (Shape.Idx.first hu) : EReal) + ∑ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else init (Shape.Idx.first hu) : EReal) := by
  let W : Shape := ⟨s.rank, window⟩
  let g : W.Idx → EReal := fun w =>
    if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else init (Shape.Idx.first hu)
  have h1 : Host.reduceWindowAdd window strides lo hi x init h hu j = (List.finRange W.numel).foldl (fun r n => r + g (W.rowMajor.symm n)) (init (Shape.Idx.first hu)) := by
    show Ideal.hostReduceWindowAdd window strides lo hi h x (init (Shape.Idx.first hu)) j = _
    unfold Ideal.hostReduceWindowAdd Host.reduceWindow
    refine congrArg (fun f => List.foldl f _ _) (funext fun r => funext fun n => congrArg (r + ·) ?_)
    by_cases hin : ∀ a : Fin s.rank, lo a ≤ (j (a.cast h.1.symm)).val * strides a + (W.rowMajor.symm n a).val ∧ (j (a.cast h.1.symm)).val * strides a + (W.rowMajor.symm n a).val - lo a < s.size a
    · refine (dif_pos hin).trans ?_
      simp only [g]
      rw [dif_pos hin]
    · refine (dif_neg hin).trans ?_
      simp only [g]
      rw [dif_neg hin]
  rw [h1, foldl_add (fun n => g (W.rowMajor.symm n)), ← Fin.sum_univ_def, Equiv.sum_comp W.rowMajor.symm g]

/-- Sums to the end of the last axis. -/
theorem rows_sum {n0 n1 n2 n m : ℕ} (x : FVec Ideal ⟨4, ![n0, n1, n2, n]⟩ .f32) (init : FVec Ideal S_ .f32) (h0 : init (Shape.Idx.first Gen.h_S_) = (0 : EReal))
    (H : (⟨4, ![n0, n1, n2, n]⟩ : Shape).ReduceWindows (![1, 1, 1, n] : Fin 4 → ℕ) ![1, 1, 1, 1] ![0, 0, 0, 0] ![0, 0, 0, m] ⟨4, ![n0, n1, n2, n]⟩)
    (b : Fin n0) (h : Fin n1) (s : Fin n2) (a : Fin n) :
    Host.reduceWindowAdd (s := ⟨4, ![n0, n1, n2, n]⟩) ![1, 1, 1, n] ![1, 1, 1, 1] ![0, 0, 0, 0] ![0, 0, 0, m] x init H Gen.h_S_ (ix4 b h s a)
      = ∑ e : Fin n, (if hlt : a.1 + e.1 < n then x (ix4 b h s ⟨a.1 + e.1, hlt⟩) else 0 : EReal) := by
  rw [windowAdd_apply, h0, zero_add]
  refine (sum_idx4 (n0 := 1) (n1 := 1) (n2 := 1) (n3 := n) _).trans ?_
  rw [Fin.sum_univ_one, Fin.sum_univ_one, Fin.sum_univ_one]
  refine Finset.sum_congr rfl fun e _ => ?_
  by_cases hlt : a.1 + e.1 < n
  · rw [dif_pos hlt]
    refine (dif_pos fun i => ?_).trans (congrArg x (funext fun i => Fin.ext ?_))
    · match i with
      | ⟨0, _⟩ => exact ⟨Nat.zero_le _, by show b.1 * 1 + 0 - 0 < n0; omega⟩
      | ⟨1, _⟩ => exact ⟨Nat.zero_le _, by show h.1 * 1 + 0 - 0 < n1; omega⟩
      | ⟨2, _⟩ => exact ⟨Nat.zero_le _, by show s.1 * 1 + 0 - 0 < n2; omega⟩
      | ⟨3, _⟩ => exact ⟨Nat.zero_le _, by show a.1 * 1 + e.1 - 0 < n; omega⟩
    · match i with
      | ⟨0, _⟩ => show b.1 * 1 + 0 - 0 = b.1; omega
      | ⟨1, _⟩ => show h.1 * 1 + 0 - 0 = h.1; omega
      | ⟨2, _⟩ => show s.1 * 1 + 0 - 0 = s.1; omega
      | ⟨3, _⟩ => show a.1 * 1 + e.1 - 0 = a.1 + e.1; omega
  · rw [dif_neg hlt]
    refine dif_neg fun hin => hlt ?_
    have := (hin 3).2
    change a.1 * 1 + e.1 - 0 < n at this
    omega

theorem cum_apply (x : FVec Ideal S8x16x4096x4096 .f32) (b : Fin 8) (h : Fin 16) (s a : Fin 4096) :
    cum x (ix4 b h s a) = ∑ j ∈ Finset.Ico a.1 4096, x (ix4 b h s ⟨j % 4096, Nat.mod_lt _ (by decide)⟩) := by
  rw [← sum_window (fun j => x (ix4 b h s ⟨j % 4096, Nat.mod_lt _ (by decide)⟩))]
  refine (rows_sum x _ (Ideal.ofBits_zero_f32) _ b h s a).trans (Finset.sum_congr rfl fun e _ => ?_)
  by_cases hlt : a.1 + e.1 < 4096
  · rw [dif_pos hlt, if_pos hlt]
    exact congrArg (fun i => x (ix4 b h s i)) (Fin.ext (Nat.mod_eq_of_lt hlt).symm)
  · rw [dif_neg hlt, if_neg hlt]

/-! ## The other steps -/

/-- An argument, head by head. -/
def heads (x : FVec Ideal S8x4096x1024 .bf16) : FVec Ideal S8x16x4096x64 .bf16 :=
  transpose S8x16x4096x64 [0, 2, 1, 3] (shapeCast S8x4096x16x64 x Gen.shapeCasts_S8x4096x1024_S8x4096x16x64) Gen.transposes_S8x4096x16x64_S8x16x4096x64_0_2_1_3

theorem heads_apply (x : FVec Ideal S8x4096x1024 .bf16) (b : Fin 8) (h : Fin 16) (s : Fin 4096) (d : Fin 64) :
    heads x (ix4 b h s d) = x (ix3 b s ⟨64 * h.1 + d.1, by omega⟩) := by
  have e : 64 * h.1 + d.1 = h.1 * 64 + d.1 := by omega
  simp only [e]
  pointwise [heads]

/-- The number everywhere. -/
def fill (w : BitVec 32) : FVec Ideal S8x16x4096x4096 .f32 := broadcastInDim S8x16x4096x4096 ![] Gen.bcast_S_S8x16x4096x4096 (constant S_ .f32 w)

/-- The scores, in natural units. -/
def scores (q k : FVec Ideal S8x4096x1024 .bf16) : FVec Ideal S8x16x4096x4096 .f32 :=
  mulf (Host.dotGeneral dot_S8x16x4096x64_S8x16x4096x64_S8x16x4096x4096_3_3_2_2_01_01 none (heads q) (heads k))
    (broadcastInDim S8x16x4096x4096 ![] Gen.bcast_S_S8x16x4096x4096 (Host.log (constant S_ .f32 0x40000000#32)))

theorem ofBits_two : Ideal.ofBits .f32 0x40000000#32 = ((2 : ℝ) : EReal) := by
  simp [Ideal.ofBits, Ideal.ieee, -EReal.coe_mul, -EReal.coe_neg]; norm_num

theorem log_two : Ideal.log (Ideal.ofBits .f32 0x40000000#32) = ((Real.log 2 : ℝ) : EReal) := by
  rw [ofBits_two, Ideal.log_coe, if_neg (by norm_num)]

theorem scores_apply (q k : FVec Ideal S8x4096x1024 .bf16) (b : Fin 8) (h : Fin 16) (s a : Fin 4096) :
    scores q k (ix4 b h s a) = ((Real.log 2 : ℝ) : EReal) * zAt q k b h s a.1 := by
  have e : (⟨a.1 % 4096, Nat.mod_lt _ (by decide)⟩ : Fin 4096) = a := Fin.ext (Nat.mod_eq_of_lt a.2)
  unfold zAt
  simp only [e]
  pointwise [scores, heads_apply]
  rw [log_two, mul_comm]

/-- Which keys a row sees. -/
def sees : IVec S4096x4096 1 :=
  cmpi .slt (broadcastInDim S4096x4096 ![0, 1] Gen.bcast_S1x4096_S4096x4096_0_1 (broadcastInDim S1x4096 ![1] Gen.bcast_S4096_S1x4096_1 (iotaInDim S4096 32 0)))
    (broadcastInDim S4096x4096 ![0, 1] Gen.bcast_S4096x1_S4096x4096_0_1 (broadcastInDim S4096x1 ![0] Gen.bcast_S4096_S4096x1_0 (iotaInDim S4096 32 0)))

theorem sees_apply (s a : Fin 4096) : sees (ix2 s a) = BitVec.ofBool (decide (a.1 < s.1)) := by
  have h : sees (ix2 s a) = IntOp.cmpi .slt (BitVec.ofNat 32 a.1) (BitVec.ofNat 32 s.1) := rfl
  rw [h, WordCmp.cmpi_slt_ofNat (by omega) (by omega)]

/-- What a row sees, and zero elsewhere. -/
def whereSeen (x : FVec Ideal S8x16x4096x4096 .f32) : FVec Ideal S8x16x4096x4096 .f32 :=
  select (broadcastInDim S8x16x4096x4096 ![2, 3] Gen.bcast_S4096x4096_S8x16x4096x4096_2_3 sees) x (fill 0x00000000#32)

theorem whereSeen_apply (x : FVec Ideal S8x16x4096x4096 .f32) (b : Fin 8) (h : Fin 16) (s a : Fin 4096) :
    whereSeen x (ix4 b h s a) = if a.1 < s.1 then x (ix4 b h s a) else 0 := by
  have e : whereSeen x (ix4 b h s a) = Scalar.select (sees (ix2 s a)) (x (ix4 b h s a)) (Ideal.ofBits .f32 0x00000000#32) := rfl
  rw [e, sees_apply, Ideal.ofBits_zero_f32]
  by_cases hlt : a.1 < s.1 <;> simp [hlt, Scalar.select]

/-- The softplus, as the reference writes it. -/
def softplus (x : FVec Ideal S8x16x4096x4096 .f32) : FVec Ideal S8x16x4096x4096 .f32 :=
  select (cmpf .une (subf x (fill 0x00000000#32)) (subf x (fill 0x00000000#32))) (addf x (fill 0x00000000#32))
    (addf (maximumf x (fill 0x00000000#32)) (Host.log1p (Host.exp (Host.negf (Host.absf (subf x (fill 0x00000000#32)))))))

theorem softplus_apply (x : FVec Ideal S8x16x4096x4096 .f32) (y : S8x16x4096x4096.Idx) : softplus x y = spe (x y) := by
  have e : softplus x y = Scalar.select (Ideal.cmp .une (x y - Ideal.ofBits .f32 0x00000000#32) (x y - Ideal.ofBits .f32 0x00000000#32)) (x y + Ideal.ofBits .f32 0x00000000#32)
    (max (x y) (Ideal.ofBits .f32 0x00000000#32) + Ideal.log (1 + Ideal.exp (-max (x y - Ideal.ofBits .f32 0x00000000#32) (-(x y - Ideal.ofBits .f32 0x00000000#32))))) := rfl
  rw [e, Ideal.ofBits_zero_f32, sub_zero]
  simp [Ideal.cmp, Scalar.select, spe]

/-- What each key leaves to the keys before it. -/
def leaves (q k : FVec Ideal S8x4096x1024 .bf16) : FVec Ideal S8x16x4096x4096 .f32 := whereSeen (Host.negf (softplus (scores q k)))

theorem leaves_apply (q k : FVec Ideal S8x4096x1024 .bf16) (b : Fin 8) (h : Fin 16) (s a : Fin 4096) :
    leaves q k (ix4 b h s a) = if a.1 < s.1 then -spe (((Real.log 2 : ℝ) : EReal) * zAt q k b h s a.1) else 0 := by
  unfold leaves
  rw [whereSeen_apply]
  have e : Host.negf (softplus (scores q k)) (ix4 b h s a) = -softplus (scores q k) (ix4 b h s a) := rfl
  rw [e, softplus_apply, scores_apply]

/-- The weights. -/
def weights (q k : FVec Ideal S8x4096x1024 .bf16) : FVec Ideal S8x16x4096x4096 .f32 :=
  whereSeen (Host.exp (addf (Host.negf (softplus (Host.negf (scores q k)))) (subf (cum (leaves q k)) (leaves q k))))

theorem weights_apply (q k : FVec Ideal S8x4096x1024 .bf16) (b : Fin 8) (h : Fin 16) (s a : Fin 4096) :
    weights q k (ix4 b h s a) = if a.1 < s.1 then Ideal.exp (-spe (-(((Real.log 2 : ℝ) : EReal) * zAt q k b h s a.1))
      + ((∑ j ∈ Finset.Ico a.1 4096, if j < s.1 then -spe (((Real.log 2 : ℝ) : EReal) * zAt q k b h s j) else 0) - -spe (((Real.log 2 : ℝ) : EReal) * zAt q k b h s a.1))) else 0 := by
  unfold weights
  rw [whereSeen_apply]
  by_cases hlt : a.1 < s.1
  · rw [if_pos hlt, if_pos hlt]
    have e : Host.exp (addf (Host.negf (softplus (Host.negf (scores q k)))) (subf (cum (leaves q k)) (leaves q k))) (ix4 b h s a)
        = Ideal.exp (-softplus (Host.negf (scores q k)) (ix4 b h s a) + (cum (leaves q k) (ix4 b h s a) - leaves q k (ix4 b h s a))) := rfl
    have e' : Host.negf (scores q k) (ix4 b h s a) = -scores q k (ix4 b h s a) := rfl
    rw [e, softplus_apply, e', scores_apply, cum_apply, leaves_apply, if_pos hlt]
    refine congrArg (fun r : EReal => Ideal.exp (-spe (-(((Real.log 2 : ℝ) : EReal) * zAt q k b h s a.1)) + (r - -spe (((Real.log 2 : ℝ) : EReal) * zAt q k b h s a.1)))) ?_
    refine Finset.sum_congr rfl fun j hj => ?_
    have hm : j % 4096 = j := Nat.mod_eq_of_lt (Finset.mem_Ico.mp hj).2
    rw [leaves_apply]
    simp only [hm]
  · rw [if_neg hlt, if_neg hlt]

/-- The result. -/
def out (q k v : FVec Ideal S8x4096x1024 .bf16) : FVec Ideal S8x4096x1024 .bf16 :=
  truncf .bf16 (shapeCast S8x4096x1024 (transpose S8x4096x16x64 [0, 2, 1, 3]
    (Host.dotGeneral dot_S8x16x4096x4096_S8x16x4096x64_S8x16x4096x64_3_2_2_3_01_01 none (weights q k) (extf .f32 (heads v) Gen.bitsLt_bf16_f32))
    Gen.transposes_S8x16x4096x64_S8x4096x16x64_0_2_1_3) Gen.shapeCasts_S8x4096x16x64_S8x4096x1024) Gen.bitsLt_bf16_f32

theorem out_apply (q k v : FVec Ideal S8x4096x1024 .bf16) (b : Fin 8) (s : Fin 4096) (e : Fin 1024) :
    out q k v (ix3 b s e) = ∑ a : Fin 4096, weights q k (ix4 b ⟨e.1 / 64, by omega⟩ s a) * v (ix3 b a e) := by
  have h : 64 * (e.1 / 64) + e.1 % 64 = e.1 := Nat.div_add_mod _ _
  pointwise [out, heads_apply]
  simp only [h]

/-- **The reference's array is the kernel's.** -/
theorem out_eq (q k v : FVec Ideal S8x4096x1024 .bf16) : out q k v = attnAt q k v := by
  funext y
  obtain ⟨b, s, e, rfl⟩ : ∃ (b : Fin 8) (s : Fin 4096) (e : Fin 1024), y = ix3 b s e := ⟨y 0, y 1, y 2, eq_ix3 y⟩
  rw [out_apply]
  show _ = wsum (zAt q k b ⟨e.1 / 64, by omega⟩ s) (vAt v b e) s.1 0
  refine Eq.trans ?_ (wsum_cut _ (vAt v b e) s.2.le)
  rw [wsum_before _ _ s.2.le, Finset.sum_range]
  refine Finset.sum_congr rfl fun a _ => ?_
  rw [weights_apply]
  have hm : (⟨a.1 % 4096, Nat.mod_lt _ (by decide)⟩ : Fin 4096) = a := Fin.ext (Nat.mod_eq_of_lt a.2)
  unfold vAt
  rw [hm]
end
end Cert.ReferenceIdeal.M
-- ==== Proof.Algebraic.lean ====
module

public import proofs.«01_k».proof.Proof.Reference
public import proofs.«01_k».proof.Proof.Value
public import proofs.«01_k».proof.Proof.RefValue

@[expose] public section

set_option maxRecDepth 16384

/-!
# The kernel's values are the reference's
-/

namespace Cert.KernelIdeal.M
open Idealize.ShloMosaic Idealize.SL.Sem
open Idealize.ShloMosaic.TcCoe
noncomputable section

/-- The call's run, with the array it leaves. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = attnAt (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (run_main m ρ).mono fun r (h : _ ∧ _) c => ?_
  have h0 := ((h.1 c).1 0).trans ((dats m 0 c).arrAt_in 0 rfl _)
  have h1 := ((h.1 c).1 1).trans ((dats m 0 c).arrAt_in 1 rfl _)
  have h2 := ((h.1 c).1 2).trans ((dats m 0 c).arrAt_in 2 rfl _)
  rw [A_eq] at h0 h1 h2
  exact ⟨((h.1 c).1 4).trans (final m c), h0.trans (main_same_buf m c _ (.inl rfl)), h1.trans (main_same_buf m c _ (.inr (.inl rfl))), h2.trans (main_same_buf m c _ (.inr (.inr rfl)))⟩

/-- **The kernel's array is the reference's.** -/
theorem algebraic : Cert.algebraic_KernelIdeal_ReferenceIdeal := by
  intro m g m' g' _ hargs
  refine ⟨_, run_value m g, ?_⟩
  have e (c : Dev nD) : Cert.ReferenceIdeal.M.out (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = attnAt (argQ m c) (argK m c) (argV m c) := by
    rw [Cert.ReferenceIdeal.M.out_eq]
    exact congr (congrArg₂ attnAt (hargs c).1 (hargs c).2.1) (hargs c).2.2
  hlo_run
  · rename_i c
    exact Eq.trans rfl (e c)
  all_goals done
end
end Cert.KernelIdeal.M
-- ==== Proof.Block.lean ====
module

public import proofs.«01_k».proof.Proof.Gen.Kernel2Ideal.Value
public import Idealize.ShloMosaic.Lib.Pipeline.ReadBack
public import Idealize.ShloMosaic.Lib.Pipeline.ValueKit

@[expose] public section

set_option maxRecDepth 16384

/-!
# The last layer's block of rows

A row of the last layer from its attention's output on, and what one grid point's body leaves.
-/

namespace Cert.Mlp
open Idealize.ShloMosaic
noncomputable section

/-- A row divided by the root of its mean square, times a gain. -/
def rms (v g : Fin 1024 → EReal) (j : Fin 1024) : EReal :=
  v j * Ideal.rsqrt (Ideal.div (∑ i, v i * v i) (Ideal.ofBits .f32 0x44800000#32) + Ideal.ofBits .f32 0x358637BD#32) * g j
/-- A row times a matrix. -/
def dotRow {K : ℕ} (v : Fin K → EReal) (w : Fin K → Fin 1024 → EReal) (j : Fin 1024) : EReal := ∑ k, v k * w k j
/-- A row plus the norm of another. -/
def addRms (x v g : Fin 1024 → EReal) (j : Fin 1024) : EReal := x j + rms v g j
/-- The squared positive part of a row times a matrix. -/
def hidden (h : Fin 1024 → EReal) (wu : Fin 1024 → Fin 4096 → EReal) (f : Fin 4096) : EReal :=
  max (∑ k, h k * wu k f) 0 * max (∑ k, h k * wu k f) 0
/-- The row after the attention's output is projected, normed and added. -/
def mixed (x o gm : Fin 1024 → EReal) (wo : Fin 1024 → Fin 1024 → EReal) : Fin 1024 → EReal := addRms x (dotRow o wo) gm
/-- The layer's row. -/
def layerRow (x o gm gp gq : Fin 1024 → EReal) (wo : Fin 1024 → Fin 1024 → EReal) (wu : Fin 1024 → Fin 4096 → EReal)
    (wd : Fin 4096 → Fin 1024 → EReal) : Fin 1024 → EReal :=
  addRms (mixed x o gm wo) (dotRow (hidden (rms (mixed x o gm wo) gp) wu) wd) gq

/-- A sum over 1024 lanes, by four blocks of 256. -/
theorem sum_quarters (f : Fin 1024 → EReal) : ∑ i, f i =
    (∑ x : Fin 256, f ⟨x.1, by omega⟩) + (∑ x : Fin 256, f ⟨256 + x.1, by omega⟩) + (∑ x : Fin 256, f ⟨512 + x.1, by omega⟩)
      + ∑ x : Fin 256, f ⟨768 + x.1, by omega⟩ :=
  (Fin.sum_univ_add (a := 768) (b := 256) f).trans (congrArg (· + _)
    ((Fin.sum_univ_add (a := 512) (b := 256) _).trans (congrArg (· + _) (Fin.sum_univ_add (a := 256) (b := 256) _))))

theorem ofBits_1024 : Ideal.ofBits .f32 0x44800000#32 = ((1024 : ℝ) : EReal) := by
  simp [Ideal.ofBits, Ideal.ieee, -EReal.coe_mul, -EReal.coe_neg]; norm_num
theorem ofBits_inv1024 : Ideal.ofBits .f32 0x3A800000#32 = ((1024⁻¹ : ℝ) : EReal) := by
  simp [Ideal.ofBits, Ideal.ieee, -EReal.coe_mul, -EReal.coe_neg]; norm_num
/-- Multiplying by the reciprocal of 1024 is dividing by 1024. -/
theorem mul_inv1024 (s : EReal) : s * Ideal.ofBits .f32 0x3A800000#32 = Ideal.div s (Ideal.ofBits .f32 0x44800000#32) := by
  rw [ofBits_1024, ofBits_inv1024, Ideal.div_coe (by norm_num), one_div]

end
end Cert.Mlp

namespace Cert.Kernel2Ideal.M
open Idealize.ShloMosaic Idealize.SL.Sem
open Idealize.ShloMosaic.TcCoe
open Idealize.ShloMosaic.Pipeline (Dat)
open Cert.Kernel2Ideal.Gen
open Cert.Mlp
noncomputable section

/-- A row of a block. -/
def row {n : ℕ} {e : FTy} (x : FVec Ideal ⟨2, ![512, n]⟩ e) (t : Fin 512) : Fin n → EReal := fun j => x (ix2 t j)

section Read
variable (Y : FVec Ideal S512x1024 .f32) (A : FVec Ideal S512x4096 .bf16)

theorem emb_cols {r n w o : ℕ} (inb : ∀ a, (![0, o] : Fin 2 → ℕ) a + (![r, w] : Fin 2 → ℕ) a ≤ (![r, n] : Fin 2 → ℕ) a) (t : Fin r) (e : Fin w) (h : o + e.1 < n) :
    (Rect.unit (s := ⟨2, ![r, n]⟩) ![0, o] ![r, w] inb).emb (ix2 t e) = (ix2 t ⟨o + e.1, h⟩ : Shape.Idx ⟨2, ![r, n]⟩) := by
  funext a
  refine Fin.ext ?_
  match a with
  | 0 => simp
  | 1 => simp

/-- Four blocks of columns stored, the whole read back. -/
theorem read_cols (P0 P1 P2 P3 : FVec Ideal S512x256 .f32) (L : List (View.Piece (Elt Ideal) S512x1024 .f32))
    (h0 : ∀ t (e : Fin 256), P0 (ix2 t e) = Y (ix2 t ⟨0 + e.1, by omega⟩)) (h1 : ∀ t (e : Fin 256), P1 (ix2 t e) = Y (ix2 t ⟨256 + e.1, by omega⟩))
    (h2 : ∀ t (e : Fin 256), P2 (ix2 t e) = Y (ix2 t ⟨512 + e.1, by omega⟩)) (h3 : ∀ t (e : Fin 256), P3 (ix2 t e) = Y (ix2 t ⟨768 + e.1, by omega⟩)) :
    (View.whole cc0_scratch1).readCov (Val := Elt Ideal)
      (⟨Rect.unit ![0, 768] ![512, 256] inb_S512x1024_S512x256_0_768, P3⟩ :: ⟨Rect.unit ![0, 512] ![512, 256] inb_S512x1024_S512x256_0_512, P2⟩
        :: ⟨Rect.unit ![0, 256] ![512, 256] inb_S512x1024_S512x256_0_256, P1⟩ :: ⟨Rect.unit ![0, 0] ![512, 256] inb_S512x1024_S512x256_0_0, P0⟩ :: L)
      (Rect.unit ![0, 0] ![512, 1024] inb_S512x1024_S512x1024_0_0).toLoadRect = Y := by
  rw [View.readCov_eq_canon']
  funext j
  obtain ⟨t, e, rfl⟩ : ∃ (t : Fin 512) (e : Fin 1024), j = ix2 t e := ⟨j 0, j 1, eq_ix2 j⟩
  have hj : (Rect.unit (s := S512x1024) ![0, 0] ![512, 1024] inb_S512x1024_S512x1024_0_0).toLoadRect.idx (ix2 t e) = (ix2 t e : S512x1024.Idx) := by
    funext a
    refine Fin.ext ?_
    match a with
    | 0 => simp
    | 1 => simp
  rw [hj]
  refine View.canon_append_of_piecesOf Y L [_, _, _, _] ⟨fun x => ?_, fun x => ?_, fun x => ?_, fun x => ?_, trivial⟩ _ ?_
  · obtain ⟨t, e, rfl⟩ : ∃ (t : Fin 512) (e : Fin 256), x = ix2 t e := ⟨x 0, x 1, eq_ix2 x⟩
    exact (h3 t e).trans (congrArg Y (emb_cols inb_S512x1024_S512x256_0_768 t e _).symm)
  · obtain ⟨t, e, rfl⟩ : ∃ (t : Fin 512) (e : Fin 256), x = ix2 t e := ⟨x 0, x 1, eq_ix2 x⟩
    exact (h2 t e).trans (congrArg Y (emb_cols inb_S512x1024_S512x256_0_512 t e _).symm)
  · obtain ⟨t, e, rfl⟩ : ∃ (t : Fin 512) (e : Fin 256), x = ix2 t e := ⟨x 0, x 1, eq_ix2 x⟩
    exact (h1 t e).trans (congrArg Y (emb_cols inb_S512x1024_S512x256_0_256 t e _).symm)
  · obtain ⟨t, e, rfl⟩ : ∃ (t : Fin 512) (e : Fin 256), x = ix2 t e := ⟨x 0, x 1, eq_ix2 x⟩
    exact (h0 t e).trans (congrArg Y (emb_cols inb_S512x1024_S512x256_0_0 t e _).symm)
  · simp only [List.mem_cons, List.not_mem_nil, or_false, exists_eq_or_imp, exists_eq_left, Rect.mem_set_unit, Fin.forall_fin_two]
    have := e.2; have := t.2
    simp
    omega

/-- Eight blocks of columns stored, the whole read back. -/
theorem read_hidden (P0 P1 P2 P3 P4 P5 P6 P7 : FVec Ideal S512x512 .bf16)
    (h0 : ∀ t (e : Fin 512), P0 (ix2 t e) = A (ix2 t ⟨0 + e.1, by omega⟩)) (h1 : ∀ t (e : Fin 512), P1 (ix2 t e) = A (ix2 t ⟨512 + e.1, by omega⟩))
    (h2 : ∀ t (e : Fin 512), P2 (ix2 t e) = A (ix2 t ⟨1024 + e.1, by omega⟩)) (h3 : ∀ t (e : Fin 512), P3 (ix2 t e) = A (ix2 t ⟨1536 + e.1, by omega⟩))
    (h4 : ∀ t (e : Fin 512), P4 (ix2 t e) = A (ix2 t ⟨2048 + e.1, by omega⟩)) (h5 : ∀ t (e : Fin 512), P5 (ix2 t e) = A (ix2 t ⟨2560 + e.1, by omega⟩))
    (h6 : ∀ t (e : Fin 512), P6 (ix2 t e) = A (ix2 t ⟨3072 + e.1, by omega⟩)) (h7 : ∀ t (e : Fin 512), P7 (ix2 t e) = A (ix2 t ⟨3584 + e.1, by omega⟩)) :
    (View.whole cc0_scratch0).readCov (Val := Elt Ideal)
      [⟨Rect.unit ![0, 3584] ![512, 512] inb_S512x4096_S512x512_0_3584, P7⟩, ⟨Rect.unit ![0, 3072] ![512, 512] inb_S512x4096_S512x512_0_3072, P6⟩,
        ⟨Rect.unit ![0, 2560] ![512, 512] inb_S512x4096_S512x512_0_2560, P5⟩, ⟨Rect.unit ![0, 2048] ![512, 512] inb_S512x4096_S512x512_0_2048, P4⟩,
        ⟨Rect.unit ![0, 1536] ![512, 512] inb_S512x4096_S512x512_0_1536, P3⟩, ⟨Rect.unit ![0, 1024] ![512, 512] inb_S512x4096_S512x512_0_1024, P2⟩,
        ⟨Rect.unit ![0, 512] ![512, 512] inb_S512x4096_S512x512_0_512, P1⟩, ⟨Rect.unit ![0, 0] ![512, 512] inb_S512x4096_S512x512_0_0, P0⟩]
      (Rect.unit ![0, 0] ![512, 4096] inb_S512x4096_S512x4096_0_0).toLoadRect = A := by
  rw [View.readCov_eq_canon']
  funext j
  obtain ⟨t, e, rfl⟩ : ∃ (t : Fin 512) (e : Fin 4096), j = ix2 t e := ⟨j 0, j 1, eq_ix2 j⟩
  have hj : (Rect.unit (s := S512x4096) ![0, 0] ![512, 4096] inb_S512x4096_S512x4096_0_0).toLoadRect.idx (ix2 t e) = (ix2 t e : S512x4096.Idx) := by
    funext a
    refine Fin.ext ?_
    match a with
    | 0 => simp
    | 1 => simp
  rw [hj]
  refine View.canon_append_of_piecesOf (s := S512x4096) (e := .bf16) (Val := Elt Ideal) A [] [_, _, _, _, _, _, _, _] ⟨fun x => ?_, fun x => ?_, fun x => ?_, fun x => ?_, fun x => ?_, fun x => ?_, fun x => ?_, fun x => ?_, trivial⟩ _ ?_
  · obtain ⟨t, e, rfl⟩ : ∃ (t : Fin 512) (e : Fin 512), x = ix2 t e := ⟨x 0, x 1, eq_ix2 x⟩
    exact (h7 t e).trans (congrArg A (emb_cols inb_S512x4096_S512x512_0_3584 t e _).symm)
  · obtain ⟨t, e, rfl⟩ : ∃ (t : Fin 512) (e : Fin 512), x = ix2 t e := ⟨x 0, x 1, eq_ix2 x⟩
    exact (h6 t e).trans (congrArg A (emb_cols inb_S512x4096_S512x512_0_3072 t e _).symm)
  · obtain ⟨t, e, rfl⟩ : ∃ (t : Fin 512) (e : Fin 512), x = ix2 t e := ⟨x 0, x 1, eq_ix2 x⟩
    exact (h5 t e).trans (congrArg A (emb_cols inb_S512x4096_S512x512_0_2560 t e _).symm)
  · obtain ⟨t, e, rfl⟩ : ∃ (t : Fin 512) (e : Fin 512), x = ix2 t e := ⟨x 0, x 1, eq_ix2 x⟩
    exact (h4 t e).trans (congrArg A (emb_cols inb_S512x4096_S512x512_0_2048 t e _).symm)
  · obtain ⟨t, e, rfl⟩ : ∃ (t : Fin 512) (e : Fin 512), x = ix2 t e := ⟨x 0, x 1, eq_ix2 x⟩
    exact (h3 t e).trans (congrArg A (emb_cols inb_S512x4096_S512x512_0_1536 t e _).symm)
  · obtain ⟨t, e, rfl⟩ : ∃ (t : Fin 512) (e : Fin 512), x = ix2 t e := ⟨x 0, x 1, eq_ix2 x⟩
    exact (h2 t e).trans (congrArg A (emb_cols inb_S512x4096_S512x512_0_1024 t e _).symm)
  · obtain ⟨t, e, rfl⟩ : ∃ (t : Fin 512) (e : Fin 512), x = ix2 t e := ⟨x 0, x 1, eq_ix2 x⟩
    exact (h1 t e).trans (congrArg A (emb_cols inb_S512x4096_S512x512_0_512 t e _).symm)
  · obtain ⟨t, e, rfl⟩ : ∃ (t : Fin 512) (e : Fin 512), x = ix2 t e := ⟨x 0, x 1, eq_ix2 x⟩
    exact (h0 t e).trans (congrArg A (emb_cols inb_S512x4096_S512x512_0_0 t e _).symm)
  · simp only [List.mem_cons, List.not_mem_nil, or_false, exists_eq_or_imp, exists_eq_left, Rect.mem_set_unit, Fin.forall_fin_two]
    have := e.2; have := t.2
    simp
    omega
end Read

section Body
variable (x0 : FVec Ideal S512x1024 .f32) (x1 : FVec Ideal S512x1024 .bf16) (x2 : FVec Ideal S1024x1024 .bf16)
  (x3 x4 x5 : FVec Ideal S1x1024 .f32) (x6 : FVec Ideal S1x1024x4096 .bf16) (x7 : FVec Ideal S1x4096x1024 .bf16)

/-- A gain. -/
def vec (g : FVec Ideal S1x1024 .f32) : Fin 1024 → EReal := fun j => g (ix2 0 j)
/-- The output projection's matrix. -/
def mat (w : FVec Ideal S1024x1024 .bf16) : Fin 1024 → Fin 1024 → EReal := fun k j => w (ix2 k j)
/-- A matrix of the layer's two. -/
def mat1 {k n : ℕ} (w : FVec Ideal ⟨3, ![1, k, n]⟩ .bf16) : Fin k → Fin n → EReal := fun i j => w (ix3 0 i j)

/-- The projected attention. -/
def projB : FVec Ideal S512x1024 .f32 := fun y => dotRow (row x1 (y 0)) (mat x2) (y 1)
/-- The rows after the attention is added. -/
def mixB : FVec Ideal S512x1024 .f32 := fun y => mixed (row x0 (y 0)) (row x1 (y 0)) (vec x3) (mat x2) (y 1)
/-- The hidden lanes of rows `X`. -/
def hidB (X : FVec Ideal S512x1024 .f32) : FVec Ideal S512x4096 .bf16 := fun y => hidden (rms (row X (y 0)) (vec x4)) (mat1 x6) (y 1)
/-- The hidden lanes times the second matrix. -/
def downB (A : FVec Ideal S512x4096 .bf16) : FVec Ideal S512x1024 .f32 := fun y => dotRow (row A (y 0)) (mat1 x7) (y 1)

theorem ld_cols {o : ℕ} {inb} (k : Fin 1024) (e : Fin 256) (h : o + e.1 < 1024) :
    View.ld (Val := Elt Ideal) (e' := .bf16) x2 (Rect.unit (s := S1024x1024) ![0, o] ![1024, 256] inb) (ix2 k e) = x2 (ix2 k ⟨o + e.1, h⟩) :=
  congrArg x2 (emb_cols inb k e h)

theorem ld_mat1 {k n w o : ℕ} (z : FVec Ideal ⟨3, ![1, k, n]⟩ .bf16) {inb} (i : Fin k) (e : Fin w) (h : o + e.1 < n) :
    View.ld (Val := Elt Ideal) (e' := .bf16) z (Rect.unit (s := ⟨3, ![1, k, n]⟩) ![0, 0, o] ![1, k, w] inb) (ix3 0 i e) = z (ix3 0 i ⟨o + e.1, h⟩) := by
  refine congrArg z (funext fun a => Fin.ext ?_)
  match a with
  | 0 => simp
  | 1 => simp
  | 2 => simp

theorem pay3_apply (W : FVec Ideal S1024x256 .bf16) (t : Fin 512) (e : Fin 256) :
    (k0_pay3 (F := Ideal) x1 W (ix2 t e) : EReal) = ∑ k, x1 (ix2 t k) * W (ix2 k e) := by
  pointwise [k0_pay3]
theorem pay4_apply (W : FVec Ideal S1024x256 .bf16) (t : Fin 512) (e : Fin 256) :
    (k0_pay4 (F := Ideal) x1 W (ix2 t e) : EReal) = ∑ k, x1 (ix2 t k) * W (ix2 k e) := by
  pointwise [k0_pay4, k0_pay3]
theorem pay25_apply (A : FVec Ideal S512x4096 .bf16) (W : FVec Ideal S1x4096x256 .bf16) (t : Fin 512) (e : Fin 256) :
    (k0_pay25 (F := Ideal) A W (ix2 t e) : EReal) = ∑ k, A (ix2 t k) * W (ix3 0 k e) := by
  pointwise [k0_pay25]
theorem pay26_apply (A : FVec Ideal S512x4096 .bf16) (W : FVec Ideal S1x4096x256 .bf16) (t : Fin 512) (e : Fin 256) :
    (k0_pay26 (F := Ideal) A W (ix2 t e) : EReal) = ∑ k, A (ix2 t k) * W (ix3 0 k e) := by
  pointwise [k0_pay26, k0_pay25]
theorem pay13_apply (X : FVec Ideal S512x1024 .f32) (t : Fin 512) (j : Fin 1024) :
    (k0_pay13 (F := Ideal) X x4 (ix2 t j) : EReal) = rms (row X t) (vec x4) j := by
  pointwise [k0_pay13]
  rfl
theorem pay17_apply (H : FVec Ideal S512x1024 .bf16) (U : FVec Ideal S1x1024x512 .bf16) (t f : Fin 512) :
    (k0_pay17 (F := Ideal) H (k0_pay16 U) (ix2 t f) : EReal) = max (∑ k, H (ix2 t k) * U (ix3 0 k f)) 0 * max (∑ k, H (ix2 t k) * U (ix3 0 k f)) 0 := by
  pointwise [k0_pay17, k0_pay16]

/-- A block of the projection's columns. -/
theorem proj_cols {o : ℕ} {inb} (t : Fin 512) (e : Fin 256) (h : o + e.1 < 1024) :
    (k0_pay4 (F := Ideal) x1 (View.ld (Val := Elt Ideal) (e' := .bf16) x2 (Rect.unit (s := S1024x1024) ![0, o] ![1024, 256] inb)) (ix2 t e) : EReal) = projB x1 x2 (ix2 t ⟨o + e.1, h⟩) :=
  (pay4_apply _ _ t e).trans (Finset.sum_congr rfl fun k _ => congrArg (x1 (ix2 t k) * ·) (ld_cols x2 k e h))
theorem proj_cols' {o : ℕ} {inb} (t : Fin 512) (e : Fin 256) (h : o + e.1 < 1024) :
    (k0_pay3 (F := Ideal) x1 (View.ld (Val := Elt Ideal) (e' := .bf16) x2 (Rect.unit (s := S1024x1024) ![0, o] ![1024, 256] inb)) (ix2 t e) : EReal) = projB x1 x2 (ix2 t ⟨o + e.1, h⟩) :=
  (pay3_apply _ _ t e).trans (Finset.sum_congr rfl fun k _ => congrArg (x1 (ix2 t k) * ·) (ld_cols x2 k e h))
/-- A block of the hidden lanes. -/
theorem hid_cols {o : ℕ} {inb} (X : FVec Ideal S512x1024 .f32) (t f : Fin 512) (h : o + f.1 < 4096) :
    (k0_pay17 (F := Ideal) (k0_pay13 X x4) (k0_pay16 (View.ld (Val := Elt Ideal) (e' := .bf16) x6 (Rect.unit (s := S1x1024x4096) ![0, 0, o] ![1, 1024, 512] inb))) (ix2 t f) : EReal)
      = hidB x4 x6 X (ix2 t ⟨o + f.1, h⟩) := by
  have hs : (∑ k : Fin 1024, (k0_pay13 (F := Ideal) X x4 (ix2 t k) : EReal) * View.ld (Val := Elt Ideal) (e' := .bf16) x6 (Rect.unit (s := S1x1024x4096) ![0, 0, o] ![1, 1024, 512] inb) (ix3 0 k f))
      = ∑ k, rms (row X t) (vec x4) k * mat1 x6 k ⟨o + f.1, h⟩ :=
    Finset.sum_congr rfl fun k _ => congrArg₂ (· * ·) (pay13_apply x4 X t k) (ld_mat1 x6 k f h)
  refine (pay17_apply _ _ t f).trans ?_
  rw [hs]
  rfl
/-- A block of the second product's columns. -/
theorem down_cols {o : ℕ} {inb} (A : FVec Ideal S512x4096 .bf16) (t : Fin 512) (e : Fin 256) (h : o + e.1 < 1024) :
    (k0_pay26 (F := Ideal) A (View.ld (Val := Elt Ideal) (e' := .bf16) x7 (Rect.unit (s := S1x4096x1024) ![0, 0, o] ![1, 4096, 256] inb)) (ix2 t e) : EReal) = downB x7 A (ix2 t ⟨o + e.1, h⟩) :=
  (pay26_apply _ _ t e).trans (Finset.sum_congr rfl fun k _ => congrArg (A (ix2 t k) * ·) (ld_mat1 x7 k e h))
theorem down_cols' {o : ℕ} {inb} (A : FVec Ideal S512x4096 .bf16) (t : Fin 512) (e : Fin 256) (h : o + e.1 < 1024) :
    (k0_pay25 (F := Ideal) A (View.ld (Val := Elt Ideal) (e' := .bf16) x7 (Rect.unit (s := S1x4096x1024) ![0, 0, o] ![1, 4096, 256] inb)) (ix2 t e) : EReal) = downB x7 A (ix2 t ⟨o + e.1, h⟩) :=
  (pay25_apply _ _ t e).trans (Finset.sum_congr rfl fun k _ => congrArg (A (ix2 t k) * ·) (ld_mat1 x7 k e h))

/-- The projection, read back. -/
theorem read_proj : (View.whole cc0_scratch1).readCov (Val := Elt Ideal)
      [⟨Rect.unit ![0, 768] ![512, 256] inb_S512x1024_S512x256_0_768, k0_pay11 x1 (View.ld (Val := Elt Ideal) (e' := .bf16) x2 (Rect.unit (s := S1024x1024) ![0, 768] ![1024, 256] inb_S1024x1024_S1024x256_0_768))⟩,
        ⟨Rect.unit ![0, 512] ![512, 256] inb_S512x1024_S512x256_0_512, k0_pay9 x1 (View.ld (Val := Elt Ideal) (e' := .bf16) x2 (Rect.unit (s := S1024x1024) ![0, 512] ![1024, 256] inb_S1024x1024_S1024x256_0_512))⟩,
        ⟨Rect.unit ![0, 256] ![512, 256] inb_S512x1024_S512x256_0_256, k0_pay6 x1 (View.ld (Val := Elt Ideal) (e' := .bf16) x2 (Rect.unit (s := S1024x1024) ![0, 256] ![1024, 256] inb_S1024x1024_S1024x256_0_256))⟩,
        ⟨Rect.unit ![0, 0] ![512, 256] inb_S512x1024_S512x256_0_0, k0_pay4 x1 (View.ld (Val := Elt Ideal) (e' := .bf16) x2 (Rect.unit (s := S1024x1024) ![0, 0] ![1024, 256] inb_S1024x1024_S1024x256_0_0))⟩]
      (Rect.unit ![0, 0] ![512, 1024] inb_S512x1024_S512x1024_0_0).toLoadRect = projB x1 x2 :=
  read_cols (projB x1 x2) _ _ _ _ [] (fun t e => proj_cols x1 x2 t e _) (fun t e => proj_cols x1 x2 t e _) (fun t e => proj_cols x1 x2 t e _) (fun t e => proj_cols x1 x2 t e _)
/-- The hidden lanes, read back. -/
theorem read_hid (X : FVec Ideal S512x1024 .f32) : (View.whole cc0_scratch0).readCov (Val := Elt Ideal)
      [⟨Rect.unit ![0, 3584] ![512, 512] inb_S512x4096_S512x512_0_3584, k0_pay23 (k0_pay13 X x4) (View.ld (Val := Elt Ideal) (e' := .bf16) x6 (Rect.unit (s := S1x1024x4096) ![0, 0, 3584] ![1, 1024, 512] inb_S1x1024x4096_S1x1024x512_0_0_3584))⟩,
        ⟨Rect.unit ![0, 3072] ![512, 512] inb_S512x4096_S512x512_0_3072, k0_pay22 (k0_pay13 X x4) (View.ld (Val := Elt Ideal) (e' := .bf16) x6 (Rect.unit (s := S1x1024x4096) ![0, 0, 3072] ![1, 1024, 512] inb_S1x1024x4096_S1x1024x512_0_0_3072))⟩,
        ⟨Rect.unit ![0, 2560] ![512, 512] inb_S512x4096_S512x512_0_2560, k0_pay21 (k0_pay20 (k0_pay13 X x4) (View.ld (Val := Elt Ideal) (e' := .bf16) x6 (Rect.unit (s := S1x1024x4096) ![0, 0, 2560] ![1, 1024, 512] inb_S1x1024x4096_S1x1024x512_0_0_2560)))⟩,
        ⟨Rect.unit ![0, 2048] ![512, 512] inb_S512x4096_S512x512_0_2048, k0_pay19 (k0_pay13 X x4) (View.ld (Val := Elt Ideal) (e' := .bf16) x6 (Rect.unit (s := S1x1024x4096) ![0, 0, 2048] ![1, 1024, 512] inb_S1x1024x4096_S1x1024x512_0_0_2048))⟩,
        ⟨Rect.unit ![0, 1536] ![512, 512] inb_S512x4096_S512x512_0_1536, k0_pay18 (k0_pay13 X x4) (View.ld (Val := Elt Ideal) (e' := .bf16) x6 (Rect.unit (s := S1x1024x4096) ![0, 0, 1536] ![1, 1024, 512] inb_S1x1024x4096_S1x1024x512_0_0_1536))⟩,
        ⟨Rect.unit ![0, 1024] ![512, 512] inb_S512x4096_S512x512_0_1024, k0_pay17 (k0_pay13 X x4) (k0_pay16 (View.ld (Val := Elt Ideal) (e' := .bf16) x6 (Rect.unit (s := S1x1024x4096) ![0, 0, 1024] ![1, 1024, 512] inb_S1x1024x4096_S1x1024x512_0_0_1024)))⟩,
        ⟨Rect.unit ![0, 512] ![512, 512] inb_S512x4096_S512x512_0_512, k0_pay15 X x4 (View.ld (Val := Elt Ideal) (e' := .bf16) x6 (Rect.unit (s := S1x1024x4096) ![0, 0, 512] ![1, 1024, 512] inb_S1x1024x4096_S1x1024x512_0_0_512))⟩,
        ⟨Rect.unit ![0, 0] ![512, 512] inb_S512x4096_S512x512_0_0, k0_pay14 X x4 (View.ld (Val := Elt Ideal) (e' := .bf16) x6 (Rect.unit (s := S1x1024x4096) ![0, 0, 0] ![1, 1024, 512] inb_S1x1024x4096_S1x1024x512_0_0_0))⟩]
      (Rect.unit ![0, 0] ![512, 4096] inb_S512x4096_S512x4096_0_0).toLoadRect = hidB x4 x6 X :=
  read_hidden (hidB x4 x6 X) _ _ _ _ _ _ _ _ (fun t e => hid_cols x4 x6 X t e _) (fun t e => hid_cols x4 x6 X t e _) (fun t e => hid_cols x4 x6 X t e _) (fun t e => hid_cols x4 x6 X t e _) (fun t e => hid_cols x4 x6 X t e _) (fun t e => hid_cols x4 x6 X t e _) (fun t e => hid_cols x4 x6 X t e _) (fun t e => hid_cols x4 x6 X t e _)
/-- The second product, read back over the stores before it. -/
theorem read_down (A : FVec Ideal S512x4096 .bf16) (L : List (View.Piece (Elt Ideal) S512x1024 .f32)) : (View.whole cc0_scratch1).readCov (Val := Elt Ideal)
      (⟨Rect.unit ![0, 768] ![512, 256] inb_S512x1024_S512x256_0_768, k0_pay1 (k0_pay32 A (View.ld (Val := Elt Ideal) (e' := .bf16) x7 (Rect.unit (s := S1x4096x1024) ![0, 0, 768] ![1, 4096, 256] inb_S1x4096x1024_S1x4096x256_0_0_768)))⟩ ::
        ⟨Rect.unit ![0, 512] ![512, 256] inb_S512x1024_S512x256_0_512, k0_pay30 A (View.ld (Val := Elt Ideal) (e' := .bf16) x7 (Rect.unit (s := S1x4096x1024) ![0, 0, 512] ![1, 4096, 256] inb_S1x4096x1024_S1x4096x256_0_0_512))⟩ ::
        ⟨Rect.unit ![0, 256] ![512, 256] inb_S512x1024_S512x256_0_256, k0_pay28 A (View.ld (Val := Elt Ideal) (e' := .bf16) x7 (Rect.unit (s := S1x4096x1024) ![0, 0, 256] ![1, 4096, 256] inb_S1x4096x1024_S1x4096x256_0_0_256))⟩ ::
        ⟨Rect.unit ![0, 0] ![512, 256] inb_S512x1024_S512x256_0_0, k0_pay26 A (View.ld (Val := Elt Ideal) (e' := .bf16) x7 (Rect.unit (s := S1x4096x1024) ![0, 0, 0] ![1, 4096, 256] inb_S1x4096x1024_S1x4096x256_0_0_0))⟩ :: L)
      (Rect.unit ![0, 0] ![512, 1024] inb_S512x1024_S512x1024_0_0).toLoadRect = downB x7 A :=
  read_cols (downB x7 A) _ _ _ _ L (fun t e => down_cols x7 A t e _) (fun t e => down_cols x7 A t e _) (fun t e => down_cols x7 A t e _) (fun t e => down_cols x7 A t e _)

/-- The first norm, from the four blocks' sums of squares. -/
theorem mix_eq {i0 i1 i2 i3} :
    k0_pay12 (F := Ideal) (k0_pay7 x1 (View.ld (Val := Elt Ideal) (e' := .bf16) x2 (Rect.unit (s := S1024x1024) ![0, 0] ![1024, 256] i0)) x1
          (View.ld (Val := Elt Ideal) (e' := .bf16) x2 (Rect.unit (s := S1024x1024) ![0, 256] ![1024, 256] i1)))
        (k0_pay8 x1 (View.ld (Val := Elt Ideal) (e' := .bf16) x2 (Rect.unit (s := S1024x1024) ![0, 512] ![1024, 256] i2))) x1
        (View.ld (Val := Elt Ideal) (e' := .bf16) x2 (Rect.unit (s := S1024x1024) ![0, 768] ![1024, 256] i3)) x0 (projB x1 x2) x3 = mixB x0 x1 x2 x3 := by
  funext y
  obtain ⟨t, j, rfl⟩ : ∃ (t : Fin 512) (j : Fin 1024), y = ix2 t j := ⟨y 0, y 1, eq_ix2 y⟩
  have hs := sum_quarters fun i => (projB x1 x2 (ix2 t i) : EReal) * projB x1 x2 (ix2 t i)
  have q0 : ∀ x : Fin 256, (k0_pay3 (F := Ideal) x1 (View.ld (Val := Elt Ideal) (e' := .bf16) x2 (Rect.unit (s := S1024x1024) ![0, 0] ![1024, 256] i0)) (ix2 t x) : EReal) = projB x1 x2 (ix2 t ⟨x.1, by omega⟩) :=
    fun x => (proj_cols' x1 x2 t x (by omega)).trans (by simp only [Nat.zero_add])
  have q1 : ∀ x : Fin 256, (k0_pay5 (F := Ideal) x1 (View.ld (Val := Elt Ideal) (e' := .bf16) x2 (Rect.unit (s := S1024x1024) ![0, 256] ![1024, 256] i1)) (ix2 t x) : EReal) = projB x1 x2 (ix2 t ⟨256 + x.1, by omega⟩) :=
    fun x => proj_cols' x1 x2 t x _
  have q2 : ∀ x : Fin 256, (k0_pay8 (F := Ideal) x1 (View.ld (Val := Elt Ideal) (e' := .bf16) x2 (Rect.unit (s := S1024x1024) ![0, 512] ![1024, 256] i2)) (ix2 t x) : EReal) = projB x1 x2 (ix2 t ⟨512 + x.1, by omega⟩) :=
    fun x => proj_cols' x1 x2 t x _
  have q3 : ∀ x : Fin 256, (k0_pay10 (F := Ideal) x1 (View.ld (Val := Elt Ideal) (e' := .bf16) x2 (Rect.unit (s := S1024x1024) ![0, 768] ![1024, 256] i3)) (ix2 t x) : EReal) = projB x1 x2 (ix2 t ⟨768 + x.1, by omega⟩) :=
    fun x => proj_cols' x1 x2 t x _
  pointwise [k0_pay12, k0_pay7]
  simp only [q0, q1, q2, q3]
  rw [mul_inv1024, ← hs]
  rfl

/-- The last norm likewise. -/
theorem last_eq {i0 i1 i2 i3} (X : FVec Ideal S512x1024 .f32) (A : FVec Ideal S512x4096 .bf16) (t : Fin 512) (j : Fin 1024) :
    (k0_pay2 (F := Ideal) (k0_pay31 k0_pay24 (k0_pay25 A (View.ld (Val := Elt Ideal) (e' := .bf16) x7 (Rect.unit (s := S1x4096x1024) ![0, 0, 0] ![1, 4096, 256] i0)))
          A (View.ld (Val := Elt Ideal) (e' := .bf16) x7 (Rect.unit (s := S1x4096x1024) ![0, 0, 256] ![1, 4096, 256] i1))
          A (View.ld (Val := Elt Ideal) (e' := .bf16) x7 (Rect.unit (s := S1x4096x1024) ![0, 0, 512] ![1, 4096, 256] i2)))
        (k0_pay32 A (View.ld (Val := Elt Ideal) (e' := .bf16) x7 (Rect.unit (s := S1x4096x1024) ![0, 0, 768] ![1, 4096, 256] i3))) X (downB x7 A) x5 (ix2 t j) : EReal)
      = addRms (row X t) (row (downB x7 A) t) (vec x5) j := by
  have hs := sum_quarters fun i => (downB x7 A (ix2 t i) : EReal) * downB x7 A (ix2 t i)
  have q0 : ∀ x : Fin 256, (k0_pay25 (F := Ideal) A (View.ld (Val := Elt Ideal) (e' := .bf16) x7 (Rect.unit (s := S1x4096x1024) ![0, 0, 0] ![1, 4096, 256] i0)) (ix2 t x) : EReal) = downB x7 A (ix2 t ⟨x.1, by omega⟩) :=
    fun x => (down_cols' x7 A t x (by omega)).trans (by simp only [Nat.zero_add])
  have q1 : ∀ x : Fin 256, (k0_pay27 (F := Ideal) A (View.ld (Val := Elt Ideal) (e' := .bf16) x7 (Rect.unit (s := S1x4096x1024) ![0, 0, 256] ![1, 4096, 256] i1)) (ix2 t x) : EReal) = downB x7 A (ix2 t ⟨256 + x.1, by omega⟩) :=
    fun x => down_cols' x7 A t x _
  have q2 : ∀ x : Fin 256, (k0_pay29 (F := Ideal) A (View.ld (Val := Elt Ideal) (e' := .bf16) x7 (Rect.unit (s := S1x4096x1024) ![0, 0, 512] ![1, 4096, 256] i2)) (ix2 t x) : EReal) = downB x7 A (ix2 t ⟨512 + x.1, by omega⟩) :=
    fun x => down_cols' x7 A t x _
  have q3 : ∀ x : Fin 256, (k0_pay32 (F := Ideal) A (View.ld (Val := Elt Ideal) (e' := .bf16) x7 (Rect.unit (s := S1x4096x1024) ![0, 0, 768] ![1, 4096, 256] i3)) (ix2 t x) : EReal) = downB x7 A (ix2 t ⟨768 + x.1, by omega⟩) :=
    fun x => down_cols' x7 A t x _
  pointwise [k0_pay2, k0_pay31, k0_pay24]
  simp only [q0, q1, q2, q3]
  rw [mul_inv1024, ← hs]
  rfl
end Body

variable (m : (ℓ : Loc nD τ sig) → Buf (Elt Ideal) ℓ) (c : Dev nD)

/-- The block of rows point `t` flushes. -/
def blockOut (x0 : FVec Ideal S512x1024 .f32) (x1 : FVec Ideal S512x1024 .bf16) (x2 : FVec Ideal S1024x1024 .bf16)
    (x3 x4 x5 : FVec Ideal S1x1024 .f32) (x6 : FVec Ideal S1x1024x4096 .bf16) (x7 : FVec Ideal S1x4096x1024 .bf16) : FVec Ideal S512x1024 .f32 := fun y =>
  layerRow (row x0 (y 0)) (row x1 (y 0)) (vec x3) (vec x4) (vec x5) (mat x2) (mat1 x6) (mat1 x7) (y 1)

theorem flushed_eq (t : Fin cfg0.N) : (dats m 0 c).flushed 8 t
    = blockOut (iblk m c 0 t) (iblk m c 1 t) (iblk m c 2 t) (iblk m c 3 t) (iblk m c 4 t) (iblk m c 5 t) (iblk m c 6 t) (iblk m c 7 t) := by
  rw [Cert.Kernel2Ideal.Value.flushed8_A]
  frame_open
  simp (disch := decide) only [↓ View.readCov_skip, ↓ View.readCov_cons_toLoadRect, ↓ View.readCov_fill]
  frame_out
  generalize (iblk m c 0 t : FVec Ideal S512x1024 .f32) = x0
  generalize (iblk m c 1 t : FVec Ideal S512x1024 .bf16) = x1
  generalize (iblk m c 2 t : FVec Ideal S1024x1024 .bf16) = x2
  generalize (iblk m c 3 t : FVec Ideal S1x1024 .f32) = x3
  generalize (iblk m c 4 t : FVec Ideal S1x1024 .f32) = x4
  generalize (iblk m c 5 t : FVec Ideal S1x1024 .f32) = x5
  generalize (iblk m c 6 t : FVec Ideal S1x1024x4096 .bf16) = x6
  generalize (iblk m c 7 t : FVec Ideal S1x4096x1024 .bf16) = x7
  rw [read_proj x1 x2, mix_eq x0 x1 x2 x3, read_hid x4 x6, read_down x7]
  funext y
  obtain ⟨a, b, rfl⟩ : ∃ (a : Fin 512) (b : Fin 1024), y = ix2 a b := ⟨y 0, y 1, eq_ix2 y⟩
  exact last_eq x5 x7 _ _ a b

end
end Cert.Kernel2Ideal.M
end
-- ==== Proof.Layer.lean ====
module

public import proofs.«01_k».proof.Proof.Block
public import Idealize.ShloMosaic.Lib.Claim

@[expose] public section

set_option maxRecDepth 16384

/-!
# The array the last layer's call leaves
-/

namespace Cert.Kernel2Ideal.M
open Idealize.ShloMosaic Idealize.SL.Sem
open Idealize.ShloMosaic.TcCoe
open Idealize.ShloMosaic.Pipeline (Dat)
open Cert.Kernel2Ideal.Gen
open Cert.Mlp
noncomputable section

/-- The last layer from its attention's output on: row `4096 b + s` is the layer's row at batch row `b`, position `s`. -/
def lastLayer (x : FVec Ideal S8x4096x1024 .f32) (o : FVec Ideal S8x4096x1024 .bf16) (wo : FVec Ideal S2x1024x1024 .f32)
    (wu : FVec Ideal S4x1024x4096 .f32) (wd : FVec Ideal S4x4096x1024 .f32) (gm gp gq : FVec Ideal S4x1024 .f32) : FVec Ideal S32768x1024 .f32 := fun y =>
  layerRow (fun k => x (ix3 ⟨(y 0).1 / 4096, by have : (y 0).1 < 32768 := (y 0).2; omega⟩ ⟨(y 0).1 % 4096, Nat.mod_lt _ (by decide)⟩ k))
    (fun k => o (ix3 ⟨(y 0).1 / 4096, by have : (y 0).1 < 32768 := (y 0).2; omega⟩ ⟨(y 0).1 % 4096, Nat.mod_lt _ (by decide)⟩ k))
    (fun k => gm (ix2 3 k)) (fun k => gp (ix2 3 k)) (fun k => gq (ix2 3 k)) (fun k j => wo (ix3 1 k j)) (fun k f => wu (ix3 3 k f)) (fun f j => wd (ix3 3 f j)) (y 1)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![3, 0, 0] ∧ win0_7.index t = ![3, 0, 0]
    ∧ win0_8.index t = ![t.val, 0] := (by decide +kernel : ∀ t : Fin grid0.N, _)

variable (m : (ℓ : Loc nD τ sig) → Buf (Elt Ideal) ℓ) (c : Dev nD)

/-- The arguments, as numbers. -/
abbrev argX : FVec Ideal S8x4096x1024 .f32 := m ((c.tc : Thread nD τ).loc main_arg0)
abbrev argO : FVec Ideal S8x4096x1024 .bf16 := m ((c.tc : Thread nD τ).loc main_arg1)
abbrev argWo : FVec Ideal S2x1024x1024 .f32 := m ((c.tc : Thread nD τ).loc main_arg2)
abbrev argWu : FVec Ideal S4x1024x4096 .f32 := m ((c.tc : Thread nD τ).loc main_arg3)
abbrev argWd : FVec Ideal S4x4096x1024 .f32 := m ((c.tc : Thread nD τ).loc main_arg4)
abbrev argGm : FVec Ideal S4x1024 .f32 := m ((c.tc : Thread nD τ).loc main_arg5)
abbrev argGp : FVec Ideal S4x1024 .f32 := m ((c.tc : Thread nD τ).loc main_arg6)
abbrev argGq : FVec Ideal S4x1024 .f32 := m ((c.tc : Thread nD τ).loc main_arg7)

theorem host_x (r : Fin 32768) (k : Fin 1024) : (V m c main_v9 (ix2 r k) : EReal) = argX m c (ix3 ⟨r.1 / 4096, by omega⟩ ⟨r.1 % 4096, Nat.mod_lt _ (by decide)⟩ k) := by
  entry_read
  pointwise
theorem host_o (r : Fin 32768) (k : Fin 1024) : (V m c main_v2 (ix2 r k) : EReal) = argO m c (ix3 ⟨r.1 / 4096, by omega⟩ ⟨r.1 % 4096, Nat.mod_lt _ (by decide)⟩ k) := by
  entry_read
  pointwise
theorem host_wo (k j : Fin 1024) : (V m c main_v5 (ix2 k j) : EReal) = argWo m c (ix3 1 k j) := by
  entry_read
  pointwise
theorem host_gm (j : Fin 1024) : (V m c main_v8 (ix2 0 j) : EReal) = argGm m c (ix2 3 j) := by
  entry_read
  pointwise
theorem host_gp (j : Fin 1024) : (V m c main_v12 (ix2 0 j) : EReal) = argGp m c (ix2 3 j) := by
  entry_read
  pointwise
theorem host_gq (j : Fin 1024) : (V m c main_v15 (ix2 0 j) : EReal) = argGq m c (ix2 3 j) := by
  entry_read
  pointwise
theorem host_wu (k : Fin 1024) (f : Fin 4096) : (V m c main_v0 (ix3 3 k f) : EReal) = argWu m c (ix3 3 k f) := by
  entry_read
  pointwise
theorem host_wd (f : Fin 4096) (k : Fin 1024) : (V m c main_v1 (ix3 3 f k) : EReal) = argWd m c (ix3 3 f k) := by
  entry_read
  pointwise

variable (t : Fin cfg0.N)
theorem blk_x (ht : t.1 < 64) (r : Fin 512) (k : Fin 1024) :
    ((iblk m c 0 t : FVec Ideal S512x1024 .f32) (ix2 r k) : EReal) = V m c main_v9 (ix2 (⟨512 * t.1 + r.1, by omega⟩ : Fin 32768) k) := by
  unfold iblk
  blk_ext [idx t]
theorem blk_o (ht : t.1 < 64) (r : Fin 512) (k : Fin 1024) :
    ((iblk m c 1 t : FVec Ideal S512x1024 .bf16) (ix2 r k) : EReal) = V m c main_v2 (ix2 (⟨512 * t.1 + r.1, by omega⟩ : Fin 32768) k) := by
  unfold iblk
  blk_ext [idx t]
theorem blk_wo (k j : Fin 1024) : ((iblk m c 2 t : FVec Ideal S1024x1024 .bf16) (ix2 k j) : EReal) = V m c main_v5 (ix2 k j) := by
  unfold iblk
  blk_ext [idx t]
theorem blk_gm (j : Fin 1024) : ((iblk m c 3 t : FVec Ideal S1x1024 .f32) (ix2 0 j) : EReal) = V m c main_v8 (ix2 0 j) := by
  unfold iblk
  blk_ext [idx t]
theorem blk_gp (j : Fin 1024) : ((iblk m c 4 t : FVec Ideal S1x1024 .f32) (ix2 0 j) : EReal) = V m c main_v12 (ix2 0 j) := by
  unfold iblk
  blk_ext [idx t]
theorem blk_gq (j : Fin 1024) : ((iblk m c 5 t : FVec Ideal S1x1024 .f32) (ix2 0 j) : EReal) = V m c main_v15 (ix2 0 j) := by
  unfold iblk
  blk_ext [idx t]
theorem blk_wu (k : Fin 1024) (f : Fin 4096) : ((iblk m c 6 t : FVec Ideal S1x1024x4096 .bf16) (ix3 0 k f) : EReal) = V m c main_v0 (ix3 3 k f) := by
  unfold iblk
  blk_ext [idx t]
theorem blk_wd (f : Fin 4096) (k : Fin 1024) : ((iblk m c 7 t : FVec Ideal S1x4096x1024 .bf16) (ix3 0 f k) : EReal) = V m c main_v1 (ix3 3 f k) := by
  unfold iblk
  blk_ext [idx t]

theorem point (ht : t.1 < 64) (r : Fin 512) (j : Fin 1024) :
    blockOut (iblk m c 0 t) (iblk m c 1 t) (iblk m c 2 t) (iblk m c 3 t) (iblk m c 4 t) (iblk m c 5 t) (iblk m c 6 t) (iblk m c 7 t) (ix2 r j)
      = lastLayer (argX m c) (argO m c) (argWo m c) (argWu m c) (argWd m c) (argGm m c) (argGp m c) (argGq m c) (ix2 ⟨512 * t.1 + r.1, by omega⟩ j) := by
  have e0 : row (n := 1024) (e := .f32) (iblk m c 0 t) r = fun k => argX m c (ix3 ⟨(512 * t.1 + r.1) / 4096, by omega⟩ ⟨(512 * t.1 + r.1) % 4096, Nat.mod_lt _ (by decide)⟩ k) :=
    funext fun k => (blk_x m c t ht r k).trans (host_x m c _ k)
  have e1 : row (n := 1024) (e := .bf16) (iblk m c 1 t) r = fun k => argO m c (ix3 ⟨(512 * t.1 + r.1) / 4096, by omega⟩ ⟨(512 * t.1 + r.1) % 4096, Nat.mod_lt _ (by decide)⟩ k) :=
    funext fun k => (blk_o m c t ht r k).trans (host_o m c _ k)
  have e2 : mat (iblk m c 2 t) = fun k j => argWo m c (ix3 1 k j) := funext fun k => funext fun j => (blk_wo m c t k j).trans (host_wo m c k j)
  have e3 : vec (iblk m c 3 t) = fun k => argGm m c (ix2 3 k) := funext fun k => (blk_gm m c t k).trans (host_gm m c k)
  have e4 : vec (iblk m c 4 t) = fun k => argGp m c (ix2 3 k) := funext fun k => (blk_gp m c t k).trans (host_gp m c k)
  have e5 : vec (iblk m c 5 t) = fun k => argGq m c (ix2 3 k) := funext fun k => (blk_gq m c t k).trans (host_gq m c k)
  have e6 : mat1 (k := 1024) (n := 4096) (iblk m c 6 t) = fun k f => argWu m c (ix3 3 k f) := funext fun k => funext fun f => (blk_wu m c t k f).trans (host_wu m c k f)
  have e7 : mat1 (k := 4096) (n := 1024) (iblk m c 7 t) = fun f j => argWd m c (ix3 3 f j) := funext fun f => funext fun j => (blk_wd m c t f j).trans (host_wd m c f j)
  show layerRow (row (n := 1024) (e := .f32) (iblk m c 0 t) r) (row (n := 1024) (e := .bf16) (iblk m c 1 t) r) (vec (iblk m c 3 t)) (vec (iblk m c 4 t)) (vec (iblk m c 5 t)) (mat (iblk m c 2 t))
    (mat1 (k := 1024) (n := 4096) (iblk m c 6 t)) (mat1 (k := 4096) (n := 1024) (iblk m c 7 t)) j = _
  rw [e0, e1, e2, e3, e4, e5, e6, e7]
  rfl

/-- **The array the call leaves.** -/
theorem final : (dats m 0 c).arrAt 8 cfg0.N = lastLayer (argX m c) (argO m c) (argWo m c) (argWu m c) (argWd m c) (argGm m c) (argGp m c) (argGq m c) := by
  refine (dats m 0 c).arrAt_eq_of_covers 8 _ (by decide +kernel) fun t hf y => ?_
  have ht : t.1 < 64 := t.2
  refine (congrFun (flushed_eq m c t) y).trans ?_
  obtain ⟨r, j, rfl⟩ : ∃ (r : Fin 512) (j : Fin 1024), y = ix2 r j := ⟨y 0, y 1, eq_ix2 y⟩
  refine (point m c t ht r j).trans ?_
  blk_ext [idx t]

end
end Cert.Kernel2Ideal.M
end
-- ==== Proof.LayerReference.lean ====
module

public import proofs.«01_k».proof.Defs
public import proofs.«01_k».proof.Proof.Layer
public import proofs.«01_k».proof.Proof.Gen.Reference2Ideal
public import proofs.«01_k».proof.Proof.Gen.Reference2Ideal.Run

@[expose] public section

set_option maxRecDepth 16384

/-!
# The last layer's reference
-/

namespace Cert.Reference2Ideal.M
open Idealize.ShloMosaic Idealize.SL.Sem
open Idealize.ShloMosaic.TcCoe
open Cert.Reference2Ideal.Gen
open Cert.Mlp
noncomputable section

/-- The norm of the rows of `x`, with the gain `g`. -/
def norm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
        (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))
/-- A gain of the last layer. -/
def gain (g : FVec Ideal S4x1024 .f32) : FVec Ideal S1024 .f32 :=
  shapeCast S1024 (extractStridedSlice S1x1024 ![3, 0] g slices_S4x1024_S1x1024_3_0) shapeCasts_S1x1024_S1024
/-- The attention's output, projected. -/
def proj (o : FVec Ideal S8x4096x1024 .bf16) (wo : FVec Ideal S2x1024x1024 .f32) : FVec Ideal S8x4096x1024 .f32 :=
  Host.dotGeneral dot_S8x4096x1024_S1024x1024_S8x4096x1024_2_0_01_1_n_n none (extf .f32 o bitsLt_bf16_f32)
    (shapeCast S1024x1024 (extractStridedSlice S1x1024x1024 ![1, 0, 0] wo slices_S2x1024x1024_S1x1024x1024_1_0_0) shapeCasts_S1x1024x1024_S1024x1024)
/-- The hidden lanes of rows `h`. -/
def act (h : FVec Ideal S8x4096x1024 .f32) (wu : FVec Ideal S4x1024x4096 .f32) : FVec Ideal S8x4096x4096 .f32 :=
  let u : FVec Ideal S8x4096x4096 .f32 := maximumf (Host.dotGeneral dot_S8x4096x1024_S1024x4096_S8x4096x4096_2_0_01_1_n_n none h
    (shapeCast S1024x4096 (extractStridedSlice S1x1024x4096 ![3, 0, 0] wu slices_S4x1024x4096_S1x1024x4096_3_0_0) shapeCasts_S1x1024x4096_S1024x4096))
    (broadcastInDim S8x4096x4096 ![] bcast_S_S8x4096x4096 (constant S_ .f32 0x00000000#32))
  mulf u u
/-- The hidden lanes times the second matrix. -/
def down (a : FVec Ideal S8x4096x4096 .f32) (wd : FVec Ideal S4x4096x1024 .f32) : FVec Ideal S8x4096x1024 .f32 :=
  Host.dotGeneral dot_S8x4096x4096_S4096x1024_S8x4096x1024_2_0_01_1_n_n none a
    (shapeCast S4096x1024 (extractStridedSlice S1x4096x1024 ![3, 0, 0] wd slices_S4x4096x1024_S1x4096x1024_3_0_0) shapeCasts_S1x4096x1024_S4096x1024)
/-- The rows after the attention is added. -/
def mix (x : FVec Ideal S8x4096x1024 .f32) (o : FVec Ideal S8x4096x1024 .bf16) (wo : FVec Ideal S2x1024x1024 .f32) (gm : FVec Ideal S4x1024 .f32) : FVec Ideal S8x4096x1024 .f32 :=
  addf x (norm (proj o wo) (gain gm))
/-- The reference's array, before its last reshape. -/
def out (x : FVec Ideal S8x4096x1024 .f32) (o : FVec Ideal S8x4096x1024 .bf16) (wo : FVec Ideal S2x1024x1024 .f32)
    (wu : FVec Ideal S4x1024x4096 .f32) (wd : FVec Ideal S4x4096x1024 .f32) (gm gp gq : FVec Ideal S4x1024 .f32) : FVec Ideal S8x4096x1024 .f32 :=
  addf (mix x o wo gm) (norm (down (act (norm (mix x o wo gm) (gain gp)) wu) wd) (gain gq))

variable (x : FVec Ideal S8x4096x1024 .f32) (o : FVec Ideal S8x4096x1024 .bf16) (wo : FVec Ideal S2x1024x1024 .f32)
    (wu : FVec Ideal S4x1024x4096 .f32) (wd : FVec Ideal S4x4096x1024 .f32) (gm gp gq : FVec Ideal S4x1024 .f32)
  (b : Fin 8) (s : Fin 4096)

theorem norm_apply (g : FVec Ideal S1024 .f32) (j : Fin 1024) : (norm x g (ix3 b s j) : EReal) = rms (fun i => x (ix3 b s i)) (fun i => g (ix1 i)) j := by
  pointwise [norm]
  rfl
theorem gain_apply (g : FVec Ideal S4x1024 .f32) (j : Fin 1024) : (gain g (ix1 j) : EReal) = g (ix2 3 j) := by
  pointwise [gain]
theorem proj_apply (j : Fin 1024) : (proj o wo (ix3 b s j) : EReal) = ∑ k, o (ix3 b s k) * wo (ix3 1 k j) := by
  pointwise [proj]
theorem act_apply (f : Fin 4096) : (act x wu (ix3 b s f) : EReal) = hidden (fun k => x (ix3 b s k)) (fun k f => wu (ix3 3 k f)) f := by
  pointwise [act]
  rfl
theorem down_apply (a : FVec Ideal S8x4096x4096 .f32) (j : Fin 1024) : (down a wd (ix3 b s j) : EReal) = ∑ f, a (ix3 b s f) * wd (ix3 3 f j) := by
  pointwise [down]

theorem mix_apply (j : Fin 1024) : (mix x o wo gm (ix3 b s j) : EReal)
    = mixed (fun k => x (ix3 b s k)) (fun k => o (ix3 b s k)) (fun k => gm (ix2 3 k)) (fun k j => wo (ix3 1 k j)) j := by
  have h : (mix x o wo gm (ix3 b s j) : EReal) = x (ix3 b s j) + norm (proj o wo) (gain gm) (ix3 b s j) := rfl
  rw [h, norm_apply]
  simp only [proj_apply, gain_apply]
  rfl

theorem out_apply (j : Fin 1024) : (out x o wo wu wd gm gp gq (ix3 b s j) : EReal)
    = layerRow (fun k => x (ix3 b s k)) (fun k => o (ix3 b s k)) (fun k => gm (ix2 3 k)) (fun k => gp (ix2 3 k)) (fun k => gq (ix2 3 k))
      (fun k j => wo (ix3 1 k j)) (fun k f => wu (ix3 3 k f)) (fun f j => wd (ix3 3 f j)) j := by
  have h : (out x o wo wu wd gm gp gq (ix3 b s j) : EReal) = mix x o wo gm (ix3 b s j) + norm (down (act (norm (mix x o wo gm) (gain gp)) wu) wd) (gain gq) (ix3 b s j) := rfl
  rw [h, norm_apply]
  simp only [down_apply, act_apply, norm_apply, mix_apply, gain_apply]
  rfl

/-- The reference's array is the layer's. -/
theorem result_eq : shapeCast S32768x1024 (out x o wo wu wd gm gp gq) shapeCasts_S8x4096x1024_S32768x1024
    = Cert.Kernel2Ideal.M.lastLayer x o wo wu wd gm gp gq := by
  funext y
  obtain ⟨r, j, rfl⟩ : ∃ (r : Fin 32768) (j : Fin 1024), y = ix2 r j := ⟨y 0, y 1, eq_ix2 y⟩
  refine Eq.trans ?_ (out_apply x o wo wu wd gm gp gq ⟨r.1 / 4096, by omega⟩ ⟨r.1 % 4096, Nat.mod_lt _ (by decide)⟩ j)
  pointwise

end
end Cert.Reference2Ideal.M

namespace Cert.Kernel2Ideal.M
open Idealize.ShloMosaic Idealize.SL.Sem
open Idealize.ShloMosaic.TcCoe
open Cert.Reference2Ideal.M (result_eq)
noncomputable section

/-- **The call's array is the reference's.** -/
theorem algebraic : Cert.algebraic_Kernel2Ideal_Reference2Ideal := by
  intro m g m' g' _ hargs
  refine ⟨fun c => lastLayer (argX m c) (argO m c) (argWo m c) (argWu m c) (argWd m c) (argGm m c) (argGp m c) (argGq m c), ?_, ?_⟩
  · refine (Cert.Kernel2Ideal.Value.run_blocks m g).mono fun r h c => ⟨(h c).1.trans (final m c), (h c).2⟩
  · refine (Cert.Reference2Ideal.Value.run m' g').mono fun r h c => ⟨(h c).1.trans ?_, (h c).2⟩
    obtain ⟨h0, h1, h2, h3, h4, h5, h6, h7⟩ := hargs c
    refine Eq.trans (Eq.trans rfl (result_eq _ _ _ _ _ _ _ _)) ?_
    rw [h0, h1, h2, h3, h4, h5, h6, h7]

end
end Cert.Kernel2Ideal.M
end
-- ==== Proof.Block3.lean ====
module

public import proofs.«01_k».proof.Proof.Block
public import proofs.«01_k».proof.Proof.Gen.Kernel3Ideal.Value

@[expose] public section

set_option maxRecDepth 16384

/-!
# Layer 1's block of rows

What one grid point's body leaves in its four output blocks: the rows after the MLP, their keys, values and queries.
-/

namespace Cert.Mlp
open Idealize.ShloMosaic
noncomputable section

/-- The row after the MLP. -/
def mlpRow (x gp gq : Fin 1024 → EReal) (wu : Fin 1024 → Fin 4096 → EReal) (wd : Fin 4096 → Fin 1024 → EReal) : Fin 1024 → EReal :=
  addRms x (dotRow (hidden (rms x gp) wu) wd) gq
/-- The norm of a row, projected. -/
def projRow (x g : Fin 1024 → EReal) (w : Fin 1024 → Fin 1024 → EReal) : Fin 1024 → EReal := dotRow (rms x g) w
/-- The queries' scale, log2(e) / 8. -/
def qScale : EReal := (((Real.log 2)⁻¹ * (1 / 8) : ℝ) : EReal)

end
end Cert.Mlp

namespace Cert.Kernel3Ideal.M
open Idealize.ShloMosaic Idealize.SL.Sem
open Idealize.ShloMosaic.TcCoe
open Idealize.ShloMosaic.Pipeline (Dat)
open Cert.Kernel3Ideal.Gen
open Cert.Mlp
open Cert.Kernel2Ideal.M (row vec mat1 emb_cols ld_mat1 hidB downB)
noncomputable section

section Read
/-- Four blocks of columns stored are the whole. -/
theorem canon_cols {e : EltTy} (Y : S512x1024.Idx → Elt Ideal e) (P0 P1 P2 P3 : S512x256.Idx → Elt Ideal e)
    (h0 : ∀ t (j : Fin 256), P0 (ix2 t j) = Y (ix2 t ⟨0 + j.1, by omega⟩)) (h1 : ∀ t (j : Fin 256), P1 (ix2 t j) = Y (ix2 t ⟨256 + j.1, by omega⟩))
    (h2 : ∀ t (j : Fin 256), P2 (ix2 t j) = Y (ix2 t ⟨512 + j.1, by omega⟩)) (h3 : ∀ t (j : Fin 256), P3 (ix2 t j) = Y (ix2 t ⟨768 + j.1, by omega⟩)) :
    View.canon (Val := Elt Ideal) (s := S512x1024) (e := e)
      [⟨Rect.unit ![0, 768] ![512, 256] inb_S512x1024_S512x256_0_768, P3⟩, ⟨Rect.unit ![0, 512] ![512, 256] inb_S512x1024_S512x256_0_512, P2⟩,
        ⟨Rect.unit ![0, 256] ![512, 256] inb_S512x1024_S512x256_0_256, P1⟩, ⟨Rect.unit ![0, 0] ![512, 256] inb_S512x1024_S512x256_0_0, P0⟩] = Y := by
  funext j
  obtain ⟨t, i, rfl⟩ : ∃ (t : Fin 512) (i : Fin 1024), j = ix2 t i := ⟨j 0, j 1, eq_ix2 j⟩
  refine View.canon_append_of_piecesOf Y [] [_, _, _, _] ⟨fun x => ?_, fun x => ?_, fun x => ?_, fun x => ?_, trivial⟩ _ ?_
  · obtain ⟨t, i, rfl⟩ : ∃ (t : Fin 512) (i : Fin 256), x = ix2 t i := ⟨x 0, x 1, eq_ix2 x⟩
    exact (h3 t i).trans (congrArg Y (emb_cols inb_S512x1024_S512x256_0_768 t i _).symm)
  · obtain ⟨t, i, rfl⟩ : ∃ (t : Fin 512) (i : Fin 256), x = ix2 t i := ⟨x 0, x 1, eq_ix2 x⟩
    exact (h2 t i).trans (congrArg Y (emb_cols inb_S512x1024_S512x256_0_512 t i _).symm)
  · obtain ⟨t, i, rfl⟩ : ∃ (t : Fin 512) (i : Fin 256), x = ix2 t i := ⟨x 0, x 1, eq_ix2 x⟩
    exact (h1 t i).trans (congrArg Y (emb_cols inb_S512x1024_S512x256_0_256 t i _).symm)
  · obtain ⟨t, i, rfl⟩ : ∃ (t : Fin 512) (i : Fin 256), x = ix2 t i := ⟨x 0, x 1, eq_ix2 x⟩
    exact (h0 t i).trans (congrArg Y (emb_cols inb_S512x1024_S512x256_0_0 t i _).symm)
  · simp only [List.mem_cons, List.not_mem_nil, or_false, exists_eq_or_imp, exists_eq_left, Rect.mem_set_unit, Fin.forall_fin_two]
    have := i.2; have := t.2
    simp
    omega

/-- The second product's four blocks, read back. -/
theorem read_cols (Y : FVec Ideal S512x1024 .f32) (P0 P1 P2 P3 : FVec Ideal S512x256 .f32)
    (h0 : ∀ t (j : Fin 256), P0 (ix2 t j) = Y (ix2 t ⟨0 + j.1, by omega⟩)) (h1 : ∀ t (j : Fin 256), P1 (ix2 t j) = Y (ix2 t ⟨256 + j.1, by omega⟩))
    (h2 : ∀ t (j : Fin 256), P2 (ix2 t j) = Y (ix2 t ⟨512 + j.1, by omega⟩)) (h3 : ∀ t (j : Fin 256), P3 (ix2 t j) = Y (ix2 t ⟨768 + j.1, by omega⟩)) :
    (View.whole cc0_scratch1).readCov (Val := Elt Ideal)
      [⟨Rect.unit ![0, 768] ![512, 256] inb_S512x1024_S512x256_0_768, P3⟩, ⟨Rect.unit ![0, 512] ![512, 256] inb_S512x1024_S512x256_0_512, P2⟩,
        ⟨Rect.unit ![0, 256] ![512, 256] inb_S512x1024_S512x256_0_256, P1⟩, ⟨Rect.unit ![0, 0] ![512, 256] inb_S512x1024_S512x256_0_0, P0⟩]
      (Rect.unit ![0, 0] ![512, 1024] inb_S512x1024_S512x1024_0_0).toLoadRect = Y := by
  rw [View.readCov_eq_canon']
  funext j
  have hj : (Rect.unit (s := S512x1024) ![0, 0] ![512, 1024] inb_S512x1024_S512x1024_0_0).toLoadRect.idx j = j := by
    funext a
    refine Fin.ext ?_
    match a with
    | 0 => simp
    | 1 => simp
  rw [hj]
  exact congrFun (canon_cols (e := .f32) Y P0 P1 P2 P3 h0 h1 h2 h3) j

/-- Eight blocks of columns stored, the whole read back. -/
theorem read_hidden (A : FVec Ideal S512x4096 .bf16) (P0 P1 P2 P3 P4 P5 P6 P7 : FVec Ideal S512x512 .bf16)
    (h0 : ∀ t (e : Fin 512), P0 (ix2 t e) = A (ix2 t ⟨0 + e.1, by omega⟩)) (h1 : ∀ t (e : Fin 512), P1 (ix2 t e) = A (ix2 t ⟨512 + e.1, by omega⟩))
    (h2 : ∀ t (e : Fin 512), P2 (ix2 t e) = A (ix2 t ⟨1024 + e.1, by omega⟩)) (h3 : ∀ t (e : Fin 512), P3 (ix2 t e) = A (ix2 t ⟨1536 + e.1, by omega⟩))
    (h4 : ∀ t (e : Fin 512), P4 (ix2 t e) = A (ix2 t ⟨2048 + e.1, by omega⟩)) (h5 : ∀ t (e : Fin 512), P5 (ix2 t e) = A (ix2 t ⟨2560 + e.1, by omega⟩))
    (h6 : ∀ t (e : Fin 512), P6 (ix2 t e) = A (ix2 t ⟨3072 + e.1, by omega⟩)) (h7 : ∀ t (e : Fin 512), P7 (ix2 t e) = A (ix2 t ⟨3584 + e.1, by omega⟩)) :
    (View.whole cc0_scratch0).readCov (Val := Elt Ideal)
      [⟨Rect.unit ![0, 3584] ![512, 512] inb_S512x4096_S512x512_0_3584, P7⟩, ⟨Rect.unit ![0, 3072] ![512, 512] inb_S512x4096_S512x512_0_3072, P6⟩,
        ⟨Rect.unit ![0, 2560] ![512, 512] inb_S512x4096_S512x512_0_2560, P5⟩, ⟨Rect.unit ![0, 2048] ![512, 512] inb_S512x4096_S512x512_0_2048, P4⟩,
        ⟨Rect.unit ![0, 1536] ![512, 512] inb_S512x4096_S512x512_0_1536, P3⟩, ⟨Rect.unit ![0, 1024] ![512, 512] inb_S512x4096_S512x512_0_1024, P2⟩,
        ⟨Rect.unit ![0, 512] ![512, 512] inb_S512x4096_S512x512_0_512, P1⟩, ⟨Rect.unit ![0, 0] ![512, 512] inb_S512x4096_S512x512_0_0, P0⟩]
      (Rect.unit ![0, 0] ![512, 4096] inb_S512x4096_S512x4096_0_0).toLoadRect = A := by
  rw [View.readCov_eq_canon']
  funext j
  obtain ⟨t, e, rfl⟩ : ∃ (t : Fin 512) (e : Fin 4096), j = ix2 t e := ⟨j 0, j 1, eq_ix2 j⟩
  have hj : (Rect.unit (s := S512x4096) ![0, 0] ![512, 4096] inb_S512x4096_S512x4096_0_0).toLoadRect.idx (ix2 t e) = (ix2 t e : S512x4096.Idx) := by
    funext a
    refine Fin.ext ?_
    match a with
    | 0 => simp
    | 1 => simp
  rw [hj]
  refine View.canon_append_of_piecesOf (s := S512x4096) (e := .bf16) (Val := Elt Ideal) A [] [_, _, _, _, _, _, _, _] ⟨fun x => ?_, fun x => ?_, fun x => ?_, fun x => ?_, fun x => ?_, fun x => ?_, fun x => ?_, fun x => ?_, trivial⟩ _ ?_
  · obtain ⟨t, e, rfl⟩ : ∃ (t : Fin 512) (e : Fin 512), x = ix2 t e := ⟨x 0, x 1, eq_ix2 x⟩
    exact (h7 t e).trans (congrArg A (emb_cols inb_S512x4096_S512x512_0_3584 t e _).symm)
  · obtain ⟨t, e, rfl⟩ : ∃ (t : Fin 512) (e : Fin 512), x = ix2 t e := ⟨x 0, x 1, eq_ix2 x⟩
    exact (h6 t e).trans (congrArg A (emb_cols inb_S512x4096_S512x512_0_3072 t e _).symm)
  · obtain ⟨t, e, rfl⟩ : ∃ (t : Fin 512) (e : Fin 512), x = ix2 t e := ⟨x 0, x 1, eq_ix2 x⟩
    exact (h5 t e).trans (congrArg A (emb_cols inb_S512x4096_S512x512_0_2560 t e _).symm)
  · obtain ⟨t, e, rfl⟩ : ∃ (t : Fin 512) (e : Fin 512), x = ix2 t e := ⟨x 0, x 1, eq_ix2 x⟩
    exact (h4 t e).trans (congrArg A (emb_cols inb_S512x4096_S512x512_0_2048 t e _).symm)
  · obtain ⟨t, e, rfl⟩ : ∃ (t : Fin 512) (e : Fin 512), x = ix2 t e := ⟨x 0, x 1, eq_ix2 x⟩
    exact (h3 t e).trans (congrArg A (emb_cols inb_S512x4096_S512x512_0_1536 t e _).symm)
  · obtain ⟨t, e, rfl⟩ : ∃ (t : Fin 512) (e : Fin 512), x = ix2 t e := ⟨x 0, x 1, eq_ix2 x⟩
    exact (h2 t e).trans (congrArg A (emb_cols inb_S512x4096_S512x512_0_1024 t e _).symm)
  · obtain ⟨t, e, rfl⟩ : ∃ (t : Fin 512) (e : Fin 512), x = ix2 t e := ⟨x 0, x 1, eq_ix2 x⟩
    exact (h1 t e).trans (congrArg A (emb_cols inb_S512x4096_S512x512_0_512 t e _).symm)
  · obtain ⟨t, e, rfl⟩ : ∃ (t : Fin 512) (e : Fin 512), x = ix2 t e := ⟨x 0, x 1, eq_ix2 x⟩
    exact (h0 t e).trans (congrArg A (emb_cols inb_S512x4096_S512x512_0_0 t e _).symm)
  · simp only [List.mem_cons, List.not_mem_nil, or_false, exists_eq_or_imp, exists_eq_left, Rect.mem_set_unit, Fin.forall_fin_two]
    have := e.2; have := t.2
    simp
    omega
end Read

section Body
variable (x0 : FVec Ideal S512x1024 .f32) (x1 x2 : FVec Ideal S1x1024 .f32) (x3 : FVec Ideal S1x1024x4096 .bf16) (x4 : FVec Ideal S1x4096x1024 .bf16)
  (x5 : FVec Ideal S1x1024 .f32) (x6 : FVec Ideal S1024x2048 .bf16) (x7 : FVec Ideal S1x1024 .f32) (x8 : FVec Ideal S1024x1024 .bf16)

/-- A block of rows after the MLP. -/
def outB : FVec Ideal S512x1024 .f32 := fun y => mlpRow (row x0 (y 0)) (vec x1) (vec x2) (mat1 x3) (mat1 x4) (y 1)
/-- A block of rows' norms, projected. -/
def projB (O : FVec Ideal S512x1024 .f32) (g : FVec Ideal S1x1024 .f32) (w : Fin 1024 → Fin 1024 → EReal) : FVec Ideal S512x1024 .bf16 :=
  fun y => projRow (row O (y 0)) (vec g) w (y 1)
/-- The keys' matrix. -/
def matK (w : FVec Ideal S1024x2048 .bf16) : Fin 1024 → Fin 1024 → EReal := fun k j => w (ix2 k ⟨j.1, by omega⟩)
/-- The values' matrix. -/
def matV (w : FVec Ideal S1024x2048 .bf16) : Fin 1024 → Fin 1024 → EReal := fun k j => w (ix2 k ⟨1024 + j.1, by omega⟩)
/-- The queries' matrix. -/
def matQ (w : FVec Ideal S1024x1024 .bf16) : Fin 1024 → Fin 1024 → EReal := fun k j => w (ix2 k j)
/-- A block of queries. -/
def queryB (O : FVec Ideal S512x1024 .f32) (g : FVec Ideal S1x1024 .f32) (w : Fin 1024 → Fin 1024 → EReal) : FVec Ideal S512x1024 .bf16 :=
  fun y => projRow (row O (y 0)) (vec g) w (y 1) * qScale

theorem pay1_apply (X : FVec Ideal S512x1024 .f32) (t : Fin 512) (j : Fin 1024) : (k0_pay1 (F := Ideal) X x1 (ix2 t j) : EReal) = rms (row X t) (vec x1) j := by
  pointwise [k0_pay1]
  rfl
theorem pay4_apply (H : FVec Ideal S512x1024 .bf16) (V : FVec Ideal S1x1024x512 .bf16) (t f : Fin 512) :
    (k0_pay4 (F := Ideal) H V (ix2 t f) : EReal) = max (∑ k, H (ix2 t k) * V (ix3 0 k f)) 0 * max (∑ k, H (ix2 t k) * V (ix3 0 k f)) 0 := by
  pointwise [k0_pay4]
theorem pay15_apply (A : FVec Ideal S512x4096 .bf16) (V : FVec Ideal S1x4096x256 .bf16) (t : Fin 512) (e : Fin 256) :
    (k0_pay15 (F := Ideal) A V (ix2 t e) : EReal) = ∑ k, A (ix2 t k) * V (ix3 0 k e) := by
  pointwise [k0_pay15]
theorem pay16_apply (A : FVec Ideal S512x4096 .bf16) (V : FVec Ideal S1x4096x256 .bf16) (t : Fin 512) (e : Fin 256) :
    (k0_pay16 (F := Ideal) A V (ix2 t e) : EReal) = ∑ k, A (ix2 t k) * V (ix3 0 k e) := by
  pointwise [k0_pay16, k0_pay15]
theorem pay26_apply (O : FVec Ideal S512x1024 .f32) (t : Fin 512) (j : Fin 1024) :
    (k0_pay26 (F := Ideal) (k0_pay23 O) (k0_pay24 x5) (k0_pay25 O) (ix2 t j) : EReal) = rms (row O t) (vec x5) j := by
  pointwise [k0_pay26, k0_pay23, k0_pay24, k0_pay25]
  rfl
theorem pay35_apply (O : FVec Ideal S512x1024 .f32) (t : Fin 512) (j : Fin 1024) : (k0_pay35 (F := Ideal) O x7 (ix2 t j) : EReal) = rms (row O t) (vec x7) j := by
  pointwise [k0_pay35]
  rfl
theorem pay32_apply (H : FVec Ideal S512x1024 .bf16) (V : FVec Ideal S1024x256 .bf16) (t : Fin 512) (e : Fin 256) :
    (k0_pay32 (F := Ideal) H V (ix2 t e) : EReal) = ∑ k, H (ix2 t k) * V (ix2 k e) := by
  pointwise [k0_pay32]
theorem pay36_apply (H : FVec Ideal S512x1024 .bf16) (V : FVec Ideal S1024x256 .bf16) (t : Fin 512) (e : Fin 256) :
    (k0_pay36 (F := Ideal) H V (ix2 t e) : EReal) = (∑ k, H (ix2 t k) * V (ix2 k e)) * qScale := by
  pointwise [k0_pay36]
  rfl

/-- A block of the hidden lanes. -/
theorem hid_cols {o : ℕ} {inb} (t f : Fin 512) (h : o + f.1 < 4096) :
    (k0_pay4 (F := Ideal) (k0_pay1 x0 x1) (View.ld (Val := Elt Ideal) (e' := .bf16) x3 (Rect.unit (s := S1x1024x4096) ![0, 0, o] ![1, 1024, 512] inb)) (ix2 t f) : EReal)
      = hidB x1 x3 x0 (ix2 t ⟨o + f.1, h⟩) := by
  have hs : (∑ k : Fin 1024, (k0_pay1 (F := Ideal) x0 x1 (ix2 t k) : EReal) * View.ld (Val := Elt Ideal) (e' := .bf16) x3 (Rect.unit (s := S1x1024x4096) ![0, 0, o] ![1, 1024, 512] inb) (ix3 0 k f))
      = ∑ k, rms (row x0 t) (vec x1) k * mat1 x3 k ⟨o + f.1, h⟩ :=
    Finset.sum_congr rfl fun k _ => congrArg₂ (· * ·) (pay1_apply x1 x0 t k) (ld_mat1 x3 k f h)
  refine (pay4_apply _ _ t f).trans ?_
  rw [hs]
  rfl
/-- A block of the second product's columns. -/
theorem down_cols {o : ℕ} {inb} (A : FVec Ideal S512x4096 .bf16) (t : Fin 512) (e : Fin 256) (h : o + e.1 < 1024) :
    (k0_pay16 (F := Ideal) A (View.ld (Val := Elt Ideal) (e' := .bf16) x4 (Rect.unit (s := S1x4096x1024) ![0, 0, o] ![1, 4096, 256] inb)) (ix2 t e) : EReal) = downB x4 A (ix2 t ⟨o + e.1, h⟩) :=
  (pay16_apply _ _ t e).trans (Finset.sum_congr rfl fun k _ => congrArg (A (ix2 t k) * ·) (ld_mat1 x4 k e h))
theorem down_cols' {o : ℕ} {inb} (A : FVec Ideal S512x4096 .bf16) (t : Fin 512) (e : Fin 256) (h : o + e.1 < 1024) :
    (k0_pay15 (F := Ideal) A (View.ld (Val := Elt Ideal) (e' := .bf16) x4 (Rect.unit (s := S1x4096x1024) ![0, 0, o] ![1, 4096, 256] inb)) (ix2 t e) : EReal) = downB x4 A (ix2 t ⟨o + e.1, h⟩) :=
  (pay15_apply _ _ t e).trans (Finset.sum_congr rfl fun k _ => congrArg (A (ix2 t k) * ·) (ld_mat1 x4 k e h))
/-- A block of the keys' and values' columns. -/
theorem kv_cols {o : ℕ} {inb} (O : FVec Ideal S512x1024 .f32) (t : Fin 512) (e : Fin 256) (h : o + e.1 < 2048) :
    (k0_pay32 (F := Ideal) (k0_pay26 (k0_pay23 O) (k0_pay24 x5) (k0_pay25 O)) (View.ld (Val := Elt Ideal) (e' := .bf16) x6 (Rect.unit (s := S1024x2048) ![0, o] ![1024, 256] inb)) (ix2 t e) : EReal)
      = ∑ k, rms (row O t) (vec x5) k * x6 (ix2 k ⟨o + e.1, h⟩) :=
  (pay32_apply _ _ t e).trans (Finset.sum_congr rfl fun k _ => congrArg₂ (· * ·) (pay26_apply x5 O t k) (congrArg x6 (emb_cols inb k e h)))
/-- A block of the queries' columns. -/
theorem q_cols {o : ℕ} {inb} (O : FVec Ideal S512x1024 .f32) (t : Fin 512) (e : Fin 256) (h : o + e.1 < 1024) :
    (k0_pay36 (F := Ideal) (k0_pay35 O x7) (View.ld (Val := Elt Ideal) (e' := .bf16) x8 (Rect.unit (s := S1024x1024) ![0, o] ![1024, 256] inb)) (ix2 t e) : EReal)
      = queryB O x7 (matQ x8) (ix2 t ⟨o + e.1, h⟩) :=
  (pay36_apply _ _ t e).trans (congrArg (· * qScale) (Finset.sum_congr rfl fun k _ => congrArg₂ (· * ·) (pay35_apply x7 O t k) (congrArg x8 (emb_cols inb k e h))))

/-- The hidden lanes, read back. -/
theorem read_hid : (View.whole cc0_scratch0).readCov (Val := Elt Ideal)
      [⟨Rect.unit ![0, 3584] ![512, 512] inb_S512x4096_S512x512_0_3584, k0_pay10 (k0_pay1 x0 x1) (View.ld (Val := Elt Ideal) (e' := .bf16) x3 (Rect.unit (s := S1x1024x4096) ![0, 0, 3584] ![1, 1024, 512] inb_S1x1024x4096_S1x1024x512_0_0_3584))⟩,
        ⟨Rect.unit ![0, 3072] ![512, 512] inb_S512x4096_S512x512_0_3072, k0_pay9 (k0_pay1 x0 x1) (View.ld (Val := Elt Ideal) (e' := .bf16) x3 (Rect.unit (s := S1x1024x4096) ![0, 0, 3072] ![1, 1024, 512] inb_S1x1024x4096_S1x1024x512_0_0_3072))⟩,
        ⟨Rect.unit ![0, 2560] ![512, 512] inb_S512x4096_S512x512_0_2560, k0_pay8 (k0_pay1 x0 x1) (k0_pay7 (View.ld (Val := Elt Ideal) (e' := .bf16) x3 (Rect.unit (s := S1x1024x4096) ![0, 0, 2560] ![1, 1024, 512] inb_S1x1024x4096_S1x1024x512_0_0_2560)))⟩,
        ⟨Rect.unit ![0, 2048] ![512, 512] inb_S512x4096_S512x512_0_2048, k0_pay6 (k0_pay1 x0 x1) (View.ld (Val := Elt Ideal) (e' := .bf16) x3 (Rect.unit (s := S1x1024x4096) ![0, 0, 2048] ![1, 1024, 512] inb_S1x1024x4096_S1x1024x512_0_0_2048))⟩,
        ⟨Rect.unit ![0, 1536] ![512, 512] inb_S512x4096_S512x512_0_1536, k0_pay5 (k0_pay1 x0 x1) (View.ld (Val := Elt Ideal) (e' := .bf16) x3 (Rect.unit (s := S1x1024x4096) ![0, 0, 1536] ![1, 1024, 512] inb_S1x1024x4096_S1x1024x512_0_0_1536))⟩,
        ⟨Rect.unit ![0, 1024] ![512, 512] inb_S512x4096_S512x512_0_1024, k0_pay4 (k0_pay1 x0 x1) (View.ld (Val := Elt Ideal) (e' := .bf16) x3 (Rect.unit (s := S1x1024x4096) ![0, 0, 1024] ![1, 1024, 512] inb_S1x1024x4096_S1x1024x512_0_0_1024))⟩,
        ⟨Rect.unit ![0, 512] ![512, 512] inb_S512x4096_S512x512_0_512, k0_pay3 x0 x1 (View.ld (Val := Elt Ideal) (e' := .bf16) x3 (Rect.unit (s := S1x1024x4096) ![0, 0, 512] ![1, 1024, 512] inb_S1x1024x4096_S1x1024x512_0_0_512))⟩,
        ⟨Rect.unit ![0, 0] ![512, 512] inb_S512x4096_S512x512_0_0, k0_pay2 x0 x1 (View.ld (Val := Elt Ideal) (e' := .bf16) x3 (Rect.unit (s := S1x1024x4096) ![0, 0, 0] ![1, 1024, 512] inb_S1x1024x4096_S1x1024x512_0_0_0))⟩]
      (Rect.unit ![0, 0] ![512, 4096] inb_S512x4096_S512x4096_0_0).toLoadRect = hidB x1 x3 x0 :=
  read_hidden (hidB x1 x3 x0) _ _ _ _ _ _ _ _ (fun t e => hid_cols x0 x1 x3 t e _) (fun t e => hid_cols x0 x1 x3 t e _) (fun t e => hid_cols x0 x1 x3 t e _) (fun t e => hid_cols x0 x1 x3 t e _)
    (fun t e => hid_cols x0 x1 x3 t e _) (fun t e => hid_cols x0 x1 x3 t e _) (fun t e => hid_cols x0 x1 x3 t e _) (fun t e => hid_cols x0 x1 x3 t e _)
/-- The second product, read back. -/
theorem read_down (A : FVec Ideal S512x4096 .bf16) : (View.whole cc0_scratch1).readCov (Val := Elt Ideal)
      [⟨Rect.unit ![0, 768] ![512, 256] inb_S512x1024_S512x256_0_768, k0_pay21 A (View.ld (Val := Elt Ideal) (e' := .bf16) x4 (Rect.unit (s := S1x4096x1024) ![0, 0, 768] ![1, 4096, 256] inb_S1x4096x1024_S1x4096x256_0_0_768))⟩,
        ⟨Rect.unit ![0, 512] ![512, 256] inb_S512x1024_S512x256_0_512, k0_pay18 A (View.ld (Val := Elt Ideal) (e' := .bf16) x4 (Rect.unit (s := S1x4096x1024) ![0, 0, 512] ![1, 4096, 256] inb_S1x4096x1024_S1x4096x256_0_0_512))⟩,
        ⟨Rect.unit ![0, 256] ![512, 256] inb_S512x1024_S512x256_0_256, k0_pay16 A (View.ld (Val := Elt Ideal) (e' := .bf16) x4 (Rect.unit (s := S1x4096x1024) ![0, 0, 256] ![1, 4096, 256] inb_S1x4096x1024_S1x4096x256_0_0_256))⟩,
        ⟨Rect.unit ![0, 0] ![512, 256] inb_S512x1024_S512x256_0_0, k0_pay14 A (k0_pay12 (View.ld (Val := Elt Ideal) (e' := .bf16) x4 (Rect.unit (s := S1x4096x1024) ![0, 0, 0] ![1, 4096, 256] inb_S1x4096x1024_S1x4096x256_0_0_0))) (constant S512x256 .f32 0x00000000#32)⟩]
      (Rect.unit ![0, 0] ![512, 1024] inb_S512x1024_S512x1024_0_0).toLoadRect = downB x4 A :=
  read_cols (downB x4 A) _ _ _ _ (fun t e => down_cols x4 A t e _) (fun t e => down_cols x4 A t e _) (fun t e => down_cols x4 A t e _) (fun t e => down_cols x4 A t e _)

/-- The last norm, from the four blocks' sums of squares. -/
theorem last_eq : (k0_pay22 (k0_pay19 k0_pay11 (hidB x1 x3 x0) (k0_pay12 (View.ld (Val := Elt Ideal) (e' := .bf16) x4 (Rect.unit (s := S1x4096x1024) ![0, 0, 0] ![1, 4096, 256] inb_S1x4096x1024_S1x4096x256_0_0_0))) (constant S512x256 .f32 0x00000000#32) (hidB x1 x3 x0) (View.ld (Val := Elt Ideal) (e' := .bf16) x4 (Rect.unit (s := S1x4096x1024) ![0, 0, 256] ![1, 4096, 256] inb_S1x4096x1024_S1x4096x256_0_0_256)) (hidB x1 x3 x0) (View.ld (Val := Elt Ideal) (e' := .bf16) x4 (Rect.unit (s := S1x4096x1024) ![0, 0, 512] ![1, 4096, 256] inb_S1x4096x1024_S1x4096x256_0_0_512))) (hidB x1 x3 x0) (View.ld (Val := Elt Ideal) (e' := .bf16) x4 (Rect.unit (s := S1x4096x1024) ![0, 0, 768] ![1, 4096, 256] inb_S1x4096x1024_S1x4096x256_0_0_768)) x0 (downB x4 (hidB x1 x3 x0)) x2 : FVec Ideal S512x1024 .f32) = outB x0 x1 x2 x3 x4 := by
  generalize hA : hidB x1 x3 x0 = A
  funext y
  obtain ⟨t, j, rfl⟩ : ∃ (t : Fin 512) (j : Fin 1024), y = ix2 t j := ⟨y 0, y 1, eq_ix2 y⟩
  have hs := sum_quarters fun i => (downB x4 A (ix2 t i) : EReal) * downB x4 A (ix2 t i)
  have q0 : ∀ x : Fin 256, (k0_pay13 (F := Ideal) A (k0_pay12 (View.ld (Val := Elt Ideal) (e' := .bf16) x4 (Rect.unit (s := S1x4096x1024) ![0, 0, 0] ![1, 4096, 256] inb_S1x4096x1024_S1x4096x256_0_0_0))) (constant S512x256 .f32 0x00000000#32) (ix2 t x) : EReal) = downB x4 A (ix2 t ⟨x.1, by omega⟩) :=
    fun x => (down_cols' x4 A t x (by omega)).trans (by simp only [Nat.zero_add])
  have q1 : ∀ x : Fin 256, (k0_pay15 (F := Ideal) A (View.ld (Val := Elt Ideal) (e' := .bf16) x4 (Rect.unit (s := S1x4096x1024) ![0, 0, 256] ![1, 4096, 256] inb_S1x4096x1024_S1x4096x256_0_0_256)) (ix2 t x) : EReal) = downB x4 A (ix2 t ⟨256 + x.1, by omega⟩) :=
    fun x => down_cols' x4 A t x _
  have q2 : ∀ x : Fin 256, (k0_pay17 (F := Ideal) A (View.ld (Val := Elt Ideal) (e' := .bf16) x4 (Rect.unit (s := S1x4096x1024) ![0, 0, 512] ![1, 4096, 256] inb_S1x4096x1024_S1x4096x256_0_0_512)) (ix2 t x) : EReal) = downB x4 A (ix2 t ⟨512 + x.1, by omega⟩) :=
    fun x => down_cols' x4 A t x _
  have q3 : ∀ x : Fin 256, (k0_pay20 (F := Ideal) A (View.ld (Val := Elt Ideal) (e' := .bf16) x4 (Rect.unit (s := S1x4096x1024) ![0, 0, 768] ![1, 4096, 256] inb_S1x4096x1024_S1x4096x256_0_0_768)) (ix2 t x) : EReal) = downB x4 A (ix2 t ⟨768 + x.1, by omega⟩) :=
    fun x => down_cols' x4 A t x _
  show (_ : EReal) = _
  pointwise [k0_pay22, k0_pay19, k0_pay11]
  simp only [q0, q1, q2, q3]
  rw [mul_inv1024, ← hs, ← hA]
  rfl

/-- The keys' four blocks. -/
theorem keys_eq (O : FVec Ideal S512x1024 .f32) : View.canon (Val := Elt Ideal) (s := S512x1024) (e := .bf16)
      [⟨Rect.unit ![0, 768] ![512, 256] inb_S512x1024_S512x256_0_768, k0_pay30 (k0_pay23 O) (k0_pay24 x5) (k0_pay25 O) (View.ld (Val := Elt Ideal) (e' := .bf16) x6 (Rect.unit (s := S1024x2048) ![0, 768] ![1024, 256] inb_S1024x2048_S1024x256_0_768))⟩,
        ⟨Rect.unit ![0, 512] ![512, 256] inb_S512x1024_S512x256_0_512, k0_pay29 (k0_pay23 O) (k0_pay24 x5) (k0_pay25 O) (View.ld (Val := Elt Ideal) (e' := .bf16) x6 (Rect.unit (s := S1024x2048) ![0, 512] ![1024, 256] inb_S1024x2048_S1024x256_0_512))⟩,
        ⟨Rect.unit ![0, 256] ![512, 256] inb_S512x1024_S512x256_0_256, k0_pay28 (k0_pay23 O) (k0_pay24 x5) (k0_pay25 O) (View.ld (Val := Elt Ideal) (e' := .bf16) x6 (Rect.unit (s := S1024x2048) ![0, 256] ![1024, 256] inb_S1024x2048_S1024x256_0_256))⟩,
        ⟨Rect.unit ![0, 0] ![512, 256] inb_S512x1024_S512x256_0_0, k0_pay27 (k0_pay23 O) (k0_pay24 x5) (k0_pay25 O) (View.ld (Val := Elt Ideal) (e' := .bf16) x6 (Rect.unit (s := S1024x2048) ![0, 0] ![1024, 256] inb_S1024x2048_S1024x256_0_0))⟩] = projB O x5 (matK x6) :=
  canon_cols (e := .bf16) (projB O x5 (matK x6)) _ _ _ _ (fun t e => kv_cols x5 x6 O t e _) (fun t e => kv_cols x5 x6 O t e _) (fun t e => kv_cols x5 x6 O t e _) (fun t e => kv_cols x5 x6 O t e _)
/-- The values' four blocks. -/
theorem values_eq (O : FVec Ideal S512x1024 .f32) : View.canon (Val := Elt Ideal) (s := S512x1024) (e := .bf16)
      [⟨Rect.unit ![0, 768] ![512, 256] inb_S512x1024_S512x256_0_768, k0_pay34 (k0_pay26 (k0_pay23 O) (k0_pay24 x5) (k0_pay25 O)) (View.ld (Val := Elt Ideal) (e' := .bf16) x6 (Rect.unit (s := S1024x2048) ![0, 1792] ![1024, 256] inb_S1024x2048_S1024x256_0_1792))⟩,
        ⟨Rect.unit ![0, 512] ![512, 256] inb_S512x1024_S512x256_0_512, k0_pay33 (k0_pay26 (k0_pay23 O) (k0_pay24 x5) (k0_pay25 O)) (View.ld (Val := Elt Ideal) (e' := .bf16) x6 (Rect.unit (s := S1024x2048) ![0, 1536] ![1024, 256] inb_S1024x2048_S1024x256_0_1536))⟩,
        ⟨Rect.unit ![0, 256] ![512, 256] inb_S512x1024_S512x256_0_256, k0_pay32 (k0_pay26 (k0_pay23 O) (k0_pay24 x5) (k0_pay25 O)) (View.ld (Val := Elt Ideal) (e' := .bf16) x6 (Rect.unit (s := S1024x2048) ![0, 1280] ![1024, 256] inb_S1024x2048_S1024x256_0_1280))⟩,
        ⟨Rect.unit ![0, 0] ![512, 256] inb_S512x1024_S512x256_0_0, k0_pay31 (k0_pay23 O) (k0_pay24 x5) (k0_pay25 O) (View.ld (Val := Elt Ideal) (e' := .bf16) x6 (Rect.unit (s := S1024x2048) ![0, 1024] ![1024, 256] inb_S1024x2048_S1024x256_0_1024))⟩] = projB O x5 (matV x6) :=
  canon_cols (e := .bf16) (projB O x5 (matV x6)) _ _ _ _ (fun t e => (kv_cols x5 x6 (o := 1024) O t e (by omega)).trans (Finset.sum_congr rfl fun k _ => congrArg (fun n => (_ : EReal) * x6 (ix2 k n)) (Fin.ext (show 1024 + e.1 = 1024 + (0 + e.1) by omega)))) (fun t e => (kv_cols x5 x6 (o := 1280) O t e (by omega)).trans (Finset.sum_congr rfl fun k _ => congrArg (fun n => (_ : EReal) * x6 (ix2 k n)) (Fin.ext (show 1280 + e.1 = 1024 + (256 + e.1) by omega)))) (fun t e => (kv_cols x5 x6 (o := 1536) O t e (by omega)).trans (Finset.sum_congr rfl fun k _ => congrArg (fun n => (_ : EReal) * x6 (ix2 k n)) (Fin.ext (show 1536 + e.1 = 1024 + (512 + e.1) by omega)))) (fun t e => (kv_cols x5 x6 (o := 1792) O t e (by omega)).trans (Finset.sum_congr rfl fun k _ => congrArg (fun n => (_ : EReal) * x6 (ix2 k n)) (Fin.ext (show 1792 + e.1 = 1024 + (768 + e.1) by omega))))
/-- The queries' four blocks. -/
theorem queries_eq (O : FVec Ideal S512x1024 .f32) : View.canon (Val := Elt Ideal) (s := S512x1024) (e := .bf16)
      [⟨Rect.unit ![0, 768] ![512, 256] inb_S512x1024_S512x256_0_768, k0_pay39 (k0_pay35 O x7) (View.ld (Val := Elt Ideal) (e' := .bf16) x8 (Rect.unit (s := S1024x1024) ![0, 768] ![1024, 256] inb_S1024x1024_S1024x256_0_768))⟩,
        ⟨Rect.unit ![0, 512] ![512, 256] inb_S512x1024_S512x256_0_512, k0_pay38 (k0_pay35 O x7) (View.ld (Val := Elt Ideal) (e' := .bf16) x8 (Rect.unit (s := S1024x1024) ![0, 512] ![1024, 256] inb_S1024x1024_S1024x256_0_512))⟩,
        ⟨Rect.unit ![0, 256] ![512, 256] inb_S512x1024_S512x256_0_256, k0_pay37 (k0_pay35 O x7) (View.ld (Val := Elt Ideal) (e' := .bf16) x8 (Rect.unit (s := S1024x1024) ![0, 256] ![1024, 256] inb_S1024x1024_S1024x256_0_256))⟩,
        ⟨Rect.unit ![0, 0] ![512, 256] inb_S512x1024_S512x256_0_0, k0_pay36 (k0_pay35 O x7) (View.ld (Val := Elt Ideal) (e' := .bf16) x8 (Rect.unit (s := S1024x1024) ![0, 0] ![1024, 256] inb_S1024x1024_S1024x256_0_0))⟩] = queryB O x7 (matQ x8) :=
  canon_cols (e := .bf16) (queryB O x7 (matQ x8)) _ _ _ _ (fun t e => q_cols x7 x8 O t e _) (fun t e => q_cols x7 x8 O t e _) (fun t e => q_cols x7 x8 O t e _) (fun t e => q_cols x7 x8 O t e _)
end Body

end
end Cert.Kernel3Ideal.M
end
-- ==== Proof.Block3Run.lean ====
module

public import proofs.«01_k».proof.Proof.Block3
public import proofs.«01_k».proof.Proof.Gen.Kernel3Ideal.Value

@[expose] public section

set_option maxRecDepth 16384

/-!
# Layer 1's block of rows, run

Each of the four outputs' blocks, from the run of the body.
-/

namespace Cert.Kernel3Ideal.M
open Idealize.ShloMosaic Idealize.SL.Sem
open Idealize.ShloMosaic.TcCoe
open Idealize.ShloMosaic.Pipeline (Dat)
open Cert.Kernel3Ideal.Gen
open Cert.Mlp
open Cert.Kernel2Ideal.M (row vec mat1 hidB downB)
noncomputable section

variable (m : (ℓ : Loc nD τ sig) → Buf (Elt Ideal) ℓ) (c : Dev nD)

set_option maxHeartbeats 1000000 in
/-- Point `t` writes back the rows. -/
theorem flushed9_eq (t : Fin cfg0.N) : (dats m 0 c).flushed 9 t = outB (iblk m c 0 t) (iblk m c 1 t) (iblk m c 2 t) (iblk m c 3 t) (iblk m c 4 t) := by
  rw [Cert.Kernel3Ideal.Value.flushed9_A]
  frame_open
  simp (disch := decide) only [↓ View.readCov_skip, ↓ View.readCov_cons_toLoadRect, ↓ View.readCov_fill]
  frame_out
  generalize (iblk m c 0 t : FVec Ideal S512x1024 .f32) = x0
  generalize (iblk m c 1 t : FVec Ideal S1x1024 .f32) = x1
  generalize (iblk m c 2 t : FVec Ideal S1x1024 .f32) = x2
  generalize (iblk m c 3 t : FVec Ideal S1x1024x4096 .bf16) = x3
  generalize (iblk m c 4 t : FVec Ideal S1x4096x1024 .bf16) = x4
  erw [read_hid x0 x1 x3]
  erw [read_down x4 (hidB x1 x3 x0)]
  exact last_eq x0 x1 x2 x3 x4

set_option maxHeartbeats 1000000 in
/-- Point `t` writes back the keys. -/
theorem flushed10_eq (t : Fin cfg0.N) : (dats m 0 c).flushed 10 t = projB (outB (iblk m c 0 t) (iblk m c 1 t) (iblk m c 2 t) (iblk m c 3 t) (iblk m c 4 t)) (iblk m c 5 t) (matK (iblk m c 6 t)) := by
  rw [Cert.Kernel3Ideal.Value.flushed10_A]
  frame_open
  simp (disch := decide) only [↓ View.readCov_skip, ↓ View.readCov_cons_toLoadRect, ↓ View.readCov_fill]
  frame_out
  generalize (iblk m c 0 t : FVec Ideal S512x1024 .f32) = x0
  generalize (iblk m c 1 t : FVec Ideal S1x1024 .f32) = x1
  generalize (iblk m c 2 t : FVec Ideal S1x1024 .f32) = x2
  generalize (iblk m c 3 t : FVec Ideal S1x1024x4096 .bf16) = x3
  generalize (iblk m c 4 t : FVec Ideal S1x4096x1024 .bf16) = x4
  generalize (iblk m c 5 t : FVec Ideal S1x1024 .f32) = x5
  generalize (iblk m c 6 t : FVec Ideal S1024x2048 .bf16) = x6
  erw [read_hid x0 x1 x3]
  erw [read_down x4 (hidB x1 x3 x0)]
  have h := last_eq x0 x1 x2 x3 x4
  unfold k0_pay22 k0_pay19 k0_pay20 k0_pay17 k0_pay15 k0_pay13 k0_pay12 k0_pay11 at h
  simp only [h]
  generalize outB x0 x1 x2 x3 x4 = O
  exact keys_eq x5 x6 O

set_option maxHeartbeats 1000000 in
/-- Point `t` writes back the values. -/
theorem flushed11_eq (t : Fin cfg0.N) : (dats m 0 c).flushed 11 t = projB (outB (iblk m c 0 t) (iblk m c 1 t) (iblk m c 2 t) (iblk m c 3 t) (iblk m c 4 t)) (iblk m c 5 t) (matV (iblk m c 6 t)) := by
  rw [Cert.Kernel3Ideal.Value.flushed11_A]
  frame_open
  simp (disch := decide) only [↓ View.readCov_skip, ↓ View.readCov_cons_toLoadRect, ↓ View.readCov_fill]
  frame_out
  generalize (iblk m c 0 t : FVec Ideal S512x1024 .f32) = x0
  generalize (iblk m c 1 t : FVec Ideal S1x1024 .f32) = x1
  generalize (iblk m c 2 t : FVec Ideal S1x1024 .f32) = x2
  generalize (iblk m c 3 t : FVec Ideal S1x1024x4096 .bf16) = x3
  generalize (iblk m c 4 t : FVec Ideal S1x4096x1024 .bf16) = x4
  generalize (iblk m c 5 t : FVec Ideal S1x1024 .f32) = x5
  generalize (iblk m c 6 t : FVec Ideal S1024x2048 .bf16) = x6
  erw [read_hid x0 x1 x3]
  erw [read_down x4 (hidB x1 x3 x0)]
  have h := last_eq x0 x1 x2 x3 x4
  unfold k0_pay22 k0_pay19 k0_pay20 k0_pay17 k0_pay15 k0_pay13 k0_pay12 k0_pay11 at h
  simp only [h]
  generalize outB x0 x1 x2 x3 x4 = O
  exact values_eq x5 x6 O

set_option maxHeartbeats 1000000 in
/-- Point `t` writes back the queries. -/
theorem flushed12_eq (t : Fin cfg0.N) : (dats m 0 c).flushed 12 t = queryB (outB (iblk m c 0 t) (iblk m c 1 t) (iblk m c 2 t) (iblk m c 3 t) (iblk m c 4 t)) (iblk m c 7 t) (matQ (iblk m c 8 t)) := by
  rw [Cert.Kernel3Ideal.Value.flushed12_A]
  frame_open
  simp (disch := decide) only [↓ View.readCov_skip, ↓ View.readCov_cons_toLoadRect, ↓ View.readCov_fill]
  frame_out
  generalize (iblk m c 0 t : FVec Ideal S512x1024 .f32) = x0
  generalize (iblk m c 1 t : FVec Ideal S1x1024 .f32) = x1
  generalize (iblk m c 2 t : FVec Ideal S1x1024 .f32) = x2
  generalize (iblk m c 3 t : FVec Ideal S1x1024x4096 .bf16) = x3
  generalize (iblk m c 4 t : FVec Ideal S1x4096x1024 .bf16) = x4
  generalize (iblk m c 7 t : FVec Ideal S1x1024 .f32) = x7
  generalize (iblk m c 8 t : FVec Ideal S1024x1024 .bf16) = x8
  erw [read_hid x0 x1 x3]
  erw [read_down x4 (hidB x1 x3 x0)]
  have h := last_eq x0 x1 x2 x3 x4
  unfold k0_pay22 k0_pay19 k0_pay20 k0_pay17 k0_pay15 k0_pay13 k0_pay12 k0_pay11 at h
  simp only [h]
  generalize outB x0 x1 x2 x3 x4 = O
  exact queries_eq x7 x8 O

end
end Cert.Kernel3Ideal.M
end
-- ==== Proof.Layer3.lean ====
module

public import proofs.«01_k».proof.Proof.Block3Run
public import Idealize.ShloMosaic.Lib.Claim

@[expose] public section

set_option maxRecDepth 16384

/-!
# The arrays layer 1's call leaves
-/

namespace Cert.Kernel3Ideal.M
open Idealize.ShloMosaic Idealize.SL.Sem
open Idealize.ShloMosaic.TcCoe
open Idealize.ShloMosaic.Pipeline (Dat)
open Cert.Kernel3Ideal.Gen
open Cert.Mlp
open Cert.Kernel2Ideal.M (row vec mat1)
noncomputable section

section Layer
variable (x : FVec Ideal S8x4096x1024 .f32) (wq : FVec Ideal S2x1024x1024 .f32) (wkv : FVec Ideal S1024x2048 .f32) (gkv : FVec Ideal S1024 .f32)
  (wu : FVec Ideal S4x1024x4096 .f32) (wd : FVec Ideal S4x4096x1024 .f32) (gm gp gq : FVec Ideal S4x1024 .f32)

/-- Row `4096 b + s` after layer 1's MLP, from the layer's row at batch row `b`, position `s`. -/
def after (r : Fin 32768) : Fin 1024 → EReal :=
  mlpRow (fun k => x (ix3 ⟨r.1 / 4096, by omega⟩ ⟨r.1 % 4096, Nat.mod_lt _ (by decide)⟩ k)) (fun k => gp (ix2 1 k)) (fun k => gq (ix2 1 k)) (fun k f => wu (ix3 1 k f)) (fun f j => wd (ix3 1 f j))
/-- The rows after layer 1. -/
def rowsOut : FVec Ideal S32768x1024 .f32 := fun y => after x wu wd gp gq (y 0) (y 1)
/-- The shared keys. -/
def keysOut : FVec Ideal S32768x1024 .bf16 := fun y =>
  projRow (after x wu wd gp gq (y 0)) (fun k => gkv (ix1 k)) (fun k (j : Fin 1024) => wkv (ix2 k ⟨j.1, by omega⟩)) (y 1)
/-- The shared values. -/
def valuesOut : FVec Ideal S32768x1024 .bf16 := fun y =>
  projRow (after x wu wd gp gq (y 0)) (fun k => gkv (ix1 k)) (fun k (j : Fin 1024) => wkv (ix2 k ⟨1024 + j.1, by omega⟩)) (y 1)
/-- Layer 2's queries. -/
def queriesOut : FVec Ideal S32768x1024 .bf16 := fun y =>
  projRow (after x wu wd gp gq (y 0)) (fun k => gm (ix2 2 k)) (fun k j => wq (ix3 0 k j)) (y 1) * qScale
end Layer

theorem idx : ∀ t : Fin cfg0.N, win0_0.index t = ![t.val, 0] ∧ win0_1.index t = ![0, 0] ∧ win0_2.index t = ![0, 0]
    ∧ win0_3.index t = ![1, 0, 0] ∧ win0_4.index t = ![1, 0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] :=
  (by decide +kernel : ∀ t : Fin grid0.N, _)

variable (m : (ℓ : Loc nD τ sig) → Buf (Elt Ideal) ℓ) (c : Dev nD)

/-- The arguments, as numbers. -/
abbrev argX : FVec Ideal S8x4096x1024 .f32 := m ((c.tc : Thread nD τ).loc main_arg0)
abbrev argWq : FVec Ideal S2x1024x1024 .f32 := m ((c.tc : Thread nD τ).loc main_arg1)
abbrev argWkv : FVec Ideal S1024x2048 .f32 := m ((c.tc : Thread nD τ).loc main_arg2)
abbrev argGkv : FVec Ideal S1024 .f32 := m ((c.tc : Thread nD τ).loc main_arg3)
abbrev argWu : FVec Ideal S4x1024x4096 .f32 := m ((c.tc : Thread nD τ).loc main_arg4)
abbrev argWd : FVec Ideal S4x4096x1024 .f32 := m ((c.tc : Thread nD τ).loc main_arg5)
abbrev argGm : FVec Ideal S4x1024 .f32 := m ((c.tc : Thread nD τ).loc main_arg6)
abbrev argGp : FVec Ideal S4x1024 .f32 := m ((c.tc : Thread nD τ).loc main_arg7)
abbrev argGq : FVec Ideal S4x1024 .f32 := m ((c.tc : Thread nD τ).loc main_arg8)

/-- What each window's array holds. -/
theorem host_x (r : Fin 32768) (k : Fin 1024) : (V m c main_v10 (ix2 r k) : EReal) = argX m c (ix3 ⟨r.1 / 4096, by omega⟩ ⟨r.1 % 4096, Nat.mod_lt _ (by decide)⟩ k) := by
  entry_read
  pointwise
theorem host_gp (j : Fin 1024) : (V m c main_v13 (ix2 0 j) : EReal) = argGp m c (ix2 1 j) := by
  entry_read
  pointwise
theorem host_gq (j : Fin 1024) : (V m c main_v16 (ix2 0 j) : EReal) = argGq m c (ix2 1 j) := by
  entry_read
  pointwise
theorem host_wu (k : Fin 1024) (f : Fin 4096) : (V m c main_v0 (ix3 1 k f) : EReal) = argWu m c (ix3 1 k f) := by
  entry_read
  pointwise
theorem host_wd (f : Fin 4096) (k : Fin 1024) : (V m c main_v1 (ix3 1 f k) : EReal) = argWd m c (ix3 1 f k) := by
  entry_read
  pointwise
theorem host_gkv (j : Fin 1024) : (V m c main_v2 (ix2 0 j) : EReal) = argGkv m c (ix1 j) := by
  entry_read
  pointwise
theorem host_wkv (k : Fin 1024) (j : Fin 2048) : (V m c main_v3 (ix2 k j) : EReal) = argWkv m c (ix2 k j) := by
  entry_read
  pointwise
theorem host_gm (j : Fin 1024) : (V m c main_v6 (ix2 0 j) : EReal) = argGm m c (ix2 2 j) := by
  entry_read
  pointwise
theorem host_wq (k j : Fin 1024) : (V m c main_v9 (ix2 k j) : EReal) = argWq m c (ix3 0 k j) := by
  entry_read
  pointwise

variable (t : Fin cfg0.N)
/-- What each window's block holds. -/
theorem blk_x (ht : t.1 < 64) (r : Fin 512) (k : Fin 1024) :
    ((iblk m c 0 t : FVec Ideal S512x1024 .f32) (ix2 r k) : EReal) = V m c main_v10 (ix2 (⟨512 * t.1 + r.1, by omega⟩ : Fin 32768) k) := by
  unfold iblk
  blk_ext [idx t]
theorem blk_gp (j : Fin 1024) : ((iblk m c 1 t : FVec Ideal S1x1024 .f32) (ix2 0 j) : EReal) = V m c main_v13 (ix2 0 j) := by
  unfold iblk
  blk_ext [idx t]
theorem blk_gq (j : Fin 1024) : ((iblk m c 2 t : FVec Ideal S1x1024 .f32) (ix2 0 j) : EReal) = V m c main_v16 (ix2 0 j) := by
  unfold iblk
  blk_ext [idx t]
theorem blk_wu (k : Fin 1024) (f : Fin 4096) : ((iblk m c 3 t : FVec Ideal S1x1024x4096 .bf16) (ix3 0 k f) : EReal) = V m c main_v0 (ix3 1 k f) := by
  unfold iblk
  blk_ext [idx t]
theorem blk_wd (f : Fin 4096) (k : Fin 1024) : ((iblk m c 4 t : FVec Ideal S1x4096x1024 .bf16) (ix3 0 f k) : EReal) = V m c main_v1 (ix3 1 f k) := by
  unfold iblk
  blk_ext [idx t]
theorem blk_gkv (j : Fin 1024) : ((iblk m c 5 t : FVec Ideal S1x1024 .f32) (ix2 0 j) : EReal) = V m c main_v2 (ix2 0 j) := by
  unfold iblk
  blk_ext [idx t]
theorem blk_wkv (k : Fin 1024) (j : Fin 2048) : ((iblk m c 6 t : FVec Ideal S1024x2048 .bf16) (ix2 k j) : EReal) = V m c main_v3 (ix2 k j) := by
  unfold iblk
  blk_ext [idx t]
theorem blk_gm (j : Fin 1024) : ((iblk m c 7 t : FVec Ideal S1x1024 .f32) (ix2 0 j) : EReal) = V m c main_v6 (ix2 0 j) := by
  unfold iblk
  blk_ext [idx t]
theorem blk_wq (k j : Fin 1024) : ((iblk m c 8 t : FVec Ideal S1024x1024 .bf16) (ix2 k j) : EReal) = V m c main_v9 (ix2 k j) := by
  unfold iblk
  blk_ext [idx t]

/-- A row of a point's block after the MLP. -/
theorem after_row (ht : t.1 < 64) (r : Fin 512) :
    row (n := 1024) (e := .f32) (outB (iblk m c 0 t) (iblk m c 1 t) (iblk m c 2 t) (iblk m c 3 t) (iblk m c 4 t)) r = after (argX m c) (argWu m c) (argWd m c) (argGp m c) (argGq m c) ⟨512 * t.1 + r.1, by omega⟩ := by
  have e0 : row (n := 1024) (e := .f32) (iblk m c 0 t) r = fun k => argX m c (ix3 ⟨(512 * t.1 + r.1) / 4096, by omega⟩ ⟨(512 * t.1 + r.1) % 4096, Nat.mod_lt _ (by decide)⟩ k) :=
    funext fun k => (blk_x m c t ht r k).trans (host_x m c _ k)
  have e1 : vec (iblk m c 1 t) = fun k => argGp m c (ix2 1 k) := funext fun k => (blk_gp m c t k).trans (host_gp m c k)
  have e2 : vec (iblk m c 2 t) = fun k => argGq m c (ix2 1 k) := funext fun k => (blk_gq m c t k).trans (host_gq m c k)
  have e3 : mat1 (k := 1024) (n := 4096) (iblk m c 3 t) = fun k f => argWu m c (ix3 1 k f) := funext fun k => funext fun f => (blk_wu m c t k f).trans (host_wu m c k f)
  have e4 : mat1 (k := 4096) (n := 1024) (iblk m c 4 t) = fun f j => argWd m c (ix3 1 f j) := funext fun f => funext fun j => (blk_wd m c t f j).trans (host_wd m c f j)
  funext j
  show mlpRow (row (n := 1024) (e := .f32) (iblk m c 0 t) r) (vec (iblk m c 1 t)) (vec (iblk m c 2 t))
    (mat1 (k := 1024) (n := 4096) (iblk m c 3 t)) (mat1 (k := 4096) (n := 1024) (iblk m c 4 t)) j = _
  rw [e0, e1, e2, e3, e4]
  rfl

/-- A row of a point's block of keys. -/
theorem keys_row (ht : t.1 < 64) (r : Fin 512) (j : Fin 1024) : (projB (outB (iblk m c 0 t) (iblk m c 1 t) (iblk m c 2 t) (iblk m c 3 t) (iblk m c 4 t)) (iblk m c 5 t) (matK (iblk m c 6 t)) (ix2 r j) : EReal)
    = keysOut (argX m c) (argWkv m c) (argGkv m c) (argWu m c) (argWd m c) (argGp m c) (argGq m c) (ix2 ⟨512 * t.1 + r.1, by omega⟩ j) := by
  have e5 : vec (iblk m c 5 t) = fun k => argGkv m c (ix1 k) := funext fun k => (blk_gkv m c t k).trans (host_gkv m c k)
  have e6 : matK (iblk m c 6 t) = fun k j => argWkv m c (ix2 k ⟨j.1, by omega⟩) := funext fun k => funext fun j => (blk_wkv m c t k _).trans (host_wkv m c k _)
  show projRow (row (n := 1024) (e := .f32) (outB (iblk m c 0 t) (iblk m c 1 t) (iblk m c 2 t) (iblk m c 3 t) (iblk m c 4 t)) r) (vec (iblk m c 5 t)) (matK (iblk m c 6 t)) j = _
  rw [after_row m c t ht r, e5, e6]
  rfl
/-- A row of a point's block of values. -/
theorem values_row (ht : t.1 < 64) (r : Fin 512) (j : Fin 1024) : (projB (outB (iblk m c 0 t) (iblk m c 1 t) (iblk m c 2 t) (iblk m c 3 t) (iblk m c 4 t)) (iblk m c 5 t) (matV (iblk m c 6 t)) (ix2 r j) : EReal)
    = valuesOut (argX m c) (argWkv m c) (argGkv m c) (argWu m c) (argWd m c) (argGp m c) (argGq m c) (ix2 ⟨512 * t.1 + r.1, by omega⟩ j) := by
  have e5 : vec (iblk m c 5 t) = fun k => argGkv m c (ix1 k) := funext fun k => (blk_gkv m c t k).trans (host_gkv m c k)
  have e6 : matV (iblk m c 6 t) = fun k j => argWkv m c (ix2 k ⟨1024 + j.1, by omega⟩) := funext fun k => funext fun j => (blk_wkv m c t k _).trans (host_wkv m c k _)
  show projRow (row (n := 1024) (e := .f32) (outB (iblk m c 0 t) (iblk m c 1 t) (iblk m c 2 t) (iblk m c 3 t) (iblk m c 4 t)) r) (vec (iblk m c 5 t)) (matV (iblk m c 6 t)) j = _
  rw [after_row m c t ht r, e5, e6]
  rfl
/-- A row of a point's block of queries. -/
theorem queries_row (ht : t.1 < 64) (r : Fin 512) (j : Fin 1024) : (queryB (outB (iblk m c 0 t) (iblk m c 1 t) (iblk m c 2 t) (iblk m c 3 t) (iblk m c 4 t)) (iblk m c 7 t) (matQ (iblk m c 8 t)) (ix2 r j) : EReal)
    = queriesOut (argX m c) (argWq m c) (argWu m c) (argWd m c) (argGm m c) (argGp m c) (argGq m c) (ix2 ⟨512 * t.1 + r.1, by omega⟩ j) := by
  have e7 : vec (iblk m c 7 t) = fun k => argGm m c (ix2 2 k) := funext fun k => (blk_gm m c t k).trans (host_gm m c k)
  have e8 : matQ (iblk m c 8 t) = fun k j => argWq m c (ix3 0 k j) := funext fun k => funext fun j => (blk_wq m c t k j).trans (host_wq m c k j)
  show projRow (row (n := 1024) (e := .f32) (outB (iblk m c 0 t) (iblk m c 1 t) (iblk m c 2 t) (iblk m c 3 t) (iblk m c 4 t)) r) (vec (iblk m c 7 t)) (matQ (iblk m c 8 t)) j * qScale = _
  rw [after_row m c t ht r, e7, e8]
  rfl

/-- **The rows the call leaves.** -/
theorem rows_final : (dats m 0 c).arrAt 9 cfg0.N = rowsOut (argX m c) (argWu m c) (argWd m c) (argGp m c) (argGq m c) := by
  refine (dats m 0 c).arrAt_eq_of_covers 9 _ (by decide +kernel) fun t hf y => ?_
  have ht : t.1 < 64 := t.2
  refine (congrFun (flushed9_eq m c t) y).trans ?_
  obtain ⟨r, j, rfl⟩ : ∃ (r : Fin 512) (j : Fin 1024), y = ix2 r j := ⟨y 0, y 1, eq_ix2 y⟩
  refine Eq.trans (congrFun (after_row m c t ht r) j) ?_
  show rowsOut (argX m c) (argWu m c) (argWd m c) (argGp m c) (argGq m c) (ix2 (⟨512 * t.1 + r.1, by omega⟩ : Fin 32768) j) = _
  blk_ext [idx t]

/-- **The keys the call leaves.** -/
theorem keys_final : (dats m 0 c).arrAt 10 cfg0.N = keysOut (argX m c) (argWkv m c) (argGkv m c) (argWu m c) (argWd m c) (argGp m c) (argGq m c) := by
  refine (dats m 0 c).arrAt_eq_of_covers 10 _ (by decide +kernel) fun t hf y => ?_
  have ht : t.1 < 64 := t.2
  refine (congrFun (flushed10_eq m c t) y).trans ?_
  obtain ⟨r, j, rfl⟩ : ∃ (r : Fin 512) (j : Fin 1024), y = ix2 r j := ⟨y 0, y 1, eq_ix2 y⟩
  refine (keys_row m c t ht r j).trans ?_
  blk_ext [idx t]

/-- **The values the call leaves.** -/
theorem values_final : (dats m 0 c).arrAt 11 cfg0.N = valuesOut (argX m c) (argWkv m c) (argGkv m c) (argWu m c) (argWd m c) (argGp m c) (argGq m c) := by
  refine (dats m 0 c).arrAt_eq_of_covers 11 _ (by decide +kernel) fun t hf y => ?_
  have ht : t.1 < 64 := t.2
  refine (congrFun (flushed11_eq m c t) y).trans ?_
  obtain ⟨r, j, rfl⟩ : ∃ (r : Fin 512) (j : Fin 1024), y = ix2 r j := ⟨y 0, y 1, eq_ix2 y⟩
  refine (values_row m c t ht r j).trans ?_
  blk_ext [idx t]

/-- **The queries the call leaves.** -/
theorem queries_final : (dats m 0 c).arrAt 12 cfg0.N = queriesOut (argX m c) (argWq m c) (argWu m c) (argWd m c) (argGm m c) (argGp m c) (argGq m c) := by
  refine (dats m 0 c).arrAt_eq_of_covers 12 _ (by decide +kernel) fun t hf y => ?_
  have ht : t.1 < 64 := t.2
  refine (congrFun (flushed12_eq m c t) y).trans ?_
  obtain ⟨r, j, rfl⟩ : ∃ (r : Fin 512) (j : Fin 1024), y = ix2 r j := ⟨y 0, y 1, eq_ix2 y⟩
  refine (queries_row m c t ht r j).trans ?_
  blk_ext [idx t]

end
end Cert.Kernel3Ideal.M
end
-- ==== Proof.Layer3Reference.lean ====
module

public import proofs.«01_k».proof.Defs
public import proofs.«01_k».proof.Proof.Layer3
public import proofs.«01_k».proof.Proof.LayerReference
public import proofs.«01_k».proof.Proof.RefValue
public import proofs.«01_k».proof.Proof.Gen.Reference3Ideal
public import proofs.«01_k».proof.Proof.Gen.Reference3Ideal.Run

@[expose] public section

set_option maxRecDepth 16384

/-!
# Layer 1's reference
-/

namespace Cert.Reference3Ideal.M
open Idealize.ShloMosaic Idealize.SL.Sem
open Idealize.ShloMosaic.TcCoe
open Cert.Reference3Ideal.Gen
open Cert.Mlp
open Cert.Reference2Ideal.M (norm norm_apply)
noncomputable section

/-- Row `i` of four gains. -/
def gain1 (g : FVec Ideal S4x1024 .f32) : FVec Ideal S1024 .f32 :=
  shapeCast S1024 (extractStridedSlice S1x1024 ![1, 0] g slices_S4x1024_S1x1024_1_0) shapeCasts_S1x1024_S1024
def gain2 (g : FVec Ideal S4x1024 .f32) : FVec Ideal S1024 .f32 :=
  shapeCast S1024 (extractStridedSlice S1x1024 ![2, 0] g slices_S4x1024_S1x1024_2_0) shapeCasts_S1x1024_S1024
/-- The hidden lanes of rows `h`. -/
def act (h : FVec Ideal S8x4096x1024 .f32) (wu : FVec Ideal S4x1024x4096 .f32) : FVec Ideal S8x4096x4096 .f32 :=
  let u : FVec Ideal S8x4096x4096 .f32 := maximumf (Host.dotGeneral dot_S8x4096x1024_S1024x4096_S8x4096x4096_2_0_01_1_n_n none h
    (shapeCast S1024x4096 (extractStridedSlice S1x1024x4096 ![1, 0, 0] wu slices_S4x1024x4096_S1x1024x4096_1_0_0) shapeCasts_S1x1024x4096_S1024x4096))
    (broadcastInDim S8x4096x4096 ![] bcast_S_S8x4096x4096 (constant S_ .f32 0x00000000#32))
  mulf u u
/-- The hidden lanes times the second matrix. -/
def down (a : FVec Ideal S8x4096x4096 .f32) (wd : FVec Ideal S4x4096x1024 .f32) : FVec Ideal S8x4096x1024 .f32 :=
  Host.dotGeneral dot_S8x4096x4096_S4096x1024_S8x4096x1024_2_0_01_1_n_n none a
    (shapeCast S4096x1024 (extractStridedSlice S1x4096x1024 ![1, 0, 0] wd slices_S4x4096x1024_S1x4096x1024_1_0_0) shapeCasts_S1x4096x1024_S4096x1024)
/-- The rows after the MLP. -/
def mlp (x : FVec Ideal S8x4096x1024 .f32) (wu : FVec Ideal S4x1024x4096 .f32) (wd : FVec Ideal S4x4096x1024 .f32) (gp gq : FVec Ideal S4x1024 .f32) : FVec Ideal S8x4096x1024 .f32 :=
  addf x (norm (down (act (norm x (gain1 gp)) wu) wd) (gain1 gq))
/-- Keys and values of rows `h`. -/
def kv (h : FVec Ideal S8x4096x1024 .f32) (w : FVec Ideal S1024x2048 .f32) : FVec Ideal S8x4096x2048 .f32 :=
  Host.dotGeneral dot_S8x4096x1024_S1024x2048_S8x4096x2048_2_0_01_1_n_n none h w
def keys (h : FVec Ideal S8x4096x1024 .f32) (w : FVec Ideal S1024x2048 .f32) : FVec Ideal S8x4096x1024 .f32 :=
  extractStridedSlice S8x4096x1024 ![0, 0, 0] (kv h w) slices_S8x4096x2048_S8x4096x1024_0_0_0
def values (h : FVec Ideal S8x4096x1024 .f32) (w : FVec Ideal S1024x2048 .f32) : FVec Ideal S8x4096x1024 .f32 :=
  extractStridedSlice S8x4096x1024 ![0, 0, 1024] (kv h w) slices_S8x4096x2048_S8x4096x1024_0_0_1024
/-- Queries of rows `h`, in units of a base-2 logarithm. -/
def queries (h : FVec Ideal S8x4096x1024 .f32) (w : FVec Ideal S2x1024x1024 .f32) : FVec Ideal S8x4096x1024 .f32 :=
  Host.divf (mulf (Host.dotGeneral dot_S8x4096x1024_S1024x1024_S8x4096x1024_2_0_01_1_n_n none h
      (shapeCast S1024x1024 (extractStridedSlice S1x1024x1024 ![0, 0, 0] w slices_S2x1024x1024_S1x1024x1024_0_0_0) shapeCasts_S1x1024x1024_S1024x1024))
      (broadcastInDim S8x4096x1024 ![] bcast_S_S8x4096x1024 (constant S_ .f32 0x3E000000#32)))
    (broadcastInDim S8x4096x1024 ![] bcast_S_S8x4096x1024 (Host.log (constant S_ .f32 0x40000000#32)))
/-- The rows, one under another. -/
def rows (x : FVec Ideal S8x4096x1024 .f32) : FVec Ideal S32768x1024 .f32 := shapeCast S32768x1024 x shapeCasts_S8x4096x1024_S32768x1024
def rowsB (x : FVec Ideal S8x4096x1024 .f32) : FVec Ideal S32768x1024 .bf16 := truncf .bf16 (rows x) bitsLt_bf16_f32

variable (x h : FVec Ideal S8x4096x1024 .f32) (wq : FVec Ideal S2x1024x1024 .f32) (wkv : FVec Ideal S1024x2048 .f32) (gkv : FVec Ideal S1024 .f32)
  (wu : FVec Ideal S4x1024x4096 .f32) (wd : FVec Ideal S4x4096x1024 .f32) (gm gp gq : FVec Ideal S4x1024 .f32)
  (b : Fin 8) (s : Fin 4096)

theorem gain1_apply (g : FVec Ideal S4x1024 .f32) (j : Fin 1024) : (gain1 g (ix1 j) : EReal) = g (ix2 1 j) := by
  pointwise [gain1]
theorem gain2_apply (g : FVec Ideal S4x1024 .f32) (j : Fin 1024) : (gain2 g (ix1 j) : EReal) = g (ix2 2 j) := by
  pointwise [gain2]
theorem act_apply (f : Fin 4096) : (act h wu (ix3 b s f) : EReal) = hidden (fun k => h (ix3 b s k)) (fun k f => wu (ix3 1 k f)) f := by
  pointwise [act]
  rfl
theorem down_apply (a : FVec Ideal S8x4096x4096 .f32) (j : Fin 1024) : (down a wd (ix3 b s j) : EReal) = ∑ f, a (ix3 b s f) * wd (ix3 1 f j) := by
  pointwise [down]
theorem keys_apply (j : Fin 1024) : (keys h wkv (ix3 b s j) : EReal) = ∑ k, h (ix3 b s k) * wkv (ix2 k ⟨j.1, by omega⟩) := by
  pointwise [keys, kv]
theorem values_apply (j : Fin 1024) : (values h wkv (ix3 b s j) : EReal) = ∑ k, h (ix3 b s k) * wkv (ix2 k ⟨1024 + j.1, by omega⟩) := by
  pointwise [values, kv]
theorem eighth : Ideal.ofBits .f32 0x3E000000#32 = ((1 / 8 : ℝ) : EReal) := by
  simp [Ideal.ofBits, Ideal.ieee, -EReal.coe_mul, -EReal.coe_neg]; norm_num
theorem log_two_ne : Real.log 2 ≠ 0 := (Real.log_pos (by norm_num)).ne'
theorem queries_apply (j : Fin 1024) : (queries h wq (ix3 b s j) : EReal) = (∑ k, h (ix3 b s k) * wq (ix3 0 k j)) * qScale := by
  pointwise [queries]
  rw [eighth, Cert.ReferenceIdeal.M.log_two, Ideal.div_coe log_two_ne, mul_assoc, ← EReal.coe_mul, qScale]
  exact congrArg (fun r : ℝ => (_ : EReal) * (r : EReal)) (by rw [one_div (Real.log 2), mul_comm])

theorem mlp_apply (j : Fin 1024) : (mlp x wu wd gp gq (ix3 b s j) : EReal)
    = mlpRow (fun k => x (ix3 b s k)) (fun k => gp (ix2 1 k)) (fun k => gq (ix2 1 k)) (fun k f => wu (ix3 1 k f)) (fun f j => wd (ix3 1 f j)) j := by
  have h : (mlp x wu wd gp gq (ix3 b s j) : EReal) = x (ix3 b s j) + norm (down (act (norm x (gain1 gp)) wu) wd) (gain1 gq) (ix3 b s j) := rfl
  rw [h, norm_apply]
  simp only [down_apply, act_apply, norm_apply, gain1_apply]
  rfl

theorem rows_apply (r : Fin 32768) (j : Fin 1024) : (rows x (ix2 r j) : EReal) = x (ix3 ⟨r.1 / 4096, by omega⟩ ⟨r.1 % 4096, Nat.mod_lt _ (by decide)⟩ j) := by
  pointwise [rows]
theorem rowsB_apply (r : Fin 32768) (j : Fin 1024) : (rowsB x (ix2 r j) : EReal) = x (ix3 ⟨r.1 / 4096, by omega⟩ ⟨r.1 % 4096, Nat.mod_lt _ (by decide)⟩ j) := by
  pointwise [rowsB, rows]

/-- The reference's rows, keys, values and queries are the layer's. -/
theorem rows_eq : rows (mlp x wu wd gp gq) = Cert.Kernel3Ideal.M.rowsOut x wu wd gp gq := by
  funext y
  obtain ⟨r, j, rfl⟩ : ∃ (r : Fin 32768) (j : Fin 1024), y = ix2 r j := ⟨y 0, y 1, eq_ix2 y⟩
  exact (rows_apply _ r j).trans (mlp_apply x wu wd gp gq _ _ j)
theorem keys_eq : rowsB (keys (norm (mlp x wu wd gp gq) gkv) wkv) = Cert.Kernel3Ideal.M.keysOut x wkv gkv wu wd gp gq := by
  funext y
  obtain ⟨r, j, rfl⟩ : ∃ (r : Fin 32768) (j : Fin 1024), y = ix2 r j := ⟨y 0, y 1, eq_ix2 y⟩
  refine (rowsB_apply _ r j).trans ((keys_apply _ wkv _ _ j).trans ?_)
  simp only [norm_apply, mlp_apply]
  rfl
theorem values_eq : rowsB (values (norm (mlp x wu wd gp gq) gkv) wkv) = Cert.Kernel3Ideal.M.valuesOut x wkv gkv wu wd gp gq := by
  funext y
  obtain ⟨r, j, rfl⟩ : ∃ (r : Fin 32768) (j : Fin 1024), y = ix2 r j := ⟨y 0, y 1, eq_ix2 y⟩
  refine (rowsB_apply _ r j).trans ((values_apply _ wkv _ _ j).trans ?_)
  simp only [norm_apply, mlp_apply]
  rfl
theorem queries_eq : rowsB (queries (norm (mlp x wu wd gp gq) (gain2 gm)) wq) = Cert.Kernel3Ideal.M.queriesOut x wq wu wd gm gp gq := by
  funext y
  obtain ⟨r, j, rfl⟩ : ∃ (r : Fin 32768) (j : Fin 1024), y = ix2 r j := ⟨y 0, y 1, eq_ix2 y⟩
  refine (rowsB_apply _ r j).trans ((queries_apply _ wq _ _ j).trans ?_)
  simp only [norm_apply, mlp_apply, gain2_apply]
  rfl

end
end Cert.Reference3Ideal.M

namespace Cert.Kernel3Ideal.M
open Idealize.ShloMosaic Idealize.SL.Sem
open Idealize.ShloMosaic.TcCoe
noncomputable section

/-- **The call's arrays are the reference's.** -/
theorem algebraic : Cert.algebraic_Kernel3Ideal_Reference3Ideal := by
  intro m g m' g' _ hargs
  refine ⟨fun c => rowsOut (argX m c) (argWu m c) (argWd m c) (argGp m c) (argGq m c),
    fun c => keysOut (argX m c) (argWkv m c) (argGkv m c) (argWu m c) (argWd m c) (argGp m c) (argGq m c),
    fun c => valuesOut (argX m c) (argWkv m c) (argGkv m c) (argWu m c) (argWd m c) (argGp m c) (argGq m c),
    fun c => queriesOut (argX m c) (argWq m c) (argWu m c) (argWd m c) (argGm m c) (argGp m c) (argGq m c), ?_, ?_⟩
  · refine (Cert.Kernel3Ideal.Value.run_blocks m g).mono fun r h c => ⟨(h c).1.trans (rows_final m c), (h c).2.1.trans (keys_final m c),
      (h c).2.2.1.trans (values_final m c), (h c).2.2.2.1.trans (queries_final m c), (h c).2.2.2.2⟩
  · refine (Cert.Reference3Ideal.Value.run m' g').mono fun r h c => ⟨(h c).1.trans ?_, (h c).2.1.trans ?_, (h c).2.2.1.trans ?_, (h c).2.2.2.1.trans ?_, (h c).2.2.2.2⟩
    all_goals obtain ⟨h0, h1, h2, h3, h4, h5, h6, h7, h8⟩ := hargs c
    · refine Eq.trans (Eq.trans rfl (Cert.Reference3Ideal.M.rows_eq _ _ _ _ _)) ?_
      rw [h0, h4, h5, h7, h8]
    · refine Eq.trans (Eq.trans rfl (Cert.Reference3Ideal.M.keys_eq _ _ _ _ _ _ _)) ?_
      rw [h0, h2, h3, h4, h5, h7, h8]
    · refine Eq.trans (Eq.trans rfl (Cert.Reference3Ideal.M.values_eq _ _ _ _ _ _ _)) ?_
      rw [h0, h2, h3, h4, h5, h7, h8]
    · refine Eq.trans (Eq.trans rfl (Cert.Reference3Ideal.M.queries_eq _ _ _ _ _ _ _)) ?_
      rw [h0, h1, h4, h5, h6, h7, h8]

end
end Cert.Kernel3Ideal.M
end
-- ==== Proof.lean ====
/- The claims of this certificate, put together. Of the attention, of the last layer's MLP call and of
   layer 1's MLP call with its projections: the frames of the kernel, of its idealization and of the
   reference, what the idealization rewrote, and that the kernel's arrays are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Frame
public import proofs.«01_k».proof.Proof.Kernel.Frame
public import proofs.«01_k».proof.Proof.Reference
public import proofs.«01_k».proof.Proof.Algebraic
public import proofs.«01_k».proof.Proof.LayerReference
public import proofs.«01_k».proof.Proof.Layer3Reference

@[expose] public section

noncomputable section

namespace Cert.Proof

open Idealize.ShloMosaic Idealize.SL.Sem

theorem frame_kernel : Cert.quiescent_Kernel := fun m g _ => Cert.Kernel.M.frame m g

theorem frame_kernelIdeal : Cert.quiescent_KernelIdeal := fun m g _ => Cert.KernelIdeal.M.frame m g

theorem frame_kernel2 : Cert.quiescent_Kernel2 := fun m g _ => Cert.Kernel2.Gen.frame m g

theorem frame_kernel2Ideal : Cert.quiescent_Kernel2Ideal := fun m g _ => Cert.Kernel2Ideal.Gen.frame m g

/-- The last layer's reference ends, with its arguments as they were. -/
theorem frame_reference2Ideal : Cert.quiescent_Reference2Ideal := by
  intro m g _
  hlo_run
  · exact fun _ => ⟨trivial, trivial, trivial, trivial, trivial, trivial, trivial, trivial⟩
  · exact Idealize.ShloMosaic.sem_eq_zero_of_no_sems (by decide) _

theorem frame_kernel3 : Cert.quiescent_Kernel3 := fun m g _ => Cert.Kernel3.Gen.frame m g

theorem frame_kernel3Ideal : Cert.quiescent_Kernel3Ideal := fun m g _ => Cert.Kernel3Ideal.Gen.frame m g

/-- Layer 1's reference ends, with its arguments as they were. -/
theorem frame_reference3Ideal : Cert.quiescent_Reference3Ideal := by
  intro m g _
  hlo_run
  · exact fun _ => ⟨trivial, trivial, trivial, trivial, trivial, trivial, trivial, trivial, trivial⟩
  · exact Idealize.ShloMosaic.sem_eq_zero_of_no_sems (by decide) _

/-- Each named literal is the constant its name stands for. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 _ rfl,
    IdealRules.named_const.statement Cert.KernelIdeal.κ "dead" .f32 0xC3160000#32 ⊥ rfl⟩

/-- No literal of the last layer's call is named. -/
theorem preserves2 : Cert.preserves_Kernel2_Kernel2Ideal := trivial

/-- The queries' scale is the constant its name stands for. -/
theorem preserves3 : Cert.preserves_Kernel3_Kernel3Ideal :=
  IdealRules.named_const.statement Cert.Kernel3Ideal.κ "q_scale" .f32 0x3E38AA3B#32 _ rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    frame_kernel, frame_kernelIdeal, Cert.ReferenceIdeal.M.frame_referenceIdeal,
    frame_kernel2, frame_kernel2Ideal, frame_reference2Ideal,
    frame_kernel3, frame_kernel3Ideal, frame_reference3Ideal,
    preserves, Cert.KernelIdeal.M.algebraic, preserves2, Cert.Kernel2Ideal.M.algebraic,
    preserves3, Cert.Kernel3Ideal.M.algebraic⟩

end Cert.Proof

end
